-- ==== Defs.lean ====
def Pre_LnGate (m : (ℓ : Loc Cert.LnGate.nD Cert.LnGate.τ Cert.LnGate.sig) → Buf (Elt Bits) ℓ) : Prop :=
  True

def Pre_LnGateIdeal (m : (ℓ : Loc Cert.LnGateIdeal.nD Cert.LnGateIdeal.τ Cert.LnGateIdeal.sig) → Buf (Elt Ideal) ℓ) : Prop :=
  True

def Pre_LnGateIdeal_ln_gate_finite [hPre_ln_gate_finite : Cert.Pre_ln_gate_finite.Facts] (m : (ℓ : Loc Cert.LnGateIdeal.nD Cert.LnGateIdeal.τ Cert.LnGateIdeal.sig) → Buf (Elt Ideal) ℓ) : Prop :=
  ∀ c : Dev Cert.LnGateIdeal.nD,
    (Cert.Pre_ln_gate_finite.fn (F := Ideal) (m ((c.tc : Thread Cert.LnGateIdeal.nD Cert.LnGateIdeal.τ).loc Cert.LnGateIdeal.main_arg0)) (m ((c.tc : Thread Cert.LnGateIdeal.nD Cert.LnGateIdeal.τ).loc Cert.LnGateIdeal.main_arg1)) (m ((c.tc : Thread Cert.LnGateIdeal.nD Cert.LnGateIdeal.τ).loc Cert.LnGateIdeal.main_arg2)) (m ((c.tc : Thread Cert.LnGateIdeal.nD Cert.LnGateIdeal.τ).loc Cert.LnGateIdeal.main_arg3)) (m ((c.tc : Thread Cert.LnGateIdeal.nD Cert.LnGateIdeal.τ).loc Cert.LnGateIdeal.main_arg4))) = (fun _ => 1#1)

def Pre_LnGateRefIdeal (m : (ℓ : Loc Cert.LnGateRefIdeal.nD Cert.LnGateRefIdeal.τ Cert.LnGateRefIdeal.sig) → Buf (Elt Ideal) ℓ) : Prop :=
  True

def Pre_LnGateRefIdeal_ln_gate_finite [hPre_ln_gate_finite : Cert.Pre_ln_gate_finite.Facts] (m : (ℓ : Loc Cert.LnGateRefIdeal.nD Cert.LnGateRefIdeal.τ Cert.LnGateRefIdeal.sig) → Buf (Elt Ideal) ℓ) : Prop :=
  ∀ c : Dev Cert.LnGateRefIdeal.nD,
    (Cert.Pre_ln_gate_finite.fn (F := Ideal) (m ((c.tc : Thread Cert.LnGateRefIdeal.nD Cert.LnGateRefIdeal.τ).loc Cert.LnGateRefIdeal.main_arg0)) (m ((c.tc : Thread Cert.LnGateRefIdeal.nD Cert.LnGateRefIdeal.τ).loc Cert.LnGateRefIdeal.main_arg1)) (m ((c.tc : Thread Cert.LnGateRefIdeal.nD Cert.LnGateRefIdeal.τ).loc Cert.LnGateRefIdeal.main_arg2)) (m ((c.tc : Thread Cert.LnGateRefIdeal.nD Cert.LnGateRefIdeal.τ).loc Cert.LnGateRefIdeal.main_arg3)) (m ((c.tc : Thread Cert.LnGateRefIdeal.nD Cert.LnGateRefIdeal.τ).loc Cert.LnGateRefIdeal.main_arg4))) = (fun _ => 1#1)

def Pre_DInA (m : (ℓ : Loc Cert.DInA.nD Cert.DInA.τ Cert.DInA.sig) → Buf (Elt Bits) ℓ) : Prop :=
  True

def Pre_DInAIdeal (m : (ℓ : Loc Cert.DInAIdeal.nD Cert.DInAIdeal.τ Cert.DInAIdeal.sig) → Buf (Elt Ideal) ℓ) : Prop :=
  True

def Pre_DInARefIdeal (m : (ℓ : Loc Cert.DInARefIdeal.nD Cert.DInARefIdeal.τ Cert.DInARefIdeal.sig) → Buf (Elt Ideal) ℓ) : Prop :=
  True

def Pre_DInB (m : (ℓ : Loc Cert.DInB.nD Cert.DInB.τ Cert.DInB.sig) → Buf (Elt Bits) ℓ) : Prop :=
  True

def Pre_DInBIdeal (m : (ℓ : Loc Cert.DInBIdeal.nD Cert.DInBIdeal.τ Cert.DInBIdeal.sig) → Buf (Elt Ideal) ℓ) : Prop :=
  True

def Pre_DInBRefIdeal (m : (ℓ : Loc Cert.DInBRefIdeal.nD Cert.DInBRefIdeal.τ Cert.DInBRefIdeal.sig) → Buf (Elt Ideal) ℓ) : Prop :=
  True

def Pre_DKv (m : (ℓ : Loc Cert.DKv.nD Cert.DKv.τ Cert.DKv.sig) → Buf (Elt Bits) ℓ) : Prop :=
  True

def Pre_DKvIdeal (m : (ℓ : Loc Cert.DKvIdeal.nD Cert.DKvIdeal.τ Cert.DKvIdeal.sig) → Buf (Elt Ideal) ℓ) : Prop :=
  True

def Pre_DKvRefIdeal (m : (ℓ : Loc Cert.DKvRefIdeal.nD Cert.DKvRefIdeal.τ Cert.DKvRefIdeal.sig) → Buf (Elt Ideal) ℓ) : Prop :=
  True

def Pre_DProj (m : (ℓ : Loc Cert.DProj.nD Cert.DProj.τ Cert.DProj.sig) → Buf (Elt Bits) ℓ) : Prop :=
  True

def Pre_DProjIdeal (m : (ℓ : Loc Cert.DProjIdeal.nD Cert.DProjIdeal.τ Cert.DProjIdeal.sig) → Buf (Elt Ideal) ℓ) : Prop :=
  True

def Pre_DProjRefIdeal (m : (ℓ : Loc Cert.DProjRefIdeal.nD Cert.DProjRefIdeal.τ Cert.DProjRefIdeal.sig) → Buf (Elt Ideal) ℓ) : Prop :=
  True

def Pre_DOutA (m : (ℓ : Loc Cert.DOutA.nD Cert.DOutA.τ Cert.DOutA.sig) → Buf (Elt Bits) ℓ) : Prop :=
  True

def Pre_DOutAIdeal (m : (ℓ : Loc Cert.DOutAIdeal.nD Cert.DOutAIdeal.τ Cert.DOutAIdeal.sig) → Buf (Elt Ideal) ℓ) : Prop :=
  True

def Pre_DOutARefIdeal (m : (ℓ : Loc Cert.DOutARefIdeal.nD Cert.DOutARefIdeal.τ Cert.DOutARefIdeal.sig) → Buf (Elt Ideal) ℓ) : Prop :=
  True

def Pre_DSquare (m : (ℓ : Loc Cert.DSquare.nD Cert.DSquare.τ Cert.DSquare.sig) → Buf (Elt Bits) ℓ) : Prop :=
  True

def Pre_DSquareIdeal (m : (ℓ : Loc Cert.DSquareIdeal.nD Cert.DSquareIdeal.τ Cert.DSquareIdeal.sig) → Buf (Elt Ideal) ℓ) : Prop :=
  True

def Pre_DSquareRefIdeal (m : (ℓ : Loc Cert.DSquareRefIdeal.nD Cert.DSquareRefIdeal.τ Cert.DSquareRefIdeal.sig) → Buf (Elt Ideal) ℓ) : Prop :=
  True

def Pre_DU (m : (ℓ : Loc Cert.DU.nD Cert.DU.τ Cert.DU.sig) → Buf (Elt Bits) ℓ) : Prop :=
  True

def Pre_DUIdeal (m : (ℓ : Loc Cert.DUIdeal.nD Cert.DUIdeal.τ Cert.DUIdeal.sig) → Buf (Elt Ideal) ℓ) : Prop :=
  True

def Pre_DURefIdeal (m : (ℓ : Loc Cert.DURefIdeal.nD Cert.DURefIdeal.τ Cert.DURefIdeal.sig) → Buf (Elt Ideal) ℓ) : Prop :=
  True

def Pre_DKvn (m : (ℓ : Loc Cert.DKvn.nD Cert.DKvn.τ Cert.DKvn.sig) → Buf (Elt Bits) ℓ) : Prop :=
  True

def Pre_DKvnIdeal (m : (ℓ : Loc Cert.DKvnIdeal.nD Cert.DKvnIdeal.τ Cert.DKvnIdeal.sig) → Buf (Elt Ideal) ℓ) : Prop :=
  True

def Pre_DKvnRefIdeal (m : (ℓ : Loc Cert.DKvnRefIdeal.nD Cert.DKvnRefIdeal.τ Cert.DKvnRefIdeal.sig) → Buf (Elt Ideal) ℓ) : Prop :=
  True

def Pre_DM (m : (ℓ : Loc Cert.DM.nD Cert.DM.τ Cert.DM.sig) → Buf (Elt Bits) ℓ) : Prop :=
  True

def Pre_DMIdeal (m : (ℓ : Loc Cert.DMIdeal.nD Cert.DMIdeal.τ Cert.DMIdeal.sig) → Buf (Elt Ideal) ℓ) : Prop :=
  True

def Pre_DMRefIdeal (m : (ℓ : Loc Cert.DMRefIdeal.nD Cert.DMRefIdeal.τ Cert.DMRefIdeal.sig) → Buf (Elt Ideal) ℓ) : Prop :=
  True

def Pre_DRows (m : (ℓ : Loc Cert.DRows.nD Cert.DRows.τ Cert.DRows.sig) → Buf (Elt Bits) ℓ) : Prop :=
  True

def Pre_DRowsIdeal (m : (ℓ : Loc Cert.DRowsIdeal.nD Cert.DRowsIdeal.τ Cert.DRowsIdeal.sig) → Buf (Elt Ideal) ℓ) : Prop :=
  True

def Pre_DRowsRefIdeal (m : (ℓ : Loc Cert.DRowsRefIdeal.nD Cert.DRowsRefIdeal.τ Cert.DRowsRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_AdamInA (m : (ℓ : Loc Cert.AdamInA.nD Cert.AdamInA.τ Cert.AdamInA.sig) → Buf (Elt Bits) ℓ) : Prop :=
  True

def Pre_AdamInAIdeal (m : (ℓ : Loc Cert.AdamInAIdeal.nD Cert.AdamInAIdeal.τ Cert.AdamInAIdeal.sig) → Buf (Elt Ideal) ℓ) : Prop :=
  True

def Pre_AdamInARefIdeal (m : (ℓ : Loc Cert.AdamInARefIdeal.nD Cert.AdamInARefIdeal.τ Cert.AdamInARefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamInB (m : (ℓ : Loc Cert.AdamInB.nD Cert.AdamInB.τ Cert.AdamInB.sig) → Buf (Elt Bits) ℓ) : Prop :=
  True

def Pre_AdamInBIdeal (m : (ℓ : Loc Cert.AdamInBIdeal.nD Cert.AdamInBIdeal.τ Cert.AdamInBIdeal.sig) → Buf (Elt Ideal) ℓ) : Prop :=
  True

def Pre_AdamInBRefIdeal (m : (ℓ : Loc Cert.AdamInBRefIdeal.nD Cert.AdamInBRefIdeal.τ Cert.AdamInBRefIdeal.sig) → Buf (Elt Ideal) ℓ) : Prop :=
  True

def Pre_AdamOutB (m : (ℓ : Loc Cert.AdamOutB.nD Cert.AdamOutB.τ Cert.AdamOutB.sig) → Buf (Elt Bits) ℓ) : Prop :=
  True

def Pre_AdamOutBIdeal (m : (ℓ : Loc Cert.AdamOutBIdeal.nD Cert.AdamOutBIdeal.τ Cert.AdamOutBIdeal.sig) → Buf (Elt Ideal) ℓ) : Prop :=
  True

def Pre_AdamOutBRefIdeal (m : (ℓ : Loc Cert.AdamOutBRefIdeal.nD Cert.AdamOutBRefIdeal.τ Cert.AdamOutBRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norm0Bwd (m : (ℓ : Loc Cert.Norm0Bwd.nD Cert.Norm0Bwd.τ Cert.Norm0Bwd.sig) → Buf (Elt Bits) ℓ) : Prop :=
  True

def Pre_Norm0BwdIdeal (m : (ℓ : Loc Cert.Norm0BwdIdeal.nD Cert.Norm0BwdIdeal.τ Cert.Norm0BwdIdeal.sig) → Buf (Elt Ideal) ℓ) : Prop :=
  True

def Pre_Norm0BwdRefIdeal (m : (ℓ : Loc Cert.Norm0BwdRefIdeal.nD Cert.Norm0BwdRefIdeal.τ Cert.Norm0BwdRefIdeal.sig) → Buf (Elt Ideal) ℓ) : Prop :=
  True

def Pre_PleNormBwd (m : (ℓ : Loc Cert.PleNormBwd.nD Cert.PleNormBwd.τ Cert.PleNormBwd.sig) → Buf (Elt Bits) ℓ) : Prop :=
  True

def Pre_PleNormBwdIdeal (m : (ℓ : Loc Cert.PleNormBwdIdeal.nD Cert.PleNormBwdIdeal.τ Cert.PleNormBwdIdeal.sig) → Buf (Elt Ideal) ℓ) : Prop :=
  True

def Pre_PleNormBwdRefIdeal (m : (ℓ : Loc Cert.PleNormBwdRefIdeal.nD Cert.PleNormBwdRefIdeal.τ Cert.PleNormBwdRefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_Norm0 (m : (ℓ : Loc Cert.Norm0.nD Cert.Norm0.τ Cert.Norm0.sig) → Buf (Elt Bits) ℓ) : Prop :=
  True

def Pre_Norm0Ideal (m : (ℓ : Loc Cert.Norm0Ideal.nD Cert.Norm0Ideal.τ Cert.Norm0Ideal.sig) → Buf (Elt Ideal) ℓ) : Prop :=
  True

def Pre_Norm0RefIdeal (m : (ℓ : Loc Cert.Norm0RefIdeal.nD Cert.Norm0RefIdeal.τ Cert.Norm0RefIdeal.sig) → Buf (Elt Ideal) ℓ) : Prop :=
  True

def Pre_PleNorm (m : (ℓ : Loc Cert.PleNorm.nD Cert.PleNorm.τ Cert.PleNorm.sig) → Buf (Elt Bits) ℓ) : Prop :=
  True

def Pre_PleNormIdeal (m : (ℓ : Loc Cert.PleNormIdeal.nD Cert.PleNormIdeal.τ Cert.PleNormIdeal.sig) → Buf (Elt Ideal) ℓ) : Prop :=
  True

def Pre_PleNormRefIdeal (m : (ℓ : Loc Cert.PleNormRefIdeal.nD Cert.PleNormRefIdeal.τ Cert.PleNormRefIdeal.sig) → Buf (Elt Ideal) ℓ) : Prop :=
  True

def Pre_DUFirst (m : (ℓ : Loc Cert.DUFirst.nD Cert.DUFirst.τ Cert.DUFirst.sig) → Buf (Elt Bits) ℓ) : Prop :=
  True

def Pre_DUFirstIdeal (m : (ℓ : Loc Cert.DUFirstIdeal.nD Cert.DUFirstIdeal.τ Cert.DUFirstIdeal.sig) → Buf (Elt Ideal) ℓ) : Prop :=
  True

def Pre_DUFirstRefIdeal (m : (ℓ : Loc Cert.DUFirstRefIdeal.nD Cert.DUFirstRefIdeal.τ Cert.DUFirstRefIdeal.sig) → Buf (Elt Ideal) ℓ) : Prop :=
  True

def quiescent_LnGate [hLnGate : Cert.LnGate.Facts] : Prop :=
  ∀ (m : (ℓ : Loc Cert.LnGate.nD Cert.LnGate.τ Cert.LnGate.sig) → Buf (Elt Bits) ℓ) (g : Dev Cert.LnGate.nD → PrngReg), Pre_LnGate m →
    θ_run (Cert.LnGate.defs (F := Bits)) (onTc (τ := Cert.LnGate.τ) (Cert.LnGate.main (F := Bits))) ⟨m, fun _ => 0, g⟩ (fun r => (∀ c : Dev Cert.LnGate.nD,
      r.2.mem ((c.tc : Thread Cert.LnGate.nD Cert.LnGate.τ).loc Cert.LnGate.main_arg0) = m ((c.tc : Thread Cert.LnGate.nD Cert.LnGate.τ).loc Cert.LnGate.main_arg0)
      ∧ r.2.mem ((c.tc : Thread Cert.LnGate.nD Cert.LnGate.τ).loc Cert.LnGate.main_arg1) = m ((c.tc : Thread Cert.LnGate.nD Cert.LnGate.τ).loc Cert.LnGate.main_arg1)
      ∧ r.2.mem ((c.tc : Thread Cert.LnGate.nD Cert.LnGate.τ).loc Cert.LnGate.main_arg2) = m ((c.tc : Thread Cert.LnGate.nD Cert.LnGate.τ).loc Cert.LnGate.main_arg2)
      ∧ r.2.mem ((c.tc : Thread Cert.LnGate.nD Cert.LnGate.τ).loc Cert.LnGate.main_arg3) = m ((c.tc : Thread Cert.LnGate.nD Cert.LnGate.τ).loc Cert.LnGate.main_arg3)
      ∧ r.2.mem ((c.tc : Thread Cert.LnGate.nD Cert.LnGate.τ).loc Cert.LnGate.main_arg4) = m ((c.tc : Thread Cert.LnGate.nD Cert.LnGate.τ).loc Cert.LnGate.main_arg4))
      ∧ r.2.sem = fun _ => 0)

def quiescent_LnGateIdeal [hLnGateIdeal : Cert.LnGateIdeal.Facts] : Prop :=
  ∀ (m : (ℓ : Loc Cert.LnGateIdeal.nD Cert.LnGateIdeal.τ Cert.LnGateIdeal.sig) → Buf (Elt Ideal) ℓ) (g : Dev Cert.LnGateIdeal.nD → PrngReg), Pre_LnGateIdeal m →
    θ_run (Cert.LnGateIdeal.defs (F := Ideal)) (onTc (τ := Cert.LnGateIdeal.τ) (Cert.LnGateIdeal.main (F := Ideal))) ⟨m, fun _ => 0, g⟩ (fun r => (∀ c : Dev Cert.LnGateIdeal.nD,
      r.2.mem ((c.tc : Thread Cert.LnGateIdeal.nD Cert.LnGateIdeal.τ).loc Cert.LnGateIdeal.main_arg0) = m ((c.tc : Thread Cert.LnGateIdeal.nD Cert.LnGateIdeal.τ).loc Cert.LnGateIdeal.main_arg0)
      ∧ r.2.mem ((c.tc : Thread Cert.LnGateIdeal.nD Cert.LnGateIdeal.τ).loc Cert.LnGateIdeal.main_arg1) = m ((c.tc : Thread Cert.LnGateIdeal.nD Cert.LnGateIdeal.τ).loc Cert.LnGateIdeal.main_arg1)
      ∧ r.2.mem ((c.tc : Thread Cert.LnGateIdeal.nD Cert.LnGateIdeal.τ).loc Cert.LnGateIdeal.main_arg2) = m ((c.tc : Thread Cert.LnGateIdeal.nD Cert.LnGateIdeal.τ).loc Cert.LnGateIdeal.main_arg2)
      ∧ r.2.mem ((c.tc : Thread Cert.LnGateIdeal.nD Cert.LnGateIdeal.τ).loc Cert.LnGateIdeal.main_arg3) = m ((c.tc : Thread Cert.LnGateIdeal.nD Cert.LnGateIdeal.τ).loc Cert.LnGateIdeal.main_arg3)
      ∧ r.2.mem ((c.tc : Thread Cert.LnGateIdeal.nD Cert.LnGateIdeal.τ).loc Cert.LnGateIdeal.main_arg4) = m ((c.tc : Thread Cert.LnGateIdeal.nD Cert.LnGateIdeal.τ).loc Cert.LnGateIdeal.main_arg4))
      ∧ r.2.sem = fun _ => 0)

def quiescent_LnGateIdeal_pre_ln_gate_finite [hLnGateIdeal : Cert.LnGateIdeal.Facts] [hPre_ln_gate_finite : Cert.Pre_ln_gate_finite.Facts] : Prop :=
  ∀ (m : (ℓ : Loc Cert.LnGateIdeal.nD Cert.LnGateIdeal.τ Cert.LnGateIdeal.sig) → Buf (Elt Ideal) ℓ) (g : Dev Cert.LnGateIdeal.nD → PrngReg), Pre_LnGateIdeal_ln_gate_finite m →
    θ_run (Cert.LnGateIdeal.defs (F := Ideal)) (onTc (τ := Cert.LnGateIdeal.τ) (Cert.LnGateIdeal.main (F := Ideal))) ⟨m, fun _ => 0, g⟩ (fun r => (∀ c : Dev Cert.LnGateIdeal.nD,
      r.2.mem ((c.tc : Thread Cert.LnGateIdeal.nD Cert.LnGateIdeal.τ).loc Cert.LnGateIdeal.main_arg0) = m ((c.tc : Thread Cert.LnGateIdeal.nD Cert.LnGateIdeal.τ).loc Cert.LnGateIdeal.main_arg0)
      ∧ r.2.mem ((c.tc : Thread Cert.LnGateIdeal.nD Cert.LnGateIdeal.τ).loc Cert.LnGateIdeal.main_arg1) = m ((c.tc : Thread Cert.LnGateIdeal.nD Cert.LnGateIdeal.τ).loc Cert.LnGateIdeal.main_arg1)
      ∧ r.2.mem ((c.tc : Thread Cert.LnGateIdeal.nD Cert.LnGateIdeal.τ).loc Cert.LnGateIdeal.main_arg2) = m ((c.tc : Thread Cert.LnGateIdeal.nD Cert.LnGateIdeal.τ).loc Cert.LnGateIdeal.main_arg2)
      ∧ r.2.mem ((c.tc : Thread Cert.LnGateIdeal.nD Cert.LnGateIdeal.τ).loc Cert.LnGateIdeal.main_arg3) = m ((c.tc : Thread Cert.LnGateIdeal.nD Cert.LnGateIdeal.τ).loc Cert.LnGateIdeal.main_arg3)
      ∧ r.2.mem ((c.tc : Thread Cert.LnGateIdeal.nD Cert.LnGateIdeal.τ).loc Cert.LnGateIdeal.main_arg4) = m ((c.tc : Thread Cert.LnGateIdeal.nD Cert.LnGateIdeal.τ).loc Cert.LnGateIdeal.main_arg4))
      ∧ r.2.sem = fun _ => 0)

def quiescent_LnGateRefIdeal [hLnGateRefIdeal : Cert.LnGateRefIdeal.Facts] : Prop :=
  ∀ (m : (ℓ : Loc Cert.LnGateRefIdeal.nD Cert.LnGateRefIdeal.τ Cert.LnGateRefIdeal.sig) → Buf (Elt Ideal) ℓ) (g : Dev Cert.LnGateRefIdeal.nD → PrngReg), Pre_LnGateRefIdeal m →
    θ_run (Cert.LnGateRefIdeal.defs (F := Ideal)) (onTc (τ := Cert.LnGateRefIdeal.τ) (Cert.LnGateRefIdeal.main (F := Ideal))) ⟨m, fun _ => 0, g⟩ (fun r => (∀ c : Dev Cert.LnGateRefIdeal.nD,
      r.2.mem ((c.tc : Thread Cert.LnGateRefIdeal.nD Cert.LnGateRefIdeal.τ).loc Cert.LnGateRefIdeal.main_arg0) = m ((c.tc : Thread Cert.LnGateRefIdeal.nD Cert.LnGateRefIdeal.τ).loc Cert.LnGateRefIdeal.main_arg0)
      ∧ r.2.mem ((c.tc : Thread Cert.LnGateRefIdeal.nD Cert.LnGateRefIdeal.τ).loc Cert.LnGateRefIdeal.main_arg1) = m ((c.tc : Thread Cert.LnGateRefIdeal.nD Cert.LnGateRefIdeal.τ).loc Cert.LnGateRefIdeal.main_arg1)
      ∧ r.2.mem ((c.tc : Thread Cert.LnGateRefIdeal.nD Cert.LnGateRefIdeal.τ).loc Cert.LnGateRefIdeal.main_arg2) = m ((c.tc : Thread Cert.LnGateRefIdeal.nD Cert.LnGateRefIdeal.τ).loc Cert.LnGateRefIdeal.main_arg2)
      ∧ r.2.mem ((c.tc : Thread Cert.LnGateRefIdeal.nD Cert.LnGateRefIdeal.τ).loc Cert.LnGateRefIdeal.main_arg3) = m ((c.tc : Thread Cert.LnGateRefIdeal.nD Cert.LnGateRefIdeal.τ).loc Cert.LnGateRefIdeal.main_arg3)
      ∧ r.2.mem ((c.tc : Thread Cert.LnGateRefIdeal.nD Cert.LnGateRefIdeal.τ).loc Cert.LnGateRefIdeal.main_arg4) = m ((c.tc : Thread Cert.LnGateRefIdeal.nD Cert.LnGateRefIdeal.τ).loc Cert.LnGateRefIdeal.main_arg4))
      ∧ r.2.sem = fun _ => 0)

def quiescent_LnGateRefIdeal_pre_ln_gate_finite [hLnGateRefIdeal : Cert.LnGateRefIdeal.Facts] [hPre_ln_gate_finite : Cert.Pre_ln_gate_finite.Facts] : Prop :=
  ∀ (m : (ℓ : Loc Cert.LnGateRefIdeal.nD Cert.LnGateRefIdeal.τ Cert.LnGateRefIdeal.sig) → Buf (Elt Ideal) ℓ) (g : Dev Cert.LnGateRefIdeal.nD → PrngReg), Pre_LnGateRefIdeal_ln_gate_finite m →
    θ_run (Cert.LnGateRefIdeal.defs (F := Ideal)) (onTc (τ := Cert.LnGateRefIdeal.τ) (Cert.LnGateRefIdeal.main (F := Ideal))) ⟨m, fun _ => 0, g⟩ (fun r => (∀ c : Dev Cert.LnGateRefIdeal.nD,
      r.2.mem ((c.tc : Thread Cert.LnGateRefIdeal.nD Cert.LnGateRefIdeal.τ).loc Cert.LnGateRefIdeal.main_arg0) = m ((c.tc : Thread Cert.LnGateRefIdeal.nD Cert.LnGateRefIdeal.τ).loc Cert.LnGateRefIdeal.main_arg0)
      ∧ r.2.mem ((c.tc : Thread Cert.LnGateRefIdeal.nD Cert.LnGateRefIdeal.τ).loc Cert.LnGateRefIdeal.main_arg1) = m ((c.tc : Thread Cert.LnGateRefIdeal.nD Cert.LnGateRefIdeal.τ).loc Cert.LnGateRefIdeal.main_arg1)
      ∧ r.2.mem ((c.tc : Thread Cert.LnGateRefIdeal.nD Cert.LnGateRefIdeal.τ).loc Cert.LnGateRefIdeal.main_arg2) = m ((c.tc : Thread Cert.LnGateRefIdeal.nD Cert.LnGateRefIdeal.τ).loc Cert.LnGateRefIdeal.main_arg2)
      ∧ r.2.mem ((c.tc : Thread Cert.LnGateRefIdeal.nD Cert.LnGateRefIdeal.τ).loc Cert.LnGateRefIdeal.main_arg3) = m ((c.tc : Thread Cert.LnGateRefIdeal.nD Cert.LnGateRefIdeal.τ).loc Cert.LnGateRefIdeal.main_arg3)
      ∧ r.2.mem ((c.tc : Thread Cert.LnGateRefIdeal.nD Cert.LnGateRefIdeal.τ).loc Cert.LnGateRefIdeal.main_arg4) = m ((c.tc : Thread Cert.LnGateRefIdeal.nD Cert.LnGateRefIdeal.τ).loc Cert.LnGateRefIdeal.main_arg4))
      ∧ r.2.sem = fun _ => 0)

def quiescent_DInA [hDInA : Cert.DInA.Facts] : Prop :=
  ∀ (m : (ℓ : Loc Cert.DInA.nD Cert.DInA.τ Cert.DInA.sig) → Buf (Elt Bits) ℓ) (g : Dev Cert.DInA.nD → PrngReg), Pre_DInA m →
    θ_run (Cert.DInA.defs (F := Bits)) (onTc (τ := Cert.DInA.τ) (Cert.DInA.main (F := Bits))) ⟨m, fun _ => 0, g⟩ (fun r => (∀ c : Dev Cert.DInA.nD,
      r.2.mem ((c.tc : Thread Cert.DInA.nD Cert.DInA.τ).loc Cert.DInA.main_arg0) = m ((c.tc : Thread Cert.DInA.nD Cert.DInA.τ).loc Cert.DInA.main_arg0)
      ∧ r.2.mem ((c.tc : Thread Cert.DInA.nD Cert.DInA.τ).loc Cert.DInA.main_arg1) = m ((c.tc : Thread Cert.DInA.nD Cert.DInA.τ).loc Cert.DInA.main_arg1))
      ∧ r.2.sem = fun _ => 0)

def quiescent_DInAIdeal [hDInAIdeal : Cert.DInAIdeal.Facts] : Prop :=
  ∀ (m : (ℓ : Loc Cert.DInAIdeal.nD Cert.DInAIdeal.τ Cert.DInAIdeal.sig) → Buf (Elt Ideal) ℓ) (g : Dev Cert.DInAIdeal.nD → PrngReg), Pre_DInAIdeal m →
    θ_run (Cert.DInAIdeal.defs (F := Ideal)) (onTc (τ := Cert.DInAIdeal.τ) (Cert.DInAIdeal.main (F := Ideal))) ⟨m, fun _ => 0, g⟩ (fun r => (∀ c : Dev Cert.DInAIdeal.nD,
      r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
      ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1))
      ∧ r.2.sem = fun _ => 0)

def quiescent_DInARefIdeal [hDInARefIdeal : Cert.DInARefIdeal.Facts] : Prop :=
  ∀ (m : (ℓ : Loc Cert.DInARefIdeal.nD Cert.DInARefIdeal.τ Cert.DInARefIdeal.sig) → Buf (Elt Ideal) ℓ) (g : Dev Cert.DInARefIdeal.nD → PrngReg), Pre_DInARefIdeal m →
    θ_run (Cert.DInARefIdeal.defs (F := Ideal)) (onTc (τ := Cert.DInARefIdeal.τ) (Cert.DInARefIdeal.main (F := Ideal))) ⟨m, fun _ => 0, g⟩ (fun r => (∀ c : Dev Cert.DInARefIdeal.nD,
      r.2.mem ((c.tc : Thread Cert.DInARefIdeal.nD Cert.DInARefIdeal.τ).loc Cert.DInARefIdeal.main_arg0) = m ((c.tc : Thread Cert.DInARefIdeal.nD Cert.DInARefIdeal.τ).loc Cert.DInARefIdeal.main_arg0)
      ∧ r.2.mem ((c.tc : Thread Cert.DInARefIdeal.nD Cert.DInARefIdeal.τ).loc Cert.DInARefIdeal.main_arg1) = m ((c.tc : Thread Cert.DInARefIdeal.nD Cert.DInARefIdeal.τ).loc Cert.DInARefIdeal.main_arg1))
      ∧ r.2.sem = fun _ => 0)

def quiescent_DInB [hDInB : Cert.DInB.Facts] : Prop :=
  ∀ (m : (ℓ : Loc Cert.DInB.nD Cert.DInB.τ Cert.DInB.sig) → Buf (Elt Bits) ℓ) (g : Dev Cert.DInB.nD → PrngReg), Pre_DInB m →
    θ_run (Cert.DInB.defs (F := Bits)) (onTc (τ := Cert.DInB.τ) (Cert.DInB.main (F := Bits))) ⟨m, fun _ => 0, g⟩ (fun r => (∀ c : Dev Cert.DInB.nD,
      r.2.mem ((c.tc : Thread Cert.DInB.nD Cert.DInB.τ).loc Cert.DInB.main_arg0) = m ((c.tc : Thread Cert.DInB.nD Cert.DInB.τ).loc Cert.DInB.main_arg0)
      ∧ r.2.mem ((c.tc : Thread Cert.DInB.nD Cert.DInB.τ).loc Cert.DInB.main_arg1) = m ((c.tc : Thread Cert.DInB.nD Cert.DInB.τ).loc Cert.DInB.main_arg1))
      ∧ r.2.sem = fun _ => 0)

def quiescent_DInBIdeal [hDInBIdeal : Cert.DInBIdeal.Facts] : Prop :=
  ∀ (m : (ℓ : Loc Cert.DInBIdeal.nD Cert.DInBIdeal.τ Cert.DInBIdeal.sig) → Buf (Elt Ideal) ℓ) (g : Dev Cert.DInBIdeal.nD → PrngReg), Pre_DInBIdeal m →
    θ_run (Cert.DInBIdeal.defs (F := Ideal)) (onTc (τ := Cert.DInBIdeal.τ) (Cert.DInBIdeal.main (F := Ideal))) ⟨m, fun _ => 0, g⟩ (fun r => (∀ c : Dev Cert.DInBIdeal.nD,
      r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
      ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1))
      ∧ r.2.sem = fun _ => 0)

def quiescent_DInBRefIdeal [hDInBRefIdeal : Cert.DInBRefIdeal.Facts] : Prop :=
  ∀ (m : (ℓ : Loc Cert.DInBRefIdeal.nD Cert.DInBRefIdeal.τ Cert.DInBRefIdeal.sig) → Buf (Elt Ideal) ℓ) (g : Dev Cert.DInBRefIdeal.nD → PrngReg), Pre_DInBRefIdeal m →
    θ_run (Cert.DInBRefIdeal.defs (F := Ideal)) (onTc (τ := Cert.DInBRefIdeal.τ) (Cert.DInBRefIdeal.main (F := Ideal))) ⟨m, fun _ => 0, g⟩ (fun r => (∀ c : Dev Cert.DInBRefIdeal.nD,
      r.2.mem ((c.tc : Thread Cert.DInBRefIdeal.nD Cert.DInBRefIdeal.τ).loc Cert.DInBRefIdeal.main_arg0) = m ((c.tc : Thread Cert.DInBRefIdeal.nD Cert.DInBRefIdeal.τ).loc Cert.DInBRefIdeal.main_arg0)
      ∧ r.2.mem ((c.tc : Thread Cert.DInBRefIdeal.nD Cert.DInBRefIdeal.τ).loc Cert.DInBRefIdeal.main_arg1) = m ((c.tc : Thread Cert.DInBRefIdeal.nD Cert.DInBRefIdeal.τ).loc Cert.DInBRefIdeal.main_arg1))
      ∧ r.2.sem = fun _ => 0)

def quiescent_DKv [hDKv : Cert.DKv.Facts] : Prop :=
  ∀ (m : (ℓ : Loc Cert.DKv.nD Cert.DKv.τ Cert.DKv.sig) → Buf (Elt Bits) ℓ) (g : Dev Cert.DKv.nD → PrngReg), Pre_DKv m →
    θ_run (Cert.DKv.defs (F := Bits)) (onTc (τ := Cert.DKv.τ) (Cert.DKv.main (F := Bits))) ⟨m, fun _ => 0, g⟩ (fun r => (∀ c : Dev Cert.DKv.nD,
      r.2.mem ((c.tc : Thread Cert.DKv.nD Cert.DKv.τ).loc Cert.DKv.main_arg0) = m ((c.tc : Thread Cert.DKv.nD Cert.DKv.τ).loc Cert.DKv.main_arg0)
      ∧ r.2.mem ((c.tc : Thread Cert.DKv.nD Cert.DKv.τ).loc Cert.DKv.main_arg1) = m ((c.tc : Thread Cert.DKv.nD Cert.DKv.τ).loc Cert.DKv.main_arg1))
      ∧ r.2.sem = fun _ => 0)

def quiescent_DKvIdeal [hDKvIdeal : Cert.DKvIdeal.Facts] : Prop :=
  ∀ (m : (ℓ : Loc Cert.DKvIdeal.nD Cert.DKvIdeal.τ Cert.DKvIdeal.sig) → Buf (Elt Ideal) ℓ) (g : Dev Cert.DKvIdeal.nD → PrngReg), Pre_DKvIdeal m →
    θ_run (Cert.DKvIdeal.defs (F := Ideal)) (onTc (τ := Cert.DKvIdeal.τ) (Cert.DKvIdeal.main (F := Ideal))) ⟨m, fun _ => 0, g⟩ (fun r => (∀ c : Dev Cert.DKvIdeal.nD,
      r.2.mem ((c.tc : Thread Cert.DKvIdeal.nD Cert.DKvIdeal.τ).loc Cert.DKvIdeal.main_arg0) = m ((c.tc : Thread Cert.DKvIdeal.nD Cert.DKvIdeal.τ).loc Cert.DKvIdeal.main_arg0)
      ∧ r.2.mem ((c.tc : Thread Cert.DKvIdeal.nD Cert.DKvIdeal.τ).loc Cert.DKvIdeal.main_arg1) = m ((c.tc : Thread Cert.DKvIdeal.nD Cert.DKvIdeal.τ).loc Cert.DKvIdeal.main_arg1))
      ∧ r.2.sem = fun _ => 0)

def quiescent_DKvRefIdeal [hDKvRefIdeal : Cert.DKvRefIdeal.Facts] : Prop :=
  ∀ (m : (ℓ : Loc Cert.DKvRefIdeal.nD Cert.DKvRefIdeal.τ Cert.DKvRefIdeal.sig) → Buf (Elt Ideal) ℓ) (g : Dev Cert.DKvRefIdeal.nD → PrngReg), Pre_DKvRefIdeal m →
    θ_run (Cert.DKvRefIdeal.defs (F := Ideal)) (onTc (τ := Cert.DKvRefIdeal.τ) (Cert.DKvRefIdeal.main (F := Ideal))) ⟨m, fun _ => 0, g⟩ (fun r => (∀ c : Dev Cert.DKvRefIdeal.nD,
      r.2.mem ((c.tc : Thread Cert.DKvRefIdeal.nD Cert.DKvRefIdeal.τ).loc Cert.DKvRefIdeal.main_arg0) = m ((c.tc : Thread Cert.DKvRefIdeal.nD Cert.DKvRefIdeal.τ).loc Cert.DKvRefIdeal.main_arg0)
      ∧ r.2.mem ((c.tc : Thread Cert.DKvRefIdeal.nD Cert.DKvRefIdeal.τ).loc Cert.DKvRefIdeal.main_arg1) = m ((c.tc : Thread Cert.DKvRefIdeal.nD Cert.DKvRefIdeal.τ).loc Cert.DKvRefIdeal.main_arg1))
      ∧ r.2.sem = fun _ => 0)

def quiescent_DProj [hDProj : Cert.DProj.Facts] : Prop :=
  ∀ (m : (ℓ : Loc Cert.DProj.nD Cert.DProj.τ Cert.DProj.sig) → Buf (Elt Bits) ℓ) (g : Dev Cert.DProj.nD → PrngReg), Pre_DProj m →
    θ_run (Cert.DProj.defs (F := Bits)) (onTc (τ := Cert.DProj.τ) (Cert.DProj.main (F := Bits))) ⟨m, fun _ => 0, g⟩ (fun r => (∀ c : Dev Cert.DProj.nD,
      r.2.mem ((c.tc : Thread Cert.DProj.nD Cert.DProj.τ).loc Cert.DProj.main_arg0) = m ((c.tc : Thread Cert.DProj.nD Cert.DProj.τ).loc Cert.DProj.main_arg0)
      ∧ r.2.mem ((c.tc : Thread Cert.DProj.nD Cert.DProj.τ).loc Cert.DProj.main_arg1) = m ((c.tc : Thread Cert.DProj.nD Cert.DProj.τ).loc Cert.DProj.main_arg1))
      ∧ r.2.sem = fun _ => 0)

def quiescent_DProjIdeal [hDProjIdeal : Cert.DProjIdeal.Facts] : Prop :=
  ∀ (m : (ℓ : Loc Cert.DProjIdeal.nD Cert.DProjIdeal.τ Cert.DProjIdeal.sig) → Buf (Elt Ideal) ℓ) (g : Dev Cert.DProjIdeal.nD → PrngReg), Pre_DProjIdeal m →
    θ_run (Cert.DProjIdeal.defs (F := Ideal)) (onTc (τ := Cert.DProjIdeal.τ) (Cert.DProjIdeal.main (F := Ideal))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1))
      ∧ r.2.sem = fun _ => 0)

def quiescent_DProjRefIdeal [hDProjRefIdeal : Cert.DProjRefIdeal.Facts] : Prop :=
  ∀ (m : (ℓ : Loc Cert.DProjRefIdeal.nD Cert.DProjRefIdeal.τ Cert.DProjRefIdeal.sig) → Buf (Elt Ideal) ℓ) (g : Dev Cert.DProjRefIdeal.nD → PrngReg), Pre_DProjRefIdeal m →
    θ_run (Cert.DProjRefIdeal.defs (F := Ideal)) (onTc (τ := Cert.DProjRefIdeal.τ) (Cert.DProjRefIdeal.main (F := Ideal))) ⟨m, fun _ => 0, g⟩ (fun r => (∀ c : Dev Cert.DProjRefIdeal.nD,
      r.2.mem ((c.tc : Thread Cert.DProjRefIdeal.nD Cert.DProjRefIdeal.τ).loc Cert.DProjRefIdeal.main_arg0) = m ((c.tc : Thread Cert.DProjRefIdeal.nD Cert.DProjRefIdeal.τ).loc Cert.DProjRefIdeal.main_arg0)
      ∧ r.2.mem ((c.tc : Thread Cert.DProjRefIdeal.nD Cert.DProjRefIdeal.τ).loc Cert.DProjRefIdeal.main_arg1) = m ((c.tc : Thread Cert.DProjRefIdeal.nD Cert.DProjRefIdeal.τ).loc Cert.DProjRefIdeal.main_arg1))
      ∧ r.2.sem = fun _ => 0)

def quiescent_DOutA [hDOutA : Cert.DOutA.Facts] : Prop :=
  ∀ (m : (ℓ : Loc Cert.DOutA.nD Cert.DOutA.τ Cert.DOutA.sig) → Buf (Elt Bits) ℓ) (g : Dev Cert.DOutA.nD → PrngReg), Pre_DOutA m →
    θ_run (Cert.DOutA.defs (F := Bits)) (onTc (τ := Cert.DOutA.τ) (Cert.DOutA.main (F := Bits))) ⟨m, fun _ => 0, g⟩ (fun r => (∀ c : Dev Cert.DOutA.nD,
      r.2.mem ((c.tc : Thread Cert.DOutA.nD Cert.DOutA.τ).loc Cert.DOutA.main_arg0) = m ((c.tc : Thread Cert.DOutA.nD Cert.DOutA.τ).loc Cert.DOutA.main_arg0)
      ∧ r.2.mem ((c.tc : Thread Cert.DOutA.nD Cert.DOutA.τ).loc Cert.DOutA.main_arg1) = m ((c.tc : Thread Cert.DOutA.nD Cert.DOutA.τ).loc Cert.DOutA.main_arg1))
      ∧ r.2.sem = fun _ => 0)

def quiescent_DOutAIdeal [hDOutAIdeal : Cert.DOutAIdeal.Facts] : Prop :=
  ∀ (m : (ℓ : Loc Cert.DOutAIdeal.nD Cert.DOutAIdeal.τ Cert.DOutAIdeal.sig) → Buf (Elt Ideal) ℓ) (g : Dev Cert.DOutAIdeal.nD → PrngReg), Pre_DOutAIdeal m →
    θ_run (Cert.DOutAIdeal.defs (F := Ideal)) (onTc (τ := Cert.DOutAIdeal.τ) (Cert.DOutAIdeal.main (F := Ideal))) ⟨m, fun _ => 0, g⟩ (fun r => (∀ c : Dev Cert.DOutAIdeal.nD,
      r.2.mem ((c.tc : Thread Cert.DOutAIdeal.nD Cert.DOutAIdeal.τ).loc Cert.DOutAIdeal.main_arg0) = m ((c.tc : Thread Cert.DOutAIdeal.nD Cert.DOutAIdeal.τ).loc Cert.DOutAIdeal.main_arg0)
      ∧ r.2.mem ((c.tc : Thread Cert.DOutAIdeal.nD Cert.DOutAIdeal.τ).loc Cert.DOutAIdeal.main_arg1) = m ((c.tc : Thread Cert.DOutAIdeal.nD Cert.DOutAIdeal.τ).loc Cert.DOutAIdeal.main_arg1))
      ∧ r.2.sem = fun _ => 0)

def quiescent_DOutARefIdeal [hDOutARefIdeal : Cert.DOutARefIdeal.Facts] : Prop :=
  ∀ (m : (ℓ : Loc Cert.DOutARefIdeal.nD Cert.DOutARefIdeal.τ Cert.DOutARefIdeal.sig) → Buf (Elt Ideal) ℓ) (g : Dev Cert.DOutARefIdeal.nD → PrngReg), Pre_DOutARefIdeal m →
    θ_run (Cert.DOutARefIdeal.defs (F := Ideal)) (onTc (τ := Cert.DOutARefIdeal.τ) (Cert.DOutARefIdeal.main (F := Ideal))) ⟨m, fun _ => 0, g⟩ (fun r => (∀ c : Dev Cert.DOutARefIdeal.nD,
      r.2.mem ((c.tc : Thread Cert.DOutARefIdeal.nD Cert.DOutARefIdeal.τ).loc Cert.DOutARefIdeal.main_arg0) = m ((c.tc : Thread Cert.DOutARefIdeal.nD Cert.DOutARefIdeal.τ).loc Cert.DOutARefIdeal.main_arg0)
      ∧ r.2.mem ((c.tc : Thread Cert.DOutARefIdeal.nD Cert.DOutARefIdeal.τ).loc Cert.DOutARefIdeal.main_arg1) = m ((c.tc : Thread Cert.DOutARefIdeal.nD Cert.DOutARefIdeal.τ).loc Cert.DOutARefIdeal.main_arg1))
      ∧ r.2.sem = fun _ => 0)

def quiescent_DSquare [hDSquare : Cert.DSquare.Facts] : Prop :=
  ∀ (m : (ℓ : Loc Cert.DSquare.nD Cert.DSquare.τ Cert.DSquare.sig) → Buf (Elt Bits) ℓ) (g : Dev Cert.DSquare.nD → PrngReg), Pre_DSquare m →
    θ_run (Cert.DSquare.defs (F := Bits)) (onTc (τ := Cert.DSquare.τ) (Cert.DSquare.main (F := Bits))) ⟨m, fun _ => 0, g⟩ (fun r => (∀ c : Dev Cert.DSquare.nD,
      r.2.mem ((c.tc : Thread Cert.DSquare.nD Cert.DSquare.τ).loc Cert.DSquare.main_arg0) = m ((c.tc : Thread Cert.DSquare.nD Cert.DSquare.τ).loc Cert.DSquare.main_arg0)
      ∧ r.2.mem ((c.tc : Thread Cert.DSquare.nD Cert.DSquare.τ).loc Cert.DSquare.main_arg1) = m ((c.tc : Thread Cert.DSquare.nD Cert.DSquare.τ).loc Cert.DSquare.main_arg1))
      ∧ r.2.sem = fun _ => 0)

def quiescent_DSquareIdeal [hDSquareIdeal : Cert.DSquareIdeal.Facts] : Prop :=
  ∀ (m : (ℓ : Loc Cert.DSquareIdeal.nD Cert.DSquareIdeal.τ Cert.DSquareIdeal.sig) → Buf (Elt Ideal) ℓ) (g : Dev Cert.DSquareIdeal.nD → PrngReg), Pre_DSquareIdeal m →
    θ_run (Cert.DSquareIdeal.defs (F := Ideal)) (onTc (τ := Cert.DSquareIdeal.τ) (Cert.DSquareIdeal.main (F := Ideal))) ⟨m, fun _ => 0, g⟩ (fun r => (∀ c : Dev Cert.DSquareIdeal.nD,
      r.2.mem ((c.tc : Thread Cert.DSquareIdeal.nD Cert.DSquareIdeal.τ).loc Cert.DSquareIdeal.main_arg0) = m ((c.tc : Thread Cert.DSquareIdeal.nD Cert.DSquareIdeal.τ).loc Cert.DSquareIdeal.main_arg0)
      ∧ r.2.mem ((c.tc : Thread Cert.DSquareIdeal.nD Cert.DSquareIdeal.τ).loc Cert.DSquareIdeal.main_arg1) = m ((c.tc : Thread Cert.DSquareIdeal.nD Cert.DSquareIdeal.τ).loc Cert.DSquareIdeal.main_arg1))
      ∧ r.2.sem = fun _ => 0)

def quiescent_DSquareRefIdeal [hDSquareRefIdeal : Cert.DSquareRefIdeal.Facts] : Prop :=
  ∀ (m : (ℓ : Loc Cert.DSquareRefIdeal.nD Cert.DSquareRefIdeal.τ Cert.DSquareRefIdeal.sig) → Buf (Elt Ideal) ℓ) (g : Dev Cert.DSquareRefIdeal.nD → PrngReg), Pre_DSquareRefIdeal m →
    θ_run (Cert.DSquareRefIdeal.defs (F := Ideal)) (onTc (τ := Cert.DSquareRefIdeal.τ) (Cert.DSquareRefIdeal.main (F := Ideal))) ⟨m, fun _ => 0, g⟩ (fun r => (∀ c : Dev Cert.DSquareRefIdeal.nD,
      r.2.mem ((c.tc : Thread Cert.DSquareRefIdeal.nD Cert.DSquareRefIdeal.τ).loc Cert.DSquareRefIdeal.main_arg0) = m ((c.tc : Thread Cert.DSquareRefIdeal.nD Cert.DSquareRefIdeal.τ).loc Cert.DSquareRefIdeal.main_arg0)
      ∧ r.2.mem ((c.tc : Thread Cert.DSquareRefIdeal.nD Cert.DSquareRefIdeal.τ).loc Cert.DSquareRefIdeal.main_arg1) = m ((c.tc : Thread Cert.DSquareRefIdeal.nD Cert.DSquareRefIdeal.τ).loc Cert.DSquareRefIdeal.main_arg1))
      ∧ r.2.sem = fun _ => 0)

def quiescent_DU [hDU : Cert.DU.Facts] : Prop :=
  ∀ (m : (ℓ : Loc Cert.DU.nD Cert.DU.τ Cert.DU.sig) → Buf (Elt Bits) ℓ) (g : Dev Cert.DU.nD → PrngReg), Pre_DU m →
    θ_run (Cert.DU.defs (F := Bits)) (onTc (τ := Cert.DU.τ) (Cert.DU.main (F := Bits))) ⟨m, fun _ => 0, g⟩ (fun r => (∀ c : Dev Cert.DU.nD,
      r.2.mem ((c.tc : Thread Cert.DU.nD Cert.DU.τ).loc Cert.DU.main_arg0) = m ((c.tc : Thread Cert.DU.nD Cert.DU.τ).loc Cert.DU.main_arg0)
      ∧ r.2.mem ((c.tc : Thread Cert.DU.nD Cert.DU.τ).loc Cert.DU.main_arg1) = m ((c.tc : Thread Cert.DU.nD Cert.DU.τ).loc Cert.DU.main_arg1))
      ∧ r.2.sem = fun _ => 0)

def quiescent_DUIdeal [hDUIdeal : Cert.DUIdeal.Facts] : Prop :=
  ∀ (m : (ℓ : Loc Cert.DUIdeal.nD Cert.DUIdeal.τ Cert.DUIdeal.sig) → Buf (Elt Ideal) ℓ) (g : Dev Cert.DUIdeal.nD → PrngReg), Pre_DUIdeal m →
    θ_run (Cert.DUIdeal.defs (F := Ideal)) (onTc (τ := Cert.DUIdeal.τ) (Cert.DUIdeal.main (F := Ideal))) ⟨m, fun _ => 0, g⟩ (fun r => (∀ c : Dev Cert.DUIdeal.nD,
      r.2.mem ((c.tc : Thread Cert.DUIdeal.nD Cert.DUIdeal.τ).loc Cert.DUIdeal.main_arg0) = m ((c.tc : Thread Cert.DUIdeal.nD Cert.DUIdeal.τ).loc Cert.DUIdeal.main_arg0)
      ∧ r.2.mem ((c.tc : Thread Cert.DUIdeal.nD Cert.DUIdeal.τ).loc Cert.DUIdeal.main_arg1) = m ((c.tc : Thread Cert.DUIdeal.nD Cert.DUIdeal.τ).loc Cert.DUIdeal.main_arg1))
      ∧ r.2.sem = fun _ => 0)

def quiescent_DURefIdeal [hDURefIdeal : Cert.DURefIdeal.Facts] : Prop :=
  ∀ (m : (ℓ : Loc Cert.DURefIdeal.nD Cert.DURefIdeal.τ Cert.DURefIdeal.sig) → Buf (Elt Ideal) ℓ) (g : Dev Cert.DURefIdeal.nD → PrngReg), Pre_DURefIdeal m →
    θ_run (Cert.DURefIdeal.defs (F := Ideal)) (onTc (τ := Cert.DURefIdeal.τ) (Cert.DURefIdeal.main (F := Ideal))) ⟨m, fun _ => 0, g⟩ (fun r => (∀ c : Dev Cert.DURefIdeal.nD,
      r.2.mem ((c.tc : Thread Cert.DURefIdeal.nD Cert.DURefIdeal.τ).loc Cert.DURefIdeal.main_arg0) = m ((c.tc : Thread Cert.DURefIdeal.nD Cert.DURefIdeal.τ).loc Cert.DURefIdeal.main_arg0)
      ∧ r.2.mem ((c.tc : Thread Cert.DURefIdeal.nD Cert.DURefIdeal.τ).loc Cert.DURefIdeal.main_arg1) = m ((c.tc : Thread Cert.DURefIdeal.nD Cert.DURefIdeal.τ).loc Cert.DURefIdeal.main_arg1))
      ∧ r.2.sem = fun _ => 0)

def quiescent_DKvn [hDKvn : Cert.DKvn.Facts] : Prop :=
  ∀ (m : (ℓ : Loc Cert.DKvn.nD Cert.DKvn.τ Cert.DKvn.sig) → Buf (Elt Bits) ℓ) (g : Dev Cert.DKvn.nD → PrngReg), Pre_DKvn m →
    θ_run (Cert.DKvn.defs (F := Bits)) (onTc (τ := Cert.DKvn.τ) (Cert.DKvn.main (F := Bits))) ⟨m, fun _ => 0, g⟩ (fun r => (∀ c : Dev Cert.DKvn.nD,
      r.2.mem ((c.tc : Thread Cert.DKvn.nD Cert.DKvn.τ).loc Cert.DKvn.main_arg0) = m ((c.tc : Thread Cert.DKvn.nD Cert.DKvn.τ).loc Cert.DKvn.main_arg0)
      ∧ r.2.mem ((c.tc : Thread Cert.DKvn.nD Cert.DKvn.τ).loc Cert.DKvn.main_arg1) = m ((c.tc : Thread Cert.DKvn.nD Cert.DKvn.τ).loc Cert.DKvn.main_arg1))
      ∧ r.2.sem = fun _ => 0)

def quiescent_DKvnIdeal [hDKvnIdeal : Cert.DKvnIdeal.Facts] : Prop :=
  ∀ (m : (ℓ : Loc Cert.DKvnIdeal.nD Cert.DKvnIdeal.τ Cert.DKvnIdeal.sig) → Buf (Elt Ideal) ℓ) (g : Dev Cert.DKvnIdeal.nD → PrngReg), Pre_DKvnIdeal m →
    θ_run (Cert.DKvnIdeal.defs (F := Ideal)) (onTc (τ := Cert.DKvnIdeal.τ) (Cert.DKvnIdeal.main (F := Ideal))) ⟨m, fun _ => 0, g⟩ (fun r => (∀ c : Dev Cert.DKvnIdeal.nD,
      r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
      ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ r.2.sem = fun _ => 0)

def quiescent_DKvnRefIdeal [hDKvnRefIdeal : Cert.DKvnRefIdeal.Facts] : Prop :=
  ∀ (m : (ℓ : Loc Cert.DKvnRefIdeal.nD Cert.DKvnRefIdeal.τ Cert.DKvnRefIdeal.sig) → Buf (Elt Ideal) ℓ) (g : Dev Cert.DKvnRefIdeal.nD → PrngReg), Pre_DKvnRefIdeal m →
    θ_run (Cert.DKvnRefIdeal.defs (F := Ideal)) (onTc (τ := Cert.DKvnRefIdeal.τ) (Cert.DKvnRefIdeal.main (F := Ideal))) ⟨m, fun _ => 0, g⟩ (fun r => (∀ c : Dev Cert.DKvnRefIdeal.nD,
      r.2.mem ((c.tc : Thread Cert.DKvnRefIdeal.nD Cert.DKvnRefIdeal.τ).loc Cert.DKvnRefIdeal.main_arg0) = m ((c.tc : Thread Cert.DKvnRefIdeal.nD Cert.DKvnRefIdeal.τ).loc Cert.DKvnRefIdeal.main_arg0)
      ∧ r.2.mem ((c.tc : Thread Cert.DKvnRefIdeal.nD Cert.DKvnRefIdeal.τ).loc Cert.DKvnRefIdeal.main_arg1) = m ((c.tc : Thread Cert.DKvnRefIdeal.nD Cert.DKvnRefIdeal.τ).loc Cert.DKvnRefIdeal.main_arg1))
      ∧ r.2.sem = fun _ => 0)

def quiescent_DM [hDM : Cert.DM.Facts] : Prop :=
  ∀ (m : (ℓ : Loc Cert.DM.nD Cert.DM.τ Cert.DM.sig) → Buf (Elt Bits) ℓ) (g : Dev Cert.DM.nD → PrngReg), Pre_DM m →
    θ_run (Cert.DM.defs (F := Bits)) (onTc (τ := Cert.DM.τ) (Cert.DM.main (F := Bits))) ⟨m, fun _ => 0, g⟩ (fun r => (∀ c : Dev Cert.DM.nD,
      r.2.mem ((c.tc : Thread Cert.DM.nD Cert.DM.τ).loc Cert.DM.main_arg0) = m ((c.tc : Thread Cert.DM.nD Cert.DM.τ).loc Cert.DM.main_arg0)
      ∧ r.2.mem ((c.tc : Thread Cert.DM.nD Cert.DM.τ).loc Cert.DM.main_arg1) = m ((c.tc : Thread Cert.DM.nD Cert.DM.τ).loc Cert.DM.main_arg1))
      ∧ r.2.sem = fun _ => 0)

def quiescent_DMIdeal [hDMIdeal : Cert.DMIdeal.Facts] : Prop :=
  ∀ (m : (ℓ : Loc Cert.DMIdeal.nD Cert.DMIdeal.τ Cert.DMIdeal.sig) → Buf (Elt Ideal) ℓ) (g : Dev Cert.DMIdeal.nD → PrngReg), Pre_DMIdeal m →
    θ_run (Cert.DMIdeal.defs (F := Ideal)) (onTc (τ := Cert.DMIdeal.τ) (Cert.DMIdeal.main (F := Ideal))) ⟨m, fun _ => 0, g⟩ (fun r => (∀ c : Dev Cert.DMIdeal.nD,
      r.2.mem ((c.tc : Thread Cert.DMIdeal.nD Cert.DMIdeal.τ).loc Cert.DMIdeal.main_arg0) = m ((c.tc : Thread Cert.DMIdeal.nD Cert.DMIdeal.τ).loc Cert.DMIdeal.main_arg0)
      ∧ r.2.mem ((c.tc : Thread Cert.DMIdeal.nD Cert.DMIdeal.τ).loc Cert.DMIdeal.main_arg1) = m ((c.tc : Thread Cert.DMIdeal.nD Cert.DMIdeal.τ).loc Cert.DMIdeal.main_arg1))
      ∧ r.2.sem = fun _ => 0)

def quiescent_DMRefIdeal [hDMRefIdeal : Cert.DMRefIdeal.Facts] : Prop :=
  ∀ (m : (ℓ : Loc Cert.DMRefIdeal.nD Cert.DMRefIdeal.τ Cert.DMRefIdeal.sig) → Buf (Elt Ideal) ℓ) (g : Dev Cert.DMRefIdeal.nD → PrngReg), Pre_DMRefIdeal m →
    θ_run (Cert.DMRefIdeal.defs (F := Ideal)) (onTc (τ := Cert.DMRefIdeal.τ) (Cert.DMRefIdeal.main (F := Ideal))) ⟨m, fun _ => 0, g⟩ (fun r => (∀ c : Dev Cert.DMRefIdeal.nD,
      r.2.mem ((c.tc : Thread Cert.DMRefIdeal.nD Cert.DMRefIdeal.τ).loc Cert.DMRefIdeal.main_arg0) = m ((c.tc : Thread Cert.DMRefIdeal.nD Cert.DMRefIdeal.τ).loc Cert.DMRefIdeal.main_arg0)
      ∧ r.2.mem ((c.tc : Thread Cert.DMRefIdeal.nD Cert.DMRefIdeal.τ).loc Cert.DMRefIdeal.main_arg1) = m ((c.tc : Thread Cert.DMRefIdeal.nD Cert.DMRefIdeal.τ).loc Cert.DMRefIdeal.main_arg1))
      ∧ r.2.sem = fun _ => 0)

def quiescent_DRows [hDRows : Cert.DRows.Facts] : Prop :=
  ∀ (m : (ℓ : Loc Cert.DRows.nD Cert.DRows.τ Cert.DRows.sig) → Buf (Elt Bits) ℓ) (g : Dev Cert.DRows.nD → PrngReg), Pre_DRows m →
    θ_run (Cert.DRows.defs (F := Bits)) (onTc (τ := Cert.DRows.τ) (Cert.DRows.main (F := Bits))) ⟨m, fun _ => 0, g⟩ (fun r => (∀ c : Dev Cert.DRows.nD,
      r.2.mem ((c.tc : Thread Cert.DRows.nD Cert.DRows.τ).loc Cert.DRows.main_arg0) = m ((c.tc : Thread Cert.DRows.nD Cert.DRows.τ).loc Cert.DRows.main_arg0)
      ∧ r.2.mem ((c.tc : Thread Cert.DRows.nD Cert.DRows.τ).loc Cert.DRows.main_arg1) = m ((c.tc : Thread Cert.DRows.nD Cert.DRows.τ).loc Cert.DRows.main_arg1))
      ∧ r.2.sem = fun _ => 0)

def quiescent_DRowsIdeal [hDRowsIdeal : Cert.DRowsIdeal.Facts] : Prop :=
  ∀ (m : (ℓ : Loc Cert.DRowsIdeal.nD Cert.DRowsIdeal.τ Cert.DRowsIdeal.sig) → Buf (Elt Ideal) ℓ) (g : Dev Cert.DRowsIdeal.nD → PrngReg), Pre_DRowsIdeal m →
    θ_run (Cert.DRowsIdeal.defs (F := Ideal)) (onTc (τ := Cert.DRowsIdeal.τ) (Cert.DRowsIdeal.main (F := Ideal))) ⟨m, fun _ => 0, g⟩ (fun r => (∀ c : Dev Cert.DRowsIdeal.nD,
      r.2.mem ((c.tc : Thread Cert.DRowsIdeal.nD Cert.DRowsIdeal.τ).loc Cert.DRowsIdeal.main_arg0) = m ((c.tc : Thread Cert.DRowsIdeal.nD Cert.DRowsIdeal.τ).loc Cert.DRowsIdeal.main_arg0)
      ∧ r.2.mem ((c.tc : Thread Cert.DRowsIdeal.nD Cert.DRowsIdeal.τ).loc Cert.DRowsIdeal.main_arg1) = m ((c.tc : Thread Cert.DRowsIdeal.nD Cert.DRowsIdeal.τ).loc Cert.DRowsIdeal.main_arg1))
      ∧ r.2.sem = fun _ => 0)

def quiescent_DRowsRefIdeal [hDRowsRefIdeal : Cert.DRowsRefIdeal.Facts] : Prop :=
  ∀ (m : (ℓ : Loc Cert.DRowsRefIdeal.nD Cert.DRowsRefIdeal.τ Cert.DRowsRefIdeal.sig) → Buf (Elt Ideal) ℓ) (g : Dev Cert.DRowsRefIdeal.nD → PrngReg), Pre_DRowsRefIdeal m →
    θ_run (Cert.DRowsRefIdeal.defs (F := Ideal)) (onTc (τ := Cert.DRowsRefIdeal.τ) (Cert.DRowsRefIdeal.main (F := Ideal))) ⟨m, fun _ => 0, g⟩ (fun r => (∀ c : Dev Cert.DRowsRefIdeal.nD,
      r.2.mem ((c.tc : Thread Cert.DRowsRefIdeal.nD Cert.DRowsRefIdeal.τ).loc Cert.DRowsRefIdeal.main_arg0) = m ((c.tc : Thread Cert.DRowsRefIdeal.nD Cert.DRowsRefIdeal.τ).loc Cert.DRowsRefIdeal.main_arg0)
      ∧ r.2.mem ((c.tc : Thread Cert.DRowsRefIdeal.nD Cert.DRowsRefIdeal.τ).loc Cert.DRowsRefIdeal.main_arg1) = m ((c.tc : Thread Cert.DRowsRefIdeal.nD Cert.DRowsRefIdeal.τ).loc Cert.DRowsRefIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2)
      ∧ r.2.mem ((c.tc : Thread Cert.OutARefIdeal.nD Cert.OutARefIdeal.τ).loc Cert.OutARefIdeal.main_arg3) = m ((c.tc : Thread Cert.OutARefIdeal.nD Cert.OutARefIdeal.τ).loc Cert.OutARefIdeal.main_arg3))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2)
      ∧ r.2.mem ((c.tc : Thread Cert.OutB.nD Cert.OutB.τ).loc Cert.OutB.main_arg3) = m ((c.tc : Thread Cert.OutB.nD Cert.OutB.τ).loc Cert.OutB.main_arg3))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
      ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2)
      ∧ r.2.mem ((c.tc : Thread Cert.OutBRefIdeal.nD Cert.OutBRefIdeal.τ).loc Cert.OutBRefIdeal.main_arg3) = m ((c.tc : Thread Cert.OutBRefIdeal.nD Cert.OutBRefIdeal.τ).loc Cert.OutBRefIdeal.main_arg3))
      ∧ r.2.sem = fun _ => 0)

def quiescent_AdamInA [hAdamInA : Cert.AdamInA.Facts] : Prop :=
  ∀ (m : (ℓ : Loc Cert.AdamInA.nD Cert.AdamInA.τ Cert.AdamInA.sig) → Buf (Elt Bits) ℓ) (g : Dev Cert.AdamInA.nD → PrngReg), Pre_AdamInA m →
    θ_run (Cert.AdamInA.defs (F := Bits)) (onTc (τ := Cert.AdamInA.τ) (Cert.AdamInA.main (F := Bits))) ⟨m, fun _ => 0, g⟩ (fun r => (∀ c : Dev Cert.AdamInA.nD,
      r.2.mem ((c.tc : Thread Cert.AdamInA.nD Cert.AdamInA.τ).loc Cert.AdamInA.main_arg0) = m ((c.tc : Thread Cert.AdamInA.nD Cert.AdamInA.τ).loc Cert.AdamInA.main_arg0)
      ∧ r.2.mem ((c.tc : Thread Cert.AdamInA.nD Cert.AdamInA.τ).loc Cert.AdamInA.main_arg1) = m ((c.tc : Thread Cert.AdamInA.nD Cert.AdamInA.τ).loc Cert.AdamInA.main_arg1)
      ∧ r.2.mem ((c.tc : Thread Cert.AdamInA.nD Cert.AdamInA.τ).loc Cert.AdamInA.main_arg2) = m ((c.tc : Thread Cert.AdamInA.nD Cert.AdamInA.τ).loc Cert.AdamInA.main_arg2)
      ∧ r.2.mem ((c.tc : Thread Cert.AdamInA.nD Cert.AdamInA.τ).loc Cert.AdamInA.main_arg3) = m ((c.tc : Thread Cert.AdamInA.nD Cert.AdamInA.τ).loc Cert.AdamInA.main_arg3))
      ∧ r.2.sem = fun _ => 0)

def quiescent_AdamInAIdeal [hAdamInAIdeal : Cert.AdamInAIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg), Pre_AdamInAIdeal m →
    θ_run (Cert.AdamInAIdeal.defs (F := Ideal)) (onTc (τ := Cert.AdamInAIdeal.τ) (Cert.AdamInAIdeal.main (F := Ideal))) ⟨m, fun _ => 0, g⟩ (fun r => (∀ c : Dev Cert.AdamInAIdeal.nD,
      r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
      ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
      ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
      ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ r.2.sem = fun _ => 0)

def quiescent_AdamInARefIdeal [hAdamInARefIdeal : Cert.AdamInARefIdeal.Facts] : Prop :=
  ∀ (m : (ℓ : Loc Cert.AdamInARefIdeal.nD Cert.AdamInARefIdeal.τ Cert.AdamInARefIdeal.sig) → Buf (Elt Ideal) ℓ) (g : Dev Cert.AdamInARefIdeal.nD → PrngReg), Pre_AdamInARefIdeal m →
    θ_run (Cert.AdamInARefIdeal.defs (F := Ideal)) (onTc (τ := Cert.AdamInARefIdeal.τ) (Cert.AdamInARefIdeal.main (F := Ideal))) ⟨m, fun _ => 0, g⟩ (fun r => (∀ c : Dev Cert.AdamInARefIdeal.nD,
      r.2.mem ((c.tc : Thread Cert.AdamInARefIdeal.nD Cert.AdamInARefIdeal.τ).loc Cert.AdamInARefIdeal.main_arg0) = m ((c.tc : Thread Cert.AdamInARefIdeal.nD Cert.AdamInARefIdeal.τ).loc Cert.AdamInARefIdeal.main_arg0)
      ∧ r.2.mem ((c.tc : Thread Cert.AdamInARefIdeal.nD Cert.AdamInARefIdeal.τ).loc Cert.AdamInARefIdeal.main_arg1) = m ((c.tc : Thread Cert.AdamInARefIdeal.nD Cert.AdamInARefIdeal.τ).loc Cert.AdamInARefIdeal.main_arg1)
      ∧ r.2.mem ((c.tc : Thread Cert.AdamInARefIdeal.nD Cert.AdamInARefIdeal.τ).loc Cert.AdamInARefIdeal.main_arg2) = m ((c.tc : Thread Cert.AdamInARefIdeal.nD Cert.AdamInARefIdeal.τ).loc Cert.AdamInARefIdeal.main_arg2)
      ∧ r.2.mem ((c.tc : Thread Cert.AdamInARefIdeal.nD Cert.AdamInARefIdeal.τ).loc Cert.AdamInARefIdeal.main_arg3) = m ((c.tc : Thread Cert.AdamInARefIdeal.nD Cert.AdamInARefIdeal.τ).loc Cert.AdamInARefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamInB [hAdamInB : Cert.AdamInB.Facts] : Prop :=
  ∀ (m : (ℓ : Loc Cert.AdamInB.nD Cert.AdamInB.τ Cert.AdamInB.sig) → Buf (Elt Bits) ℓ) (g : Dev Cert.AdamInB.nD → PrngReg), Pre_AdamInB m →
    θ_run (Cert.AdamInB.defs (F := Bits)) (onTc (τ := Cert.AdamInB.τ) (Cert.AdamInB.main (F := Bits))) ⟨m, fun _ => 0, g⟩ (fun r => (∀ c : Dev Cert.AdamInB.nD,
      r.2.mem ((c.tc : Thread Cert.AdamInB.nD Cert.AdamInB.τ).loc Cert.AdamInB.main_arg0) = m ((c.tc : Thread Cert.AdamInB.nD Cert.AdamInB.τ).loc Cert.AdamInB.main_arg0)
      ∧ r.2.mem ((c.tc : Thread Cert.AdamInB.nD Cert.AdamInB.τ).loc Cert.AdamInB.main_arg1) = m ((c.tc : Thread Cert.AdamInB.nD Cert.AdamInB.τ).loc Cert.AdamInB.main_arg1)
      ∧ r.2.mem ((c.tc : Thread Cert.AdamInB.nD Cert.AdamInB.τ).loc Cert.AdamInB.main_arg2) = m ((c.tc : Thread Cert.AdamInB.nD Cert.AdamInB.τ).loc Cert.AdamInB.main_arg2)
      ∧ r.2.mem ((c.tc : Thread Cert.AdamInB.nD Cert.AdamInB.τ).loc Cert.AdamInB.main_arg3) = m ((c.tc : Thread Cert.AdamInB.nD Cert.AdamInB.τ).loc Cert.AdamInB.main_arg3))
      ∧ r.2.sem = fun _ => 0)

def quiescent_AdamInBIdeal [hAdamInBIdeal : Cert.AdamInBIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg), Pre_AdamInBIdeal m →
    θ_run (Cert.AdamInBIdeal.defs (F := Ideal)) (onTc (τ := Cert.AdamInBIdeal.τ) (Cert.AdamInBIdeal.main (F := Ideal))) ⟨m, fun _ => 0, g⟩ (fun r => (∀ c : Dev Cert.AdamInBIdeal.nD,
      r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
      ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
      ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
      ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ r.2.sem = fun _ => 0)

def quiescent_AdamInBRefIdeal [hAdamInBRefIdeal : Cert.AdamInBRefIdeal.Facts] : Prop :=
  ∀ (m : (ℓ : Loc Cert.AdamInBRefIdeal.nD Cert.AdamInBRefIdeal.τ Cert.AdamInBRefIdeal.sig) → Buf (Elt Ideal) ℓ) (g : Dev Cert.AdamInBRefIdeal.nD → PrngReg), Pre_AdamInBRefIdeal m →
    θ_run (Cert.AdamInBRefIdeal.defs (F := Ideal)) (onTc (τ := Cert.AdamInBRefIdeal.τ) (Cert.AdamInBRefIdeal.main (F := Ideal))) ⟨m, fun _ => 0, g⟩ (fun r => (∀ c : Dev Cert.AdamInBRefIdeal.nD,
      r.2.mem ((c.tc : Thread Cert.AdamInBRefIdeal.nD Cert.AdamInBRefIdeal.τ).loc Cert.AdamInBRefIdeal.main_arg0) = m ((c.tc : Thread Cert.AdamInBRefIdeal.nD Cert.AdamInBRefIdeal.τ).loc Cert.AdamInBRefIdeal.main_arg0)
      ∧ r.2.mem ((c.tc : Thread Cert.AdamInBRefIdeal.nD Cert.AdamInBRefIdeal.τ).loc Cert.AdamInBRefIdeal.main_arg1) = m ((c.tc : Thread Cert.AdamInBRefIdeal.nD Cert.AdamInBRefIdeal.τ).loc Cert.AdamInBRefIdeal.main_arg1)
      ∧ r.2.mem ((c.tc : Thread Cert.AdamInBRefIdeal.nD Cert.AdamInBRefIdeal.τ).loc Cert.AdamInBRefIdeal.main_arg2) = m ((c.tc : Thread Cert.AdamInBRefIdeal.nD Cert.AdamInBRefIdeal.τ).loc Cert.AdamInBRefIdeal.main_arg2)
      ∧ r.2.mem ((c.tc : Thread Cert.AdamInBRefIdeal.nD Cert.AdamInBRefIdeal.τ).loc Cert.AdamInBRefIdeal.main_arg3) = m ((c.tc : Thread Cert.AdamInBRefIdeal.nD Cert.AdamInBRefIdeal.τ).loc Cert.AdamInBRefIdeal.main_arg3))
      ∧ r.2.sem = fun _ => 0)

def quiescent_AdamOutB [hAdamOutB : Cert.AdamOutB.Facts] : Prop :=
  ∀ (m : (ℓ : Loc Cert.AdamOutB.nD Cert.AdamOutB.τ Cert.AdamOutB.sig) → Buf (Elt Bits) ℓ) (g : Dev Cert.AdamOutB.nD → PrngReg), Pre_AdamOutB m →
    θ_run (Cert.AdamOutB.defs (F := Bits)) (onTc (τ := Cert.AdamOutB.τ) (Cert.AdamOutB.main (F := Bits))) ⟨m, fun _ => 0, g⟩ (fun r => (∀ c : Dev Cert.AdamOutB.nD,
      r.2.mem ((c.tc : Thread Cert.AdamOutB.nD Cert.AdamOutB.τ).loc Cert.AdamOutB.main_arg0) = m ((c.tc : Thread Cert.AdamOutB.nD Cert.AdamOutB.τ).loc Cert.AdamOutB.main_arg0)
      ∧ r.2.mem ((c.tc : Thread Cert.AdamOutB.nD Cert.AdamOutB.τ).loc Cert.AdamOutB.main_arg1) = m ((c.tc : Thread Cert.AdamOutB.nD Cert.AdamOutB.τ).loc Cert.AdamOutB.main_arg1)
      ∧ r.2.mem ((c.tc : Thread Cert.AdamOutB.nD Cert.AdamOutB.τ).loc Cert.AdamOutB.main_arg2) = m ((c.tc : Thread Cert.AdamOutB.nD Cert.AdamOutB.τ).loc Cert.AdamOutB.main_arg2)
      ∧ r.2.mem ((c.tc : Thread Cert.AdamOutB.nD Cert.AdamOutB.τ).loc Cert.AdamOutB.main_arg3) = m ((c.tc : Thread Cert.AdamOutB.nD Cert.AdamOutB.τ).loc Cert.AdamOutB.main_arg3))
      ∧ r.2.sem = fun _ => 0)

def quiescent_AdamOutBIdeal [hAdamOutBIdeal : Cert.AdamOutBIdeal.Facts] : Prop :=
  ∀ (m : (ℓ : Loc Cert.AdamOutBIdeal.nD Cert.AdamOutBIdeal.τ Cert.AdamOutBIdeal.sig) → Buf (Elt Ideal) ℓ) (g : Dev Cert.AdamOutBIdeal.nD → PrngReg), Pre_AdamOutBIdeal m →
    θ_run (Cert.AdamOutBIdeal.defs (F := Ideal)) (onTc (τ := Cert.AdamOutBIdeal.τ) (Cert.AdamOutBIdeal.main (F := Ideal))) ⟨m, fun _ => 0, g⟩ (fun r => (∀ c : Dev Cert.AdamOutBIdeal.nD,
      r.2.mem ((c.tc : Thread Cert.AdamOutBIdeal.nD Cert.AdamOutBIdeal.τ).loc Cert.AdamOutBIdeal.main_arg0) = m ((c.tc : Thread Cert.AdamOutBIdeal.nD Cert.AdamOutBIdeal.τ).loc Cert.AdamOutBIdeal.main_arg0)
      ∧ r.2.mem ((c.tc : Thread Cert.AdamOutBIdeal.nD Cert.AdamOutBIdeal.τ).loc Cert.AdamOutBIdeal.main_arg1) = m ((c.tc : Thread Cert.AdamOutBIdeal.nD Cert.AdamOutBIdeal.τ).loc Cert.AdamOutBIdeal.main_arg1)
      ∧ r.2.mem ((c.tc : Thread Cert.AdamOutBIdeal.nD Cert.AdamOutBIdeal.τ).loc Cert.AdamOutBIdeal.main_arg2) = m ((c.tc : Thread Cert.AdamOutBIdeal.nD Cert.AdamOutBIdeal.τ).loc Cert.AdamOutBIdeal.main_arg2)
      ∧ r.2.mem ((c.tc : Thread Cert.AdamOutBIdeal.nD Cert.AdamOutBIdeal.τ).loc Cert.AdamOutBIdeal.main_arg3) = m ((c.tc : Thread Cert.AdamOutBIdeal.nD Cert.AdamOutBIdeal.τ).loc Cert.AdamOutBIdeal.main_arg3))
      ∧ r.2.sem = fun _ => 0)

def quiescent_AdamOutBRefIdeal [hAdamOutBRefIdeal : Cert.AdamOutBRefIdeal.Facts] : Prop :=
  ∀ (m : (ℓ : Loc Cert.AdamOutBRefIdeal.nD Cert.AdamOutBRefIdeal.τ Cert.AdamOutBRefIdeal.sig) → Buf (Elt Ideal) ℓ) (g : Dev Cert.AdamOutBRefIdeal.nD → PrngReg), Pre_AdamOutBRefIdeal m →
    θ_run (Cert.AdamOutBRefIdeal.defs (F := Ideal)) (onTc (τ := Cert.AdamOutBRefIdeal.τ) (Cert.AdamOutBRefIdeal.main (F := Ideal))) ⟨m, fun _ => 0, g⟩ (fun r => (∀ c : Dev Cert.AdamOutBRefIdeal.nD,
      r.2.mem ((c.tc : Thread Cert.AdamOutBRefIdeal.nD Cert.AdamOutBRefIdeal.τ).loc Cert.AdamOutBRefIdeal.main_arg0) = m ((c.tc : Thread Cert.AdamOutBRefIdeal.nD Cert.AdamOutBRefIdeal.τ).loc Cert.AdamOutBRefIdeal.main_arg0)
      ∧ r.2.mem ((c.tc : Thread Cert.AdamOutBRefIdeal.nD Cert.AdamOutBRefIdeal.τ).loc Cert.AdamOutBRefIdeal.main_arg1) = m ((c.tc : Thread Cert.AdamOutBRefIdeal.nD Cert.AdamOutBRefIdeal.τ).loc Cert.AdamOutBRefIdeal.main_arg1)
      ∧ r.2.mem ((c.tc : Thread Cert.AdamOutBRefIdeal.nD Cert.AdamOutBRefIdeal.τ).loc Cert.AdamOutBRefIdeal.main_arg2) = m ((c.tc : Thread Cert.AdamOutBRefIdeal.nD Cert.AdamOutBRefIdeal.τ).loc Cert.AdamOutBRefIdeal.main_arg2)
      ∧ r.2.mem ((c.tc : Thread Cert.AdamOutBRefIdeal.nD Cert.AdamOutBRefIdeal.τ).loc Cert.AdamOutBRefIdeal.main_arg3) = m ((c.tc : Thread Cert.AdamOutBRefIdeal.nD Cert.AdamOutBRefIdeal.τ).loc Cert.AdamOutBRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Norm0Bwd [hNorm0Bwd : Cert.Norm0Bwd.Facts] : Prop :=
  ∀ (m : (ℓ : Loc Cert.Norm0Bwd.nD Cert.Norm0Bwd.τ Cert.Norm0Bwd.sig) → Buf (Elt Bits) ℓ) (g : Dev Cert.Norm0Bwd.nD → PrngReg), Pre_Norm0Bwd m →
    θ_run (Cert.Norm0Bwd.defs (F := Bits)) (onTc (τ := Cert.Norm0Bwd.τ) (Cert.Norm0Bwd.main (F := Bits))) ⟨m, fun _ => 0, g⟩ (fun r => (∀ c : Dev Cert.Norm0Bwd.nD,
      r.2.mem ((c.tc : Thread Cert.Norm0Bwd.nD Cert.Norm0Bwd.τ).loc Cert.Norm0Bwd.main_arg0) = m ((c.tc : Thread Cert.Norm0Bwd.nD Cert.Norm0Bwd.τ).loc Cert.Norm0Bwd.main_arg0)
      ∧ r.2.mem ((c.tc : Thread Cert.Norm0Bwd.nD Cert.Norm0Bwd.τ).loc Cert.Norm0Bwd.main_arg1) = m ((c.tc : Thread Cert.Norm0Bwd.nD Cert.Norm0Bwd.τ).loc Cert.Norm0Bwd.main_arg1)
      ∧ r.2.mem ((c.tc : Thread Cert.Norm0Bwd.nD Cert.Norm0Bwd.τ).loc Cert.Norm0Bwd.main_arg2) = m ((c.tc : Thread Cert.Norm0Bwd.nD Cert.Norm0Bwd.τ).loc Cert.Norm0Bwd.main_arg2)
      ∧ r.2.mem ((c.tc : Thread Cert.Norm0Bwd.nD Cert.Norm0Bwd.τ).loc Cert.Norm0Bwd.main_arg3) = m ((c.tc : Thread Cert.Norm0Bwd.nD Cert.Norm0Bwd.τ).loc Cert.Norm0Bwd.main_arg3))
      ∧ r.2.sem = fun _ => 0)

def quiescent_Norm0BwdIdeal [hNorm0BwdIdeal : Cert.Norm0BwdIdeal.Facts] : Prop :=
  ∀ (m : (ℓ : Loc Cert.Norm0BwdIdeal.nD Cert.Norm0BwdIdeal.τ Cert.Norm0BwdIdeal.sig) → Buf (Elt Ideal) ℓ) (g : Dev Cert.Norm0BwdIdeal.nD → PrngReg), Pre_Norm0BwdIdeal m →
    θ_run (Cert.Norm0BwdIdeal.defs (F := Ideal)) (onTc (τ := Cert.Norm0BwdIdeal.τ) (Cert.Norm0BwdIdeal.main (F := Ideal))) ⟨m, fun _ => 0, g⟩ (fun r => (∀ c : Dev Cert.Norm0BwdIdeal.nD,
      r.2.mem ((c.tc : Thread Cert.Norm0BwdIdeal.nD Cert.Norm0BwdIdeal.τ).loc Cert.Norm0BwdIdeal.main_arg0) = m ((c.tc : Thread Cert.Norm0BwdIdeal.nD Cert.Norm0BwdIdeal.τ).loc Cert.Norm0BwdIdeal.main_arg0)
      ∧ r.2.mem ((c.tc : Thread Cert.Norm0BwdIdeal.nD Cert.Norm0BwdIdeal.τ).loc Cert.Norm0BwdIdeal.main_arg1) = m ((c.tc : Thread Cert.Norm0BwdIdeal.nD Cert.Norm0BwdIdeal.τ).loc Cert.Norm0BwdIdeal.main_arg1)
      ∧ r.2.mem ((c.tc : Thread Cert.Norm0BwdIdeal.nD Cert.Norm0BwdIdeal.τ).loc Cert.Norm0BwdIdeal.main_arg2) = m ((c.tc : Thread Cert.Norm0BwdIdeal.nD Cert.Norm0BwdIdeal.τ).loc Cert.Norm0BwdIdeal.main_arg2)
      ∧ r.2.mem ((c.tc : Thread Cert.Norm0BwdIdeal.nD Cert.Norm0BwdIdeal.τ).loc Cert.Norm0BwdIdeal.main_arg3) = m ((c.tc : Thread Cert.Norm0BwdIdeal.nD Cert.Norm0BwdIdeal.τ).loc Cert.Norm0BwdIdeal.main_arg3))
      ∧ r.2.sem = fun _ => 0)

def quiescent_Norm0BwdRefIdeal [hNorm0BwdRefIdeal : Cert.Norm0BwdRefIdeal.Facts] : Prop :=
  ∀ (m : (ℓ : Loc Cert.Norm0BwdRefIdeal.nD Cert.Norm0BwdRefIdeal.τ Cert.Norm0BwdRefIdeal.sig) → Buf (Elt Ideal) ℓ) (g : Dev Cert.Norm0BwdRefIdeal.nD → PrngReg), Pre_Norm0BwdRefIdeal m →
    θ_run (Cert.Norm0BwdRefIdeal.defs (F := Ideal)) (onTc (τ := Cert.Norm0BwdRefIdeal.τ) (Cert.Norm0BwdRefIdeal.main (F := Ideal))) ⟨m, fun _ => 0, g⟩ (fun r => (∀ c : Dev Cert.Norm0BwdRefIdeal.nD,
      r.2.mem ((c.tc : Thread Cert.Norm0BwdRefIdeal.nD Cert.Norm0BwdRefIdeal.τ).loc Cert.Norm0BwdRefIdeal.main_arg0) = m ((c.tc : Thread Cert.Norm0BwdRefIdeal.nD Cert.Norm0BwdRefIdeal.τ).loc Cert.Norm0BwdRefIdeal.main_arg0)
      ∧ r.2.mem ((c.tc : Thread Cert.Norm0BwdRefIdeal.nD Cert.Norm0BwdRefIdeal.τ).loc Cert.Norm0BwdRefIdeal.main_arg1) = m ((c.tc : Thread Cert.Norm0BwdRefIdeal.nD Cert.Norm0BwdRefIdeal.τ).loc Cert.Norm0BwdRefIdeal.main_arg1)
      ∧ r.2.mem ((c.tc : Thread Cert.Norm0BwdRefIdeal.nD Cert.Norm0BwdRefIdeal.τ).loc Cert.Norm0BwdRefIdeal.main_arg2) = m ((c.tc : Thread Cert.Norm0BwdRefIdeal.nD Cert.Norm0BwdRefIdeal.τ).loc Cert.Norm0BwdRefIdeal.main_arg2)
      ∧ r.2.mem ((c.tc : Thread Cert.Norm0BwdRefIdeal.nD Cert.Norm0BwdRefIdeal.τ).loc Cert.Norm0BwdRefIdeal.main_arg3) = m ((c.tc : Thread Cert.Norm0BwdRefIdeal.nD Cert.Norm0BwdRefIdeal.τ).loc Cert.Norm0BwdRefIdeal.main_arg3))
      ∧ r.2.sem = fun _ => 0)

def quiescent_PleNormBwd [hPleNormBwd : Cert.PleNormBwd.Facts] : Prop :=
  ∀ (m : (ℓ : Loc Cert.PleNormBwd.nD Cert.PleNormBwd.τ Cert.PleNormBwd.sig) → Buf (Elt Bits) ℓ) (g : Dev Cert.PleNormBwd.nD → PrngReg), Pre_PleNormBwd m →
    θ_run (Cert.PleNormBwd.defs (F := Bits)) (onTc (τ := Cert.PleNormBwd.τ) (Cert.PleNormBwd.main (F := Bits))) ⟨m, fun _ => 0, g⟩ (fun r => (∀ c : Dev Cert.PleNormBwd.nD,
      r.2.mem ((c.tc : Thread Cert.PleNormBwd.nD Cert.PleNormBwd.τ).loc Cert.PleNormBwd.main_arg0) = m ((c.tc : Thread Cert.PleNormBwd.nD Cert.PleNormBwd.τ).loc Cert.PleNormBwd.main_arg0)
      ∧ r.2.mem ((c.tc : Thread Cert.PleNormBwd.nD Cert.PleNormBwd.τ).loc Cert.PleNormBwd.main_arg1) = m ((c.tc : Thread Cert.PleNormBwd.nD Cert.PleNormBwd.τ).loc Cert.PleNormBwd.main_arg1)
      ∧ r.2.mem ((c.tc : Thread Cert.PleNormBwd.nD Cert.PleNormBwd.τ).loc Cert.PleNormBwd.main_arg2) = m ((c.tc : Thread Cert.PleNormBwd.nD Cert.PleNormBwd.τ).loc Cert.PleNormBwd.main_arg2)
      ∧ r.2.mem ((c.tc : Thread Cert.PleNormBwd.nD Cert.PleNormBwd.τ).loc Cert.PleNormBwd.main_arg3) = m ((c.tc : Thread Cert.PleNormBwd.nD Cert.PleNormBwd.τ).loc Cert.PleNormBwd.main_arg3))
      ∧ r.2.sem = fun _ => 0)

def quiescent_PleNormBwdIdeal [hPleNormBwdIdeal : Cert.PleNormBwdIdeal.Facts] : Prop :=
  ∀ (m : (ℓ : Loc Cert.PleNormBwdIdeal.nD Cert.PleNormBwdIdeal.τ Cert.PleNormBwdIdeal.sig) → Buf (Elt Ideal) ℓ) (g : Dev Cert.PleNormBwdIdeal.nD → PrngReg), Pre_PleNormBwdIdeal m →
    θ_run (Cert.PleNormBwdIdeal.defs (F := Ideal)) (onTc (τ := Cert.PleNormBwdIdeal.τ) (Cert.PleNormBwdIdeal.main (F := Ideal))) ⟨m, fun _ => 0, g⟩ (fun r => (∀ c : Dev Cert.PleNormBwdIdeal.nD,
      r.2.mem ((c.tc : Thread Cert.PleNormBwdIdeal.nD Cert.PleNormBwdIdeal.τ).loc Cert.PleNormBwdIdeal.main_arg0) = m ((c.tc : Thread Cert.PleNormBwdIdeal.nD Cert.PleNormBwdIdeal.τ).loc Cert.PleNormBwdIdeal.main_arg0)
      ∧ r.2.mem ((c.tc : Thread Cert.PleNormBwdIdeal.nD Cert.PleNormBwdIdeal.τ).loc Cert.PleNormBwdIdeal.main_arg1) = m ((c.tc : Thread Cert.PleNormBwdIdeal.nD Cert.PleNormBwdIdeal.τ).loc Cert.PleNormBwdIdeal.main_arg1)
      ∧ r.2.mem ((c.tc : Thread Cert.PleNormBwdIdeal.nD Cert.PleNormBwdIdeal.τ).loc Cert.PleNormBwdIdeal.main_arg2) = m ((c.tc : Thread Cert.PleNormBwdIdeal.nD Cert.PleNormBwdIdeal.τ).loc Cert.PleNormBwdIdeal.main_arg2)
      ∧ r.2.mem ((c.tc : Thread Cert.PleNormBwdIdeal.nD Cert.PleNormBwdIdeal.τ).loc Cert.PleNormBwdIdeal.main_arg3) = m ((c.tc : Thread Cert.PleNormBwdIdeal.nD Cert.PleNormBwdIdeal.τ).loc Cert.PleNormBwdIdeal.main_arg3))
      ∧ r.2.sem = fun _ => 0)

def quiescent_PleNormBwdRefIdeal [hPleNormBwdRefIdeal : Cert.PleNormBwdRefIdeal.Facts] : Prop :=
  ∀ (m : (ℓ : Loc Cert.PleNormBwdRefIdeal.nD Cert.PleNormBwdRefIdeal.τ Cert.PleNormBwdRefIdeal.sig) → Buf (Elt Ideal) ℓ) (g : Dev Cert.PleNormBwdRefIdeal.nD → PrngReg), Pre_PleNormBwdRefIdeal m →
    θ_run (Cert.PleNormBwdRefIdeal.defs (F := Ideal)) (onTc (τ := Cert.PleNormBwdRefIdeal.τ) (Cert.PleNormBwdRefIdeal.main (F := Ideal))) ⟨m, fun _ => 0, g⟩ (fun r => (∀ c : Dev Cert.PleNormBwdRefIdeal.nD,
      r.2.mem ((c.tc : Thread Cert.PleNormBwdRefIdeal.nD Cert.PleNormBwdRefIdeal.τ).loc Cert.PleNormBwdRefIdeal.main_arg0) = m ((c.tc : Thread Cert.PleNormBwdRefIdeal.nD Cert.PleNormBwdRefIdeal.τ).loc Cert.PleNormBwdRefIdeal.main_arg0)
      ∧ r.2.mem ((c.tc : Thread Cert.PleNormBwdRefIdeal.nD Cert.PleNormBwdRefIdeal.τ).loc Cert.PleNormBwdRefIdeal.main_arg1) = m ((c.tc : Thread Cert.PleNormBwdRefIdeal.nD Cert.PleNormBwdRefIdeal.τ).loc Cert.PleNormBwdRefIdeal.main_arg1)
      ∧ r.2.mem ((c.tc : Thread Cert.PleNormBwdRefIdeal.nD Cert.PleNormBwdRefIdeal.τ).loc Cert.PleNormBwdRefIdeal.main_arg2) = m ((c.tc : Thread Cert.PleNormBwdRefIdeal.nD Cert.PleNormBwdRefIdeal.τ).loc Cert.PleNormBwdRefIdeal.main_arg2)
      ∧ r.2.mem ((c.tc : Thread Cert.PleNormBwdRefIdeal.nD Cert.PleNormBwdRefIdeal.τ).loc Cert.PleNormBwdRefIdeal.main_arg3) = m ((c.tc : Thread Cert.PleNormBwdRefIdeal.nD Cert.PleNormBwdRefIdeal.τ).loc Cert.PleNormBwdRefIdeal.main_arg3))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4)
      ∧ r.2.mem ((c.tc : Thread Cert.Norm1Bwd.nD Cert.Norm1Bwd.τ).loc Cert.Norm1Bwd.main_arg5) = m ((c.tc : Thread Cert.Norm1Bwd.nD Cert.Norm1Bwd.τ).loc Cert.Norm1Bwd.main_arg5)
      ∧ r.2.mem ((c.tc : Thread Cert.Norm1Bwd.nD Cert.Norm1Bwd.τ).loc Cert.Norm1Bwd.main_arg6) = m ((c.tc : Thread Cert.Norm1Bwd.nD Cert.Norm1Bwd.τ).loc Cert.Norm1Bwd.main_arg6)
      ∧ r.2.mem ((c.tc : Thread Cert.Norm1Bwd.nD Cert.Norm1Bwd.τ).loc Cert.Norm1Bwd.main_arg7) = m ((c.tc : Thread Cert.Norm1Bwd.nD Cert.Norm1Bwd.τ).loc Cert.Norm1Bwd.main_arg7))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5)
      ∧ r.2.mem ((c.tc : Thread Cert.Norm1BwdIdeal.nD Cert.Norm1BwdIdeal.τ).loc Cert.Norm1BwdIdeal.main_arg6) = m ((c.tc : Thread Cert.Norm1BwdIdeal.nD Cert.Norm1BwdIdeal.τ).loc Cert.Norm1BwdIdeal.main_arg6)
      ∧ r.2.mem ((c.tc : Thread Cert.Norm1BwdIdeal.nD Cert.Norm1BwdIdeal.τ).loc Cert.Norm1BwdIdeal.main_arg7) = m ((c.tc : Thread Cert.Norm1BwdIdeal.nD Cert.Norm1BwdIdeal.τ).loc Cert.Norm1BwdIdeal.main_arg7))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4)
      ∧ r.2.mem ((c.tc : Thread Cert.Norm1BwdRefIdeal.nD Cert.Norm1BwdRefIdeal.τ).loc Cert.Norm1BwdRefIdeal.main_arg5) = m ((c.tc : Thread Cert.Norm1BwdRefIdeal.nD Cert.Norm1BwdRefIdeal.τ).loc Cert.Norm1BwdRefIdeal.main_arg5)
      ∧ r.2.mem ((c.tc : Thread Cert.Norm1BwdRefIdeal.nD Cert.Norm1BwdRefIdeal.τ).loc Cert.Norm1BwdRefIdeal.main_arg6) = m ((c.tc : Thread Cert.Norm1BwdRefIdeal.nD Cert.Norm1BwdRefIdeal.τ).loc Cert.Norm1BwdRefIdeal.main_arg6)
      ∧ r.2.mem ((c.tc : Thread Cert.Norm1BwdRefIdeal.nD Cert.Norm1BwdRefIdeal.τ).loc Cert.Norm1BwdRefIdeal.main_arg7) = m ((c.tc : Thread Cert.Norm1BwdRefIdeal.nD Cert.Norm1BwdRefIdeal.τ).loc Cert.Norm1BwdRefIdeal.main_arg7))
      ∧ r.2.sem = fun _ => 0)

def quiescent_Norm0 [hNorm0 : Cert.Norm0.Facts] : Prop :=
  ∀ (m : (ℓ : Loc Cert.Norm0.nD Cert.Norm0.τ Cert.Norm0.sig) → Buf (Elt Bits) ℓ) (g : Dev Cert.Norm0.nD → PrngReg), Pre_Norm0 m →
    θ_run (Cert.Norm0.defs (F := Bits)) (onTc (τ := Cert.Norm0.τ) (Cert.Norm0.main (F := Bits))) ⟨m, fun _ => 0, g⟩ (fun r => (∀ c : Dev Cert.Norm0.nD,
      r.2.mem ((c.tc : Thread Cert.Norm0.nD Cert.Norm0.τ).loc Cert.Norm0.main_arg0) = m ((c.tc : Thread Cert.Norm0.nD Cert.Norm0.τ).loc Cert.Norm0.main_arg0)
      ∧ r.2.mem ((c.tc : Thread Cert.Norm0.nD Cert.Norm0.τ).loc Cert.Norm0.main_arg1) = m ((c.tc : Thread Cert.Norm0.nD Cert.Norm0.τ).loc Cert.Norm0.main_arg1))
      ∧ r.2.sem = fun _ => 0)

def quiescent_Norm0Ideal [hNorm0Ideal : Cert.Norm0Ideal.Facts] : Prop :=
  ∀ (m : (ℓ : Loc Cert.Norm0Ideal.nD Cert.Norm0Ideal.τ Cert.Norm0Ideal.sig) → Buf (Elt Ideal) ℓ) (g : Dev Cert.Norm0Ideal.nD → PrngReg), Pre_Norm0Ideal m →
    θ_run (Cert.Norm0Ideal.defs (F := Ideal)) (onTc (τ := Cert.Norm0Ideal.τ) (Cert.Norm0Ideal.main (F := Ideal))) ⟨m, fun _ => 0, g⟩ (fun r => (∀ c : Dev Cert.Norm0Ideal.nD,
      r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
      ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1))
      ∧ r.2.sem = fun _ => 0)

def quiescent_Norm0RefIdeal [hNorm0RefIdeal : Cert.Norm0RefIdeal.Facts] : Prop :=
  ∀ (m : (ℓ : Loc Cert.Norm0RefIdeal.nD Cert.Norm0RefIdeal.τ Cert.Norm0RefIdeal.sig) → Buf (Elt Ideal) ℓ) (g : Dev Cert.Norm0RefIdeal.nD → PrngReg), Pre_Norm0RefIdeal m →
    θ_run (Cert.Norm0RefIdeal.defs (F := Ideal)) (onTc (τ := Cert.Norm0RefIdeal.τ) (Cert.Norm0RefIdeal.main (F := Ideal))) ⟨m, fun _ => 0, g⟩ (fun r => (∀ c : Dev Cert.Norm0RefIdeal.nD,
      r.2.mem ((c.tc : Thread Cert.Norm0RefIdeal.nD Cert.Norm0RefIdeal.τ).loc Cert.Norm0RefIdeal.main_arg0) = m ((c.tc : Thread Cert.Norm0RefIdeal.nD Cert.Norm0RefIdeal.τ).loc Cert.Norm0RefIdeal.main_arg0)
      ∧ r.2.mem ((c.tc : Thread Cert.Norm0RefIdeal.nD Cert.Norm0RefIdeal.τ).loc Cert.Norm0RefIdeal.main_arg1) = m ((c.tc : Thread Cert.Norm0RefIdeal.nD Cert.Norm0RefIdeal.τ).loc Cert.Norm0RefIdeal.main_arg1))
      ∧ r.2.sem = fun _ => 0)

def quiescent_PleNorm [hPleNorm : Cert.PleNorm.Facts] : Prop :=
  ∀ (m : (ℓ : Loc Cert.PleNorm.nD Cert.PleNorm.τ Cert.PleNorm.sig) → Buf (Elt Bits) ℓ) (g : Dev Cert.PleNorm.nD → PrngReg), Pre_PleNorm m →
    θ_run (Cert.PleNorm.defs (F := Bits)) (onTc (τ := Cert.PleNorm.τ) (Cert.PleNorm.main (F := Bits))) ⟨m, fun _ => 0, g⟩ (fun r => (∀ c : Dev Cert.PleNorm.nD,
      r.2.mem ((c.tc : Thread Cert.PleNorm.nD Cert.PleNorm.τ).loc Cert.PleNorm.main_arg0) = m ((c.tc : Thread Cert.PleNorm.nD Cert.PleNorm.τ).loc Cert.PleNorm.main_arg0)
      ∧ r.2.mem ((c.tc : Thread Cert.PleNorm.nD Cert.PleNorm.τ).loc Cert.PleNorm.main_arg1) = m ((c.tc : Thread Cert.PleNorm.nD Cert.PleNorm.τ).loc Cert.PleNorm.main_arg1)
      ∧ r.2.mem ((c.tc : Thread Cert.PleNorm.nD Cert.PleNorm.τ).loc Cert.PleNorm.main_arg2) = m ((c.tc : Thread Cert.PleNorm.nD Cert.PleNorm.τ).loc Cert.PleNorm.main_arg2)
      ∧ r.2.mem ((c.tc : Thread Cert.PleNorm.nD Cert.PleNorm.τ).loc Cert.PleNorm.main_arg3) = m ((c.tc : Thread Cert.PleNorm.nD Cert.PleNorm.τ).loc Cert.PleNorm.main_arg3)
      ∧ r.2.mem ((c.tc : Thread Cert.PleNorm.nD Cert.PleNorm.τ).loc Cert.PleNorm.main_arg4) = m ((c.tc : Thread Cert.PleNorm.nD Cert.PleNorm.τ).loc Cert.PleNorm.main_arg4))
      ∧ r.2.sem = fun _ => 0)

def quiescent_PleNormIdeal [hPleNormIdeal : Cert.PleNormIdeal.Facts] : Prop :=
  ∀ (m : (ℓ : Loc Cert.PleNormIdeal.nD Cert.PleNormIdeal.τ Cert.PleNormIdeal.sig) → Buf (Elt Ideal) ℓ) (g : Dev Cert.PleNormIdeal.nD → PrngReg), Pre_PleNormIdeal m →
    θ_run (Cert.PleNormIdeal.defs (F := Ideal)) (onTc (τ := Cert.PleNormIdeal.τ) (Cert.PleNormIdeal.main (F := Ideal))) ⟨m, fun _ => 0, g⟩ (fun r => (∀ c : Dev Cert.PleNormIdeal.nD,
      r.2.mem ((c.tc : Thread Cert.PleNormIdeal.nD Cert.PleNormIdeal.τ).loc Cert.PleNormIdeal.main_arg0) = m ((c.tc : Thread Cert.PleNormIdeal.nD Cert.PleNormIdeal.τ).loc Cert.PleNormIdeal.main_arg0)
      ∧ r.2.mem ((c.tc : Thread Cert.PleNormIdeal.nD Cert.PleNormIdeal.τ).loc Cert.PleNormIdeal.main_arg1) = m ((c.tc : Thread Cert.PleNormIdeal.nD Cert.PleNormIdeal.τ).loc Cert.PleNormIdeal.main_arg1)
      ∧ r.2.mem ((c.tc : Thread Cert.PleNormIdeal.nD Cert.PleNormIdeal.τ).loc Cert.PleNormIdeal.main_arg2) = m ((c.tc : Thread Cert.PleNormIdeal.nD Cert.PleNormIdeal.τ).loc Cert.PleNormIdeal.main_arg2)
      ∧ r.2.mem ((c.tc : Thread Cert.PleNormIdeal.nD Cert.PleNormIdeal.τ).loc Cert.PleNormIdeal.main_arg3) = m ((c.tc : Thread Cert.PleNormIdeal.nD Cert.PleNormIdeal.τ).loc Cert.PleNormIdeal.main_arg3)
      ∧ r.2.mem ((c.tc : Thread Cert.PleNormIdeal.nD Cert.PleNormIdeal.τ).loc Cert.PleNormIdeal.main_arg4) = m ((c.tc : Thread Cert.PleNormIdeal.nD Cert.PleNormIdeal.τ).loc Cert.PleNormIdeal.main_arg4))
      ∧ r.2.sem = fun _ => 0)

def quiescent_PleNormRefIdeal [hPleNormRefIdeal : Cert.PleNormRefIdeal.Facts] : Prop :=
  ∀ (m : (ℓ : Loc Cert.PleNormRefIdeal.nD Cert.PleNormRefIdeal.τ Cert.PleNormRefIdeal.sig) → Buf (Elt Ideal) ℓ) (g : Dev Cert.PleNormRefIdeal.nD → PrngReg), Pre_PleNormRefIdeal m →
    θ_run (Cert.PleNormRefIdeal.defs (F := Ideal)) (onTc (τ := Cert.PleNormRefIdeal.τ) (Cert.PleNormRefIdeal.main (F := Ideal))) ⟨m, fun _ => 0, g⟩ (fun r => (∀ c : Dev Cert.PleNormRefIdeal.nD,
      r.2.mem ((c.tc : Thread Cert.PleNormRefIdeal.nD Cert.PleNormRefIdeal.τ).loc Cert.PleNormRefIdeal.main_arg0) = m ((c.tc : Thread Cert.PleNormRefIdeal.nD Cert.PleNormRefIdeal.τ).loc Cert.PleNormRefIdeal.main_arg0)
      ∧ r.2.mem ((c.tc : Thread Cert.PleNormRefIdeal.nD Cert.PleNormRefIdeal.τ).loc Cert.PleNormRefIdeal.main_arg1) = m ((c.tc : Thread Cert.PleNormRefIdeal.nD Cert.PleNormRefIdeal.τ).loc Cert.PleNormRefIdeal.main_arg1)
      ∧ r.2.mem ((c.tc : Thread Cert.PleNormRefIdeal.nD Cert.PleNormRefIdeal.τ).loc Cert.PleNormRefIdeal.main_arg2) = m ((c.tc : Thread Cert.PleNormRefIdeal.nD Cert.PleNormRefIdeal.τ).loc Cert.PleNormRefIdeal.main_arg2)
      ∧ r.2.mem ((c.tc : Thread Cert.PleNormRefIdeal.nD Cert.PleNormRefIdeal.τ).loc Cert.PleNormRefIdeal.main_arg3) = m ((c.tc : Thread Cert.PleNormRefIdeal.nD Cert.PleNormRefIdeal.τ).loc Cert.PleNormRefIdeal.main_arg3)
      ∧ r.2.mem ((c.tc : Thread Cert.PleNormRefIdeal.nD Cert.PleNormRefIdeal.τ).loc Cert.PleNormRefIdeal.main_arg4) = m ((c.tc : Thread Cert.PleNormRefIdeal.nD Cert.PleNormRefIdeal.τ).loc Cert.PleNormRefIdeal.main_arg4))
      ∧ r.2.sem = fun _ => 0)

def quiescent_DUFirst [hDUFirst : Cert.DUFirst.Facts] : Prop :=
  ∀ (m : (ℓ : Loc Cert.DUFirst.nD Cert.DUFirst.τ Cert.DUFirst.sig) → Buf (Elt Bits) ℓ) (g : Dev Cert.DUFirst.nD → PrngReg), Pre_DUFirst m →
    θ_run (Cert.DUFirst.defs (F := Bits)) (onTc (τ := Cert.DUFirst.τ) (Cert.DUFirst.main (F := Bits))) ⟨m, fun _ => 0, g⟩ (fun r => (∀ c : Dev Cert.DUFirst.nD,
      r.2.mem ((c.tc : Thread Cert.DUFirst.nD Cert.DUFirst.τ).loc Cert.DUFirst.main_arg0) = m ((c.tc : Thread Cert.DUFirst.nD Cert.DUFirst.τ).loc Cert.DUFirst.main_arg0)
      ∧ r.2.mem ((c.tc : Thread Cert.DUFirst.nD Cert.DUFirst.τ).loc Cert.DUFirst.main_arg1) = m ((c.tc : Thread Cert.DUFirst.nD Cert.DUFirst.τ).loc Cert.DUFirst.main_arg1))
      ∧ r.2.sem = fun _ => 0)

def quiescent_DUFirstIdeal [hDUFirstIdeal : Cert.DUFirstIdeal.Facts] : Prop :=
  ∀ (m : (ℓ : Loc Cert.DUFirstIdeal.nD Cert.DUFirstIdeal.τ Cert.DUFirstIdeal.sig) → Buf (Elt Ideal) ℓ) (g : Dev Cert.DUFirstIdeal.nD → PrngReg), Pre_DUFirstIdeal m →
    θ_run (Cert.DUFirstIdeal.defs (F := Ideal)) (onTc (τ := Cert.DUFirstIdeal.τ) (Cert.DUFirstIdeal.main (F := Ideal))) ⟨m, fun _ => 0, g⟩ (fun r => (∀ c : Dev Cert.DUFirstIdeal.nD,
      r.2.mem ((c.tc : Thread Cert.DUFirstIdeal.nD Cert.DUFirstIdeal.τ).loc Cert.DUFirstIdeal.main_arg0) = m ((c.tc : Thread Cert.DUFirstIdeal.nD Cert.DUFirstIdeal.τ).loc Cert.DUFirstIdeal.main_arg0)
      ∧ r.2.mem ((c.tc : Thread Cert.DUFirstIdeal.nD Cert.DUFirstIdeal.τ).loc Cert.DUFirstIdeal.main_arg1) = m ((c.tc : Thread Cert.DUFirstIdeal.nD Cert.DUFirstIdeal.τ).loc Cert.DUFirstIdeal.main_arg1))
      ∧ r.2.sem = fun _ => 0)

def quiescent_DUFirstRefIdeal [hDUFirstRefIdeal : Cert.DUFirstRefIdeal.Facts] : Prop :=
  ∀ (m : (ℓ : Loc Cert.DUFirstRefIdeal.nD Cert.DUFirstRefIdeal.τ Cert.DUFirstRefIdeal.sig) → Buf (Elt Ideal) ℓ) (g : Dev Cert.DUFirstRefIdeal.nD → PrngReg), Pre_DUFirstRefIdeal m →
    θ_run (Cert.DUFirstRefIdeal.defs (F := Ideal)) (onTc (τ := Cert.DUFirstRefIdeal.τ) (Cert.DUFirstRefIdeal.main (F := Ideal))) ⟨m, fun _ => 0, g⟩ (fun r => (∀ c : Dev Cert.DUFirstRefIdeal.nD,
      r.2.mem ((c.tc : Thread Cert.DUFirstRefIdeal.nD Cert.DUFirstRefIdeal.τ).loc Cert.DUFirstRefIdeal.main_arg0) = m ((c.tc : Thread Cert.DUFirstRefIdeal.nD Cert.DUFirstRefIdeal.τ).loc Cert.DUFirstRefIdeal.main_arg0)
      ∧ r.2.mem ((c.tc : Thread Cert.DUFirstRefIdeal.nD Cert.DUFirstRefIdeal.τ).loc Cert.DUFirstRefIdeal.main_arg1) = m ((c.tc : Thread Cert.DUFirstRefIdeal.nD Cert.DUFirstRefIdeal.τ).loc Cert.DUFirstRefIdeal.main_arg1))
      ∧ r.2.sem = fun _ => 0)

def preserves_LnGate_LnGateIdeal : Prop :=
  True

def algebraic_LnGateIdeal_LnGateRefIdeal_pre_ln_gate_finite [hLnGateIdeal : Cert.LnGateIdeal.Facts] [hLnGateRefIdeal : Cert.LnGateRefIdeal.Facts] [hPre_ln_gate_finite : Cert.Pre_ln_gate_finite.Facts] : Prop :=
  ∀ (m : (ℓ : Loc Cert.LnGateIdeal.nD Cert.LnGateIdeal.τ Cert.LnGateIdeal.sig) → Buf (Elt Ideal) ℓ) (g : Dev Cert.LnGateIdeal.nD → PrngReg)
    (m' : (ℓ : Loc Cert.LnGateRefIdeal.nD Cert.LnGateRefIdeal.τ Cert.LnGateRefIdeal.sig) → Buf (Elt Ideal) ℓ) (g' : Dev Cert.LnGateRefIdeal.nD → PrngReg), Pre_LnGateIdeal_ln_gate_finite m →
    (∀ c : Dev Cert.LnGateIdeal.nD,
      m' ((c.tc : Thread Cert.LnGateRefIdeal.nD Cert.LnGateRefIdeal.τ).loc Cert.LnGateRefIdeal.main_arg0) = m ((c.tc : Thread Cert.LnGateIdeal.nD Cert.LnGateIdeal.τ).loc Cert.LnGateIdeal.main_arg0)
      ∧ m' ((c.tc : Thread Cert.LnGateRefIdeal.nD Cert.LnGateRefIdeal.τ).loc Cert.LnGateRefIdeal.main_arg1) = m ((c.tc : Thread Cert.LnGateIdeal.nD Cert.LnGateIdeal.τ).loc Cert.LnGateIdeal.main_arg1)
      ∧ m' ((c.tc : Thread Cert.LnGateRefIdeal.nD Cert.LnGateRefIdeal.τ).loc Cert.LnGateRefIdeal.main_arg2) = m ((c.tc : Thread Cert.LnGateIdeal.nD Cert.LnGateIdeal.τ).loc Cert.LnGateIdeal.main_arg2)
      ∧ m' ((c.tc : Thread Cert.LnGateRefIdeal.nD Cert.LnGateRefIdeal.τ).loc Cert.LnGateRefIdeal.main_arg3) = m ((c.tc : Thread Cert.LnGateIdeal.nD Cert.LnGateIdeal.τ).loc Cert.LnGateIdeal.main_arg3)
      ∧ m' ((c.tc : Thread Cert.LnGateRefIdeal.nD Cert.LnGateRefIdeal.τ).loc Cert.LnGateRefIdeal.main_arg4) = m ((c.tc : Thread Cert.LnGateIdeal.nD Cert.LnGateIdeal.τ).loc Cert.LnGateIdeal.main_arg4)) →
    ∃ (v0 : (c : Dev Cert.LnGateIdeal.nD) → Buf (Elt Ideal) ((c.tc : Thread Cert.LnGateIdeal.nD Cert.LnGateIdeal.τ).loc Cert.LnGateIdeal.main_v0_0)) (v1 : (c : Dev Cert.LnGateIdeal.nD) → Buf (Elt Ideal) ((c.tc : Thread Cert.LnGateIdeal.nD Cert.LnGateIdeal.τ).loc Cert.LnGateIdeal.main_v0_1)) (v2 : (c : Dev Cert.LnGateIdeal.nD) → Buf (Elt Ideal) ((c.tc : Thread Cert.LnGateIdeal.nD Cert.LnGateIdeal.τ).loc Cert.LnGateIdeal.main_v1)) (v3 : (c : Dev Cert.LnGateIdeal.nD) → Buf (Elt Ideal) ((c.tc : Thread Cert.LnGateIdeal.nD Cert.LnGateIdeal.τ).loc Cert.LnGateIdeal.main_v2)) (v4 : (c : Dev Cert.LnGateIdeal.nD) → Buf (Elt Ideal) ((c.tc : Thread Cert.LnGateIdeal.nD Cert.LnGateIdeal.τ).loc Cert.LnGateIdeal.main_v3)),
      θ_run (Cert.LnGateIdeal.defs (F := Ideal)) (onTc (τ := Cert.LnGateIdeal.τ) (Cert.LnGateIdeal.main (F := Ideal))) ⟨m, fun _ => 0, g⟩ (fun r => ∀ c : Dev Cert.LnGateIdeal.nD,
          r.2.mem ((c.tc : Thread Cert.LnGateIdeal.nD Cert.LnGateIdeal.τ).loc Cert.LnGateIdeal.main_v0_0) = v0 c
          ∧ r.2.mem ((c.tc : Thread Cert.LnGateIdeal.nD Cert.LnGateIdeal.τ).loc Cert.LnGateIdeal.main_v0_1) = v1 c
          ∧ r.2.mem ((c.tc : Thread Cert.LnGateIdeal.nD Cert.LnGateIdeal.τ).loc Cert.LnGateIdeal.main_v1) = v2 c
          ∧ r.2.mem ((c.tc : Thread Cert.LnGateIdeal.nD Cert.LnGateIdeal.τ).loc Cert.LnGateIdeal.main_v2) = v3 c
          ∧ r.2.mem ((c.tc : Thread Cert.LnGateIdeal.nD Cert.LnGateIdeal.τ).loc Cert.LnGateIdeal.main_v3) = v4 c
          ∧ r.2.mem ((c.tc : Thread Cert.LnGateIdeal.nD Cert.LnGateIdeal.τ).loc Cert.LnGateIdeal.main_arg0) = m ((c.tc : Thread Cert.LnGateIdeal.nD Cert.LnGateIdeal.τ).loc Cert.LnGateIdeal.main_arg0)
          ∧ r.2.mem ((c.tc : Thread Cert.LnGateIdeal.nD Cert.LnGateIdeal.τ).loc Cert.LnGateIdeal.main_arg1) = m ((c.tc : Thread Cert.LnGateIdeal.nD Cert.LnGateIdeal.τ).loc Cert.LnGateIdeal.main_arg1)
          ∧ r.2.mem ((c.tc : Thread Cert.LnGateIdeal.nD Cert.LnGateIdeal.τ).loc Cert.LnGateIdeal.main_arg2) = m ((c.tc : Thread Cert.LnGateIdeal.nD Cert.LnGateIdeal.τ).loc Cert.LnGateIdeal.main_arg2)
          ∧ r.2.mem ((c.tc : Thread Cert.LnGateIdeal.nD Cert.LnGateIdeal.τ).loc Cert.LnGateIdeal.main_arg3) = m ((c.tc : Thread Cert.LnGateIdeal.nD Cert.LnGateIdeal.τ).loc Cert.LnGateIdeal.main_arg3)
          ∧ r.2.mem ((c.tc : Thread Cert.LnGateIdeal.nD Cert.LnGateIdeal.τ).loc Cert.LnGateIdeal.main_arg4) = m ((c.tc : Thread Cert.LnGateIdeal.nD Cert.LnGateIdeal.τ).loc Cert.LnGateIdeal.main_arg4))
      ∧ θ_run (Cert.LnGateRefIdeal.defs (F := Ideal)) (onTc (τ := Cert.LnGateRefIdeal.τ) (Cert.LnGateRefIdeal.main (F := Ideal))) ⟨m', fun _ => 0, g'⟩ (fun r => ∀ c : Dev Cert.LnGateRefIdeal.nD,
          r.2.mem ((c.tc : Thread Cert.LnGateRefIdeal.nD Cert.LnGateRefIdeal.τ).loc Cert.LnGateRefIdeal.main_v76) = v0 c
          ∧ r.2.mem ((c.tc : Thread Cert.LnGateRefIdeal.nD Cert.LnGateRefIdeal.τ).loc Cert.LnGateRefIdeal.main_v80) = v1 c
          ∧ r.2.mem ((c.tc : Thread Cert.LnGateRefIdeal.nD Cert.LnGateRefIdeal.τ).loc Cert.LnGateRefIdeal.main_v52) = v2 c
          ∧ r.2.mem ((c.tc : Thread Cert.LnGateRefIdeal.nD Cert.LnGateRefIdeal.τ).loc Cert.LnGateRefIdeal.main_v46) = v3 c
          ∧ r.2.mem ((c.tc : Thread Cert.LnGateRefIdeal.nD Cert.LnGateRefIdeal.τ).loc Cert.LnGateRefIdeal.main_v79) = v4 c
          ∧ r.2.mem ((c.tc : Thread Cert.LnGateRefIdeal.nD Cert.LnGateRefIdeal.τ).loc Cert.LnGateRefIdeal.main_arg0) = m' ((c.tc : Thread Cert.LnGateRefIdeal.nD Cert.LnGateRefIdeal.τ).loc Cert.LnGateRefIdeal.main_arg0)
          ∧ r.2.mem ((c.tc : Thread Cert.LnGateRefIdeal.nD Cert.LnGateRefIdeal.τ).loc Cert.LnGateRefIdeal.main_arg1) = m' ((c.tc : Thread Cert.LnGateRefIdeal.nD Cert.LnGateRefIdeal.τ).loc Cert.LnGateRefIdeal.main_arg1)
          ∧ r.2.mem ((c.tc : Thread Cert.LnGateRefIdeal.nD Cert.LnGateRefIdeal.τ).loc Cert.LnGateRefIdeal.main_arg2) = m' ((c.tc : Thread Cert.LnGateRefIdeal.nD Cert.LnGateRefIdeal.τ).loc Cert.LnGateRefIdeal.main_arg2)
          ∧ r.2.mem ((c.tc : Thread Cert.LnGateRefIdeal.nD Cert.LnGateRefIdeal.τ).loc Cert.LnGateRefIdeal.main_arg3) = m' ((c.tc : Thread Cert.LnGateRefIdeal.nD Cert.LnGateRefIdeal.τ).loc Cert.LnGateRefIdeal.main_arg3)
          ∧ r.2.mem ((c.tc : Thread Cert.LnGateRefIdeal.nD Cert.LnGateRefIdeal.τ).loc Cert.LnGateRefIdeal.main_arg4) = m' ((c.tc : Thread Cert.LnGateRefIdeal.nD Cert.LnGateRefIdeal.τ).loc Cert.LnGateRefIdeal.main_arg4))

def preserves_DInA_DInAIdeal : Prop :=
  True

def algebraic_DInAIdeal_DInARefIdeal [hDInAIdeal : Cert.DInAIdeal.Facts] [hDInARefIdeal : Cert.DInARefIdeal.Facts] : Prop :=
  ∀ (m : (ℓ : Loc Cert.DInAIdeal.nD Cert.DInAIdeal.τ Cert.DInAIdeal.sig) → Buf (Elt Ideal) ℓ) (g : Dev Cert.DInAIdeal.nD → PrngReg)
    (m' : (ℓ : Loc Cert.DInARefIdeal.nD Cert.DInARefIdeal.τ Cert.DInARefIdeal.sig) → Buf (Elt Ideal) ℓ) (g' : Dev Cert.DInARefIdeal.nD → PrngReg), Pre_DInAIdeal m →
    (∀ c : Dev Cert.DInAIdeal.nD,
      m' ((c.tc : Thread Cert.DInARefIdeal.nD Cert.DInARefIdeal.τ).loc Cert.DInARefIdeal.main_arg0) = m ((c.tc : Thread Cert.DInAIdeal.nD Cert.DInAIdeal.τ).loc Cert.DInAIdeal.main_arg0)
      ∧ m' ((c.tc : Thread Cert.DInARefIdeal.nD Cert.DInARefIdeal.τ).loc Cert.DInARefIdeal.main_arg1) = m ((c.tc : Thread Cert.DInAIdeal.nD Cert.DInAIdeal.τ).loc Cert.DInAIdeal.main_arg1)) →
    ∃ (v0 : (c : Dev Cert.DInAIdeal.nD) → Buf (Elt Ideal) ((c.tc : Thread Cert.DInAIdeal.nD Cert.DInAIdeal.τ).loc Cert.DInAIdeal.main_v0)),
      θ_run (Cert.DInAIdeal.defs (F := Ideal)) (onTc (τ := Cert.DInAIdeal.τ) (Cert.DInAIdeal.main (F := Ideal))) ⟨m, fun _ => 0, g⟩ (fun r => ∀ c : Dev Cert.DInAIdeal.nD,
          r.2.mem ((c.tc : Thread Cert.DInAIdeal.nD Cert.DInAIdeal.τ).loc Cert.DInAIdeal.main_v0) = v0 c
          ∧ r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
          ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1))
      ∧ θ_run (Cert.DInARefIdeal.defs (F := Ideal)) (onTc (τ := Cert.DInARefIdeal.τ) (Cert.DInARefIdeal.main (F := Ideal))) ⟨m', fun _ => 0, g'⟩ (fun r => ∀ c : Dev Cert.DInARefIdeal.nD,
          r.2.mem ((c.tc : Thread Cert.DInARefIdeal.nD Cert.DInARefIdeal.τ).loc Cert.DInARefIdeal.main_v8) = v0 c
          ∧ r.2.mem ((c.tc : Thread Cert.DInARefIdeal.nD Cert.DInARefIdeal.τ).loc Cert.DInARefIdeal.main_arg0) = m' ((c.tc : Thread Cert.DInARefIdeal.nD Cert.DInARefIdeal.τ).loc Cert.DInARefIdeal.main_arg0)
          ∧ r.2.mem ((c.tc : Thread Cert.DInARefIdeal.nD Cert.DInARefIdeal.τ).loc Cert.DInARefIdeal.main_arg1) = m' ((c.tc : Thread Cert.DInARefIdeal.nD Cert.DInARefIdeal.τ).loc Cert.DInARefIdeal.main_arg1))

def preserves_DInB_DInBIdeal : Prop :=
  True

def algebraic_DInBIdeal_DInBRefIdeal [hDInBIdeal : Cert.DInBIdeal.Facts] [hDInBRefIdeal : Cert.DInBRefIdeal.Facts] : Prop :=
  ∀ (m : (ℓ : Loc Cert.DInBIdeal.nD Cert.DInBIdeal.τ Cert.DInBIdeal.sig) → Buf (Elt Ideal) ℓ) (g : Dev Cert.DInBIdeal.nD → PrngReg)
    (m' : (ℓ : Loc Cert.DInBRefIdeal.nD Cert.DInBRefIdeal.τ Cert.DInBRefIdeal.sig) → Buf (Elt Ideal) ℓ) (g' : Dev Cert.DInBRefIdeal.nD → PrngReg), Pre_DInBIdeal m →
    (∀ c : Dev Cert.DInBIdeal.nD,
      m' ((c.tc : Thread Cert.DInBRefIdeal.nD Cert.DInBRefIdeal.τ).loc Cert.DInBRefIdeal.main_arg0) = m ((c.tc : Thread Cert.DInBIdeal.nD Cert.DInBIdeal.τ).loc Cert.DInBIdeal.main_arg0)
      ∧ m' ((c.tc : Thread Cert.DInBRefIdeal.nD Cert.DInBRefIdeal.τ).loc Cert.DInBRefIdeal.main_arg1) = m ((c.tc : Thread Cert.DInBIdeal.nD Cert.DInBIdeal.τ).loc Cert.DInBIdeal.main_arg1)) →
    ∃ (v0 : (c : Dev Cert.DInBIdeal.nD) → Buf (Elt Ideal) ((c.tc : Thread Cert.DInBIdeal.nD Cert.DInBIdeal.τ).loc Cert.DInBIdeal.main_v0)),
      θ_run (Cert.DInBIdeal.defs (F := Ideal)) (onTc (τ := Cert.DInBIdeal.τ) (Cert.DInBIdeal.main (F := Ideal))) ⟨m, fun _ => 0, g⟩ (fun r => ∀ c : Dev Cert.DInBIdeal.nD,
          r.2.mem ((c.tc : Thread Cert.DInBIdeal.nD Cert.DInBIdeal.τ).loc Cert.DInBIdeal.main_v0) = v0 c
          ∧ r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
          ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1))
      ∧ θ_run (Cert.DInBRefIdeal.defs (F := Ideal)) (onTc (τ := Cert.DInBRefIdeal.τ) (Cert.DInBRefIdeal.main (F := Ideal))) ⟨m', fun _ => 0, g'⟩ (fun r => ∀ c : Dev Cert.DInBRefIdeal.nD,
          r.2.mem ((c.tc : Thread Cert.DInBRefIdeal.nD Cert.DInBRefIdeal.τ).loc Cert.DInBRefIdeal.main_v8) = v0 c
          ∧ r.2.mem ((c.tc : Thread Cert.DInBRefIdeal.nD Cert.DInBRefIdeal.τ).loc Cert.DInBRefIdeal.main_arg0) = m' ((c.tc : Thread Cert.DInBRefIdeal.nD Cert.DInBRefIdeal.τ).loc Cert.DInBRefIdeal.main_arg0)
          ∧ r.2.mem ((c.tc : Thread Cert.DInBRefIdeal.nD Cert.DInBRefIdeal.τ).loc Cert.DInBRefIdeal.main_arg1) = m' ((c.tc : Thread Cert.DInBRefIdeal.nD Cert.DInBRefIdeal.τ).loc Cert.DInBRefIdeal.main_arg1))

def preserves_DKv_DKvIdeal : Prop :=
  True

def algebraic_DKvIdeal_DKvRefIdeal [hDKvIdeal : Cert.DKvIdeal.Facts] [hDKvRefIdeal : Cert.DKvRefIdeal.Facts] : Prop :=
  ∀ (m : (ℓ : Loc Cert.DKvIdeal.nD Cert.DKvIdeal.τ Cert.DKvIdeal.sig) → Buf (Elt Ideal) ℓ) (g : Dev Cert.DKvIdeal.nD → PrngReg)
    (m' : (ℓ : Loc Cert.DKvRefIdeal.nD Cert.DKvRefIdeal.τ Cert.DKvRefIdeal.sig) → Buf (Elt Ideal) ℓ) (g' : Dev Cert.DKvRefIdeal.nD → PrngReg), Pre_DKvIdeal m →
    (∀ c : Dev Cert.DKvIdeal.nD,
      m' ((c.tc : Thread Cert.DKvRefIdeal.nD Cert.DKvRefIdeal.τ).loc Cert.DKvRefIdeal.main_arg0) = m ((c.tc : Thread Cert.DKvIdeal.nD Cert.DKvIdeal.τ).loc Cert.DKvIdeal.main_arg0)
      ∧ m' ((c.tc : Thread Cert.DKvRefIdeal.nD Cert.DKvRefIdeal.τ).loc Cert.DKvRefIdeal.main_arg1) = m ((c.tc : Thread Cert.DKvIdeal.nD Cert.DKvIdeal.τ).loc Cert.DKvIdeal.main_arg1)) →
    ∃ (v0 : (c : Dev Cert.DKvIdeal.nD) → Buf (Elt Ideal) ((c.tc : Thread Cert.DKvIdeal.nD Cert.DKvIdeal.τ).loc Cert.DKvIdeal.main_v0)),
      θ_run (Cert.DKvIdeal.defs (F := Ideal)) (onTc (τ := Cert.DKvIdeal.τ) (Cert.DKvIdeal.main (F := Ideal))) ⟨m, fun _ => 0, g⟩ (fun r => ∀ c : Dev Cert.DKvIdeal.nD,
          r.2.mem ((c.tc : Thread Cert.DKvIdeal.nD Cert.DKvIdeal.τ).loc Cert.DKvIdeal.main_v0) = v0 c
          ∧ r.2.mem ((c.tc : Thread Cert.DKvIdeal.nD Cert.DKvIdeal.τ).loc Cert.DKvIdeal.main_arg0) = m ((c.tc : Thread Cert.DKvIdeal.nD Cert.DKvIdeal.τ).loc Cert.DKvIdeal.main_arg0)
          ∧ r.2.mem ((c.tc : Thread Cert.DKvIdeal.nD Cert.DKvIdeal.τ).loc Cert.DKvIdeal.main_arg1) = m ((c.tc : Thread Cert.DKvIdeal.nD Cert.DKvIdeal.τ).loc Cert.DKvIdeal.main_arg1))
      ∧ θ_run (Cert.DKvRefIdeal.defs (F := Ideal)) (onTc (τ := Cert.DKvRefIdeal.τ) (Cert.DKvRefIdeal.main (F := Ideal))) ⟨m', fun _ => 0, g'⟩ (fun r => ∀ c : Dev Cert.DKvRefIdeal.nD,
          r.2.mem ((c.tc : Thread Cert.DKvRefIdeal.nD Cert.DKvRefIdeal.τ).loc Cert.DKvRefIdeal.main_v8) = v0 c
          ∧ r.2.mem ((c.tc : Thread Cert.DKvRefIdeal.nD Cert.DKvRefIdeal.τ).loc Cert.DKvRefIdeal.main_arg0) = m' ((c.tc : Thread Cert.DKvRefIdeal.nD Cert.DKvRefIdeal.τ).loc Cert.DKvRefIdeal.main_arg0)
          ∧ r.2.mem ((c.tc : Thread Cert.DKvRefIdeal.nD Cert.DKvRefIdeal.τ).loc Cert.DKvRefIdeal.main_arg1) = m' ((c.tc : Thread Cert.DKvRefIdeal.nD Cert.DKvRefIdeal.τ).loc Cert.DKvRefIdeal.main_arg1))

def preserves_DProj_DProjIdeal : Prop :=
  True

def algebraic_DProjIdeal_DProjRefIdeal [hDProjIdeal : Cert.DProjIdeal.Facts] [hDProjRefIdeal : Cert.DProjRefIdeal.Facts] : Prop :=
  ∀ (m : (ℓ : Loc Cert.DProjIdeal.nD Cert.DProjIdeal.τ Cert.DProjIdeal.sig) → Buf (Elt Ideal) ℓ) (g : Dev Cert.DProjIdeal.nD → PrngReg)
    (m' : (ℓ : Loc Cert.DProjRefIdeal.nD Cert.DProjRefIdeal.τ Cert.DProjRefIdeal.sig) → Buf (Elt Ideal) ℓ) (g' : Dev Cert.DProjRefIdeal.nD → PrngReg), Pre_DProjIdeal m →
    (∀ c : Dev Cert.DProjIdeal.nD,
      m' ((c.tc : Thread Cert.DProjRefIdeal.nD Cert.DProjRefIdeal.τ).loc Cert.DProjRefIdeal.main_arg0) = m ((c.tc : Thread Cert.DProjIdeal.nD Cert.DProjIdeal.τ).loc Cert.DProjIdeal.main_arg0)
      ∧ m' ((c.tc : Thread Cert.DProjRefIdeal.nD Cert.DProjRefIdeal.τ).loc Cert.DProjRefIdeal.main_arg1) = m ((c.tc : Thread Cert.DProjIdeal.nD Cert.DProjIdeal.τ).loc Cert.DProjIdeal.main_arg1)) →
    ∃ (v0 : (c : Dev Cert.DProjIdeal.nD) → Buf (Elt Ideal) ((c.tc : Thread Cert.DProjIdeal.nD Cert.DProjIdeal.τ).loc Cert.DProjIdeal.main_v0)),
      θ_run (Cert.DProjIdeal.defs (F := Ideal)) (onTc (τ := Cert.DProjIdeal.τ) (Cert.DProjIdeal.main (F := Ideal))) ⟨m, fun _ => 0, g⟩ (fun r => ∀ c : Dev Cert.DProjIdeal.nD,
          r.2.mem ((c.tc : Thread Cert.DProjIdeal.nD Cert.DProjIdeal.τ).loc Cert.DProjIdeal.main_v0) = v0 c
          ∧ r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
          ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1))
      ∧ θ_run (Cert.DProjRefIdeal.defs (F := Ideal)) (onTc (τ := Cert.DProjRefIdeal.τ) (Cert.DProjRefIdeal.main (F := Ideal))) ⟨m', fun _ => 0, g'⟩ (fun r => ∀ c : Dev Cert.DProjRefIdeal.nD,
          r.2.mem ((c.tc : Thread Cert.DProjRefIdeal.nD Cert.DProjRefIdeal.τ).loc Cert.DProjRefIdeal.main_v7) = v0 c
          ∧ r.2.mem ((c.tc : Thread Cert.DProjRefIdeal.nD Cert.DProjRefIdeal.τ).loc Cert.DProjRefIdeal.main_arg0) = m' ((c.tc : Thread Cert.DProjRefIdeal.nD Cert.DProjRefIdeal.τ).loc Cert.DProjRefIdeal.main_arg0)
          ∧ r.2.mem ((c.tc : Thread Cert.DProjRefIdeal.nD Cert.DProjRefIdeal.τ).loc Cert.DProjRefIdeal.main_arg1) = m' ((c.tc : Thread Cert.DProjRefIdeal.nD Cert.DProjRefIdeal.τ).loc Cert.DProjRefIdeal.main_arg1))

def preserves_DOutA_DOutAIdeal : Prop :=
  True

def algebraic_DOutAIdeal_DOutARefIdeal [hDOutAIdeal : Cert.DOutAIdeal.Facts] [hDOutARefIdeal : Cert.DOutARefIdeal.Facts] : Prop :=
  ∀ (m : (ℓ : Loc Cert.DOutAIdeal.nD Cert.DOutAIdeal.τ Cert.DOutAIdeal.sig) → Buf (Elt Ideal) ℓ) (g : Dev Cert.DOutAIdeal.nD → PrngReg)
    (m' : (ℓ : Loc Cert.DOutARefIdeal.nD Cert.DOutARefIdeal.τ Cert.DOutARefIdeal.sig) → Buf (Elt Ideal) ℓ) (g' : Dev Cert.DOutARefIdeal.nD → PrngReg), Pre_DOutAIdeal m →
    (∀ c : Dev Cert.DOutAIdeal.nD,
      m' ((c.tc : Thread Cert.DOutARefIdeal.nD Cert.DOutARefIdeal.τ).loc Cert.DOutARefIdeal.main_arg0) = m ((c.tc : Thread Cert.DOutAIdeal.nD Cert.DOutAIdeal.τ).loc Cert.DOutAIdeal.main_arg0)
      ∧ m' ((c.tc : Thread Cert.DOutARefIdeal.nD Cert.DOutARefIdeal.τ).loc Cert.DOutARefIdeal.main_arg1) = m ((c.tc : Thread Cert.DOutAIdeal.nD Cert.DOutAIdeal.τ).loc Cert.DOutAIdeal.main_arg1)) →
    ∃ (v0 : (c : Dev Cert.DOutAIdeal.nD) → Buf (Elt Ideal) ((c.tc : Thread Cert.DOutAIdeal.nD Cert.DOutAIdeal.τ).loc Cert.DOutAIdeal.main_v0)),
      θ_run (Cert.DOutAIdeal.defs (F := Ideal)) (onTc (τ := Cert.DOutAIdeal.τ) (Cert.DOutAIdeal.main (F := Ideal))) ⟨m, fun _ => 0, g⟩ (fun r => ∀ c : Dev Cert.DOutAIdeal.nD,
          r.2.mem ((c.tc : Thread Cert.DOutAIdeal.nD Cert.DOutAIdeal.τ).loc Cert.DOutAIdeal.main_v0) = v0 c
          ∧ r.2.mem ((c.tc : Thread Cert.DOutAIdeal.nD Cert.DOutAIdeal.τ).loc Cert.DOutAIdeal.main_arg0) = m ((c.tc : Thread Cert.DOutAIdeal.nD Cert.DOutAIdeal.τ).loc Cert.DOutAIdeal.main_arg0)
          ∧ r.2.mem ((c.tc : Thread Cert.DOutAIdeal.nD Cert.DOutAIdeal.τ).loc Cert.DOutAIdeal.main_arg1) = m ((c.tc : Thread Cert.DOutAIdeal.nD Cert.DOutAIdeal.τ).loc Cert.DOutAIdeal.main_arg1))
      ∧ θ_run (Cert.DOutARefIdeal.defs (F := Ideal)) (onTc (τ := Cert.DOutARefIdeal.τ) (Cert.DOutARefIdeal.main (F := Ideal))) ⟨m', fun _ => 0, g'⟩ (fun r => ∀ c : Dev Cert.DOutARefIdeal.nD,
          r.2.mem ((c.tc : Thread Cert.DOutARefIdeal.nD Cert.DOutARefIdeal.τ).loc Cert.DOutARefIdeal.main_v6) = v0 c
          ∧ r.2.mem ((c.tc : Thread Cert.DOutARefIdeal.nD Cert.DOutARefIdeal.τ).loc Cert.DOutARefIdeal.main_arg0) = m' ((c.tc : Thread Cert.DOutARefIdeal.nD Cert.DOutARefIdeal.τ).loc Cert.DOutARefIdeal.main_arg0)
          ∧ r.2.mem ((c.tc : Thread Cert.DOutARefIdeal.nD Cert.DOutARefIdeal.τ).loc Cert.DOutARefIdeal.main_arg1) = m' ((c.tc : Thread Cert.DOutARefIdeal.nD Cert.DOutARefIdeal.τ).loc Cert.DOutARefIdeal.main_arg1))

def preserves_DSquare_DSquareIdeal : Prop :=
  True

def algebraic_DSquareIdeal_DSquareRefIdeal [hDSquareIdeal : Cert.DSquareIdeal.Facts] [hDSquareRefIdeal : Cert.DSquareRefIdeal.Facts] : Prop :=
  ∀ (m : (ℓ : Loc Cert.DSquareIdeal.nD Cert.DSquareIdeal.τ Cert.DSquareIdeal.sig) → Buf (Elt Ideal) ℓ) (g : Dev Cert.DSquareIdeal.nD → PrngReg)
    (m' : (ℓ : Loc Cert.DSquareRefIdeal.nD Cert.DSquareRefIdeal.τ Cert.DSquareRefIdeal.sig) → Buf (Elt Ideal) ℓ) (g' : Dev Cert.DSquareRefIdeal.nD → PrngReg), Pre_DSquareIdeal m →
    (∀ c : Dev Cert.DSquareIdeal.nD,
      m' ((c.tc : Thread Cert.DSquareRefIdeal.nD Cert.DSquareRefIdeal.τ).loc Cert.DSquareRefIdeal.main_arg0) = m ((c.tc : Thread Cert.DSquareIdeal.nD Cert.DSquareIdeal.τ).loc Cert.DSquareIdeal.main_arg0)
      ∧ m' ((c.tc : Thread Cert.DSquareRefIdeal.nD Cert.DSquareRefIdeal.τ).loc Cert.DSquareRefIdeal.main_arg1) = m ((c.tc : Thread Cert.DSquareIdeal.nD Cert.DSquareIdeal.τ).loc Cert.DSquareIdeal.main_arg1)) →
    ∃ (v0 : (c : Dev Cert.DSquareIdeal.nD) → Buf (Elt Ideal) ((c.tc : Thread Cert.DSquareIdeal.nD Cert.DSquareIdeal.τ).loc Cert.DSquareIdeal.main_v0)),
      θ_run (Cert.DSquareIdeal.defs (F := Ideal)) (onTc (τ := Cert.DSquareIdeal.τ) (Cert.DSquareIdeal.main (F := Ideal))) ⟨m, fun _ => 0, g⟩ (fun r => ∀ c : Dev Cert.DSquareIdeal.nD,
          r.2.mem ((c.tc : Thread Cert.DSquareIdeal.nD Cert.DSquareIdeal.τ).loc Cert.DSquareIdeal.main_v0) = v0 c
          ∧ r.2.mem ((c.tc : Thread Cert.DSquareIdeal.nD Cert.DSquareIdeal.τ).loc Cert.DSquareIdeal.main_arg0) = m ((c.tc : Thread Cert.DSquareIdeal.nD Cert.DSquareIdeal.τ).loc Cert.DSquareIdeal.main_arg0)
          ∧ r.2.mem ((c.tc : Thread Cert.DSquareIdeal.nD Cert.DSquareIdeal.τ).loc Cert.DSquareIdeal.main_arg1) = m ((c.tc : Thread Cert.DSquareIdeal.nD Cert.DSquareIdeal.τ).loc Cert.DSquareIdeal.main_arg1))
      ∧ θ_run (Cert.DSquareRefIdeal.defs (F := Ideal)) (onTc (τ := Cert.DSquareRefIdeal.τ) (Cert.DSquareRefIdeal.main (F := Ideal))) ⟨m', fun _ => 0, g'⟩ (fun r => ∀ c : Dev Cert.DSquareRefIdeal.nD,
          r.2.mem ((c.tc : Thread Cert.DSquareRefIdeal.nD Cert.DSquareRefIdeal.τ).loc Cert.DSquareRefIdeal.main_v6) = v0 c
          ∧ r.2.mem ((c.tc : Thread Cert.DSquareRefIdeal.nD Cert.DSquareRefIdeal.τ).loc Cert.DSquareRefIdeal.main_arg0) = m' ((c.tc : Thread Cert.DSquareRefIdeal.nD Cert.DSquareRefIdeal.τ).loc Cert.DSquareRefIdeal.main_arg0)
          ∧ r.2.mem ((c.tc : Thread Cert.DSquareRefIdeal.nD Cert.DSquareRefIdeal.τ).loc Cert.DSquareRefIdeal.main_arg1) = m' ((c.tc : Thread Cert.DSquareRefIdeal.nD Cert.DSquareRefIdeal.τ).loc Cert.DSquareRefIdeal.main_arg1))

def preserves_DU_DUIdeal : Prop :=
  True

def algebraic_DUIdeal_DURefIdeal [hDUIdeal : Cert.DUIdeal.Facts] [hDURefIdeal : Cert.DURefIdeal.Facts] : Prop :=
  ∀ (m : (ℓ : Loc Cert.DUIdeal.nD Cert.DUIdeal.τ Cert.DUIdeal.sig) → Buf (Elt Ideal) ℓ) (g : Dev Cert.DUIdeal.nD → PrngReg)
    (m' : (ℓ : Loc Cert.DURefIdeal.nD Cert.DURefIdeal.τ Cert.DURefIdeal.sig) → Buf (Elt Ideal) ℓ) (g' : Dev Cert.DURefIdeal.nD → PrngReg), Pre_DUIdeal m →
    (∀ c : Dev Cert.DUIdeal.nD,
      m' ((c.tc : Thread Cert.DURefIdeal.nD Cert.DURefIdeal.τ).loc Cert.DURefIdeal.main_arg0) = m ((c.tc : Thread Cert.DUIdeal.nD Cert.DUIdeal.τ).loc Cert.DUIdeal.main_arg0)
      ∧ m' ((c.tc : Thread Cert.DURefIdeal.nD Cert.DURefIdeal.τ).loc Cert.DURefIdeal.main_arg1) = m ((c.tc : Thread Cert.DUIdeal.nD Cert.DUIdeal.τ).loc Cert.DUIdeal.main_arg1)) →
    ∃ (v0 : (c : Dev Cert.DUIdeal.nD) → Buf (Elt Ideal) ((c.tc : Thread Cert.DUIdeal.nD Cert.DUIdeal.τ).loc Cert.DUIdeal.main_v0)),
      θ_run (Cert.DUIdeal.defs (F := Ideal)) (onTc (τ := Cert.DUIdeal.τ) (Cert.DUIdeal.main (F := Ideal))) ⟨m, fun _ => 0, g⟩ (fun r => ∀ c : Dev Cert.DUIdeal.nD,
          r.2.mem ((c.tc : Thread Cert.DUIdeal.nD Cert.DUIdeal.τ).loc Cert.DUIdeal.main_v0) = v0 c
          ∧ r.2.mem ((c.tc : Thread Cert.DUIdeal.nD Cert.DUIdeal.τ).loc Cert.DUIdeal.main_arg0) = m ((c.tc : Thread Cert.DUIdeal.nD Cert.DUIdeal.τ).loc Cert.DUIdeal.main_arg0)
          ∧ r.2.mem ((c.tc : Thread Cert.DUIdeal.nD Cert.DUIdeal.τ).loc Cert.DUIdeal.main_arg1) = m ((c.tc : Thread Cert.DUIdeal.nD Cert.DUIdeal.τ).loc Cert.DUIdeal.main_arg1))
      ∧ θ_run (Cert.DURefIdeal.defs (F := Ideal)) (onTc (τ := Cert.DURefIdeal.τ) (Cert.DURefIdeal.main (F := Ideal))) ⟨m', fun _ => 0, g'⟩ (fun r => ∀ c : Dev Cert.DURefIdeal.nD,
          r.2.mem ((c.tc : Thread Cert.DURefIdeal.nD Cert.DURefIdeal.τ).loc Cert.DURefIdeal.main_v5) = v0 c
          ∧ r.2.mem ((c.tc : Thread Cert.DURefIdeal.nD Cert.DURefIdeal.τ).loc Cert.DURefIdeal.main_arg0) = m' ((c.tc : Thread Cert.DURefIdeal.nD Cert.DURefIdeal.τ).loc Cert.DURefIdeal.main_arg0)
          ∧ r.2.mem ((c.tc : Thread Cert.DURefIdeal.nD Cert.DURefIdeal.τ).loc Cert.DURefIdeal.main_arg1) = m' ((c.tc : Thread Cert.DURefIdeal.nD Cert.DURefIdeal.τ).loc Cert.DURefIdeal.main_arg1))

def preserves_DKvn_DKvnIdeal : Prop :=
  True

def algebraic_DKvnIdeal_DKvnRefIdeal [hDKvnIdeal : Cert.DKvnIdeal.Facts] [hDKvnRefIdeal : Cert.DKvnRefIdeal.Facts] : Prop :=
  ∀ (m : (ℓ : Loc Cert.DKvnIdeal.nD Cert.DKvnIdeal.τ Cert.DKvnIdeal.sig) → Buf (Elt Ideal) ℓ) (g : Dev Cert.DKvnIdeal.nD → PrngReg)
    (m' : (ℓ : Loc Cert.DKvnRefIdeal.nD Cert.DKvnRefIdeal.τ Cert.DKvnRefIdeal.sig) → Buf (Elt Ideal) ℓ) (g' : Dev Cert.DKvnRefIdeal.nD → PrngReg), Pre_DKvnIdeal m →
    (∀ c : Dev Cert.DKvnIdeal.nD,
      m' ((c.tc : Thread Cert.DKvnRefIdeal.nD Cert.DKvnRefIdeal.τ).loc Cert.DKvnRefIdeal.main_arg0) = m ((c.tc : Thread Cert.DKvnIdeal.nD Cert.DKvnIdeal.τ).loc Cert.DKvnIdeal.main_arg0)
      ∧ m' ((c.tc : Thread Cert.DKvnRefIdeal.nD Cert.DKvnRefIdeal.τ).loc Cert.DKvnRefIdeal.main_arg1) = m ((c.tc : Thread Cert.DKvnIdeal.nD Cert.DKvnIdeal.τ).loc Cert.DKvnIdeal.main_arg1)) →
    ∃ (v0 : (c : Dev Cert.DKvnIdeal.nD) → Buf (Elt Ideal) ((c.tc : Thread Cert.DKvnIdeal.nD Cert.DKvnIdeal.τ).loc Cert.DKvnIdeal.main_v0)),
      θ_run (Cert.DKvnIdeal.defs (F := Ideal)) (onTc (τ := Cert.DKvnIdeal.τ) (Cert.DKvnIdeal.main (F := Ideal))) ⟨m, fun _ => 0, g⟩ (fun r => ∀ c : Dev Cert.DKvnIdeal.nD,
          r.2.mem ((c.tc : Thread Cert.DKvnIdeal.nD Cert.DKvnIdeal.τ).loc Cert.DKvnIdeal.main_v0) = v0 c
          ∧ r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
          ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ θ_run (Cert.DKvnRefIdeal.defs (F := Ideal)) (onTc (τ := Cert.DKvnRefIdeal.τ) (Cert.DKvnRefIdeal.main (F := Ideal))) ⟨m', fun _ => 0, g'⟩ (fun r => ∀ c : Dev Cert.DKvnRefIdeal.nD,
          r.2.mem ((c.tc : Thread Cert.DKvnRefIdeal.nD Cert.DKvnRefIdeal.τ).loc Cert.DKvnRefIdeal.main_v5) = v0 c
          ∧ r.2.mem ((c.tc : Thread Cert.DKvnRefIdeal.nD Cert.DKvnRefIdeal.τ).loc Cert.DKvnRefIdeal.main_arg0) = m' ((c.tc : Thread Cert.DKvnRefIdeal.nD Cert.DKvnRefIdeal.τ).loc Cert.DKvnRefIdeal.main_arg0)
          ∧ r.2.mem ((c.tc : Thread Cert.DKvnRefIdeal.nD Cert.DKvnRefIdeal.τ).loc Cert.DKvnRefIdeal.main_arg1) = m' ((c.tc : Thread Cert.DKvnRefIdeal.nD Cert.DKvnRefIdeal.τ).loc Cert.DKvnRefIdeal.main_arg1))

def preserves_DM_DMIdeal : Prop :=
  True

def algebraic_DMIdeal_DMRefIdeal [hDMIdeal : Cert.DMIdeal.Facts] [hDMRefIdeal : Cert.DMRefIdeal.Facts] : Prop :=
  ∀ (m : (ℓ : Loc Cert.DMIdeal.nD Cert.DMIdeal.τ Cert.DMIdeal.sig) → Buf (Elt Ideal) ℓ) (g : Dev Cert.DMIdeal.nD → PrngReg)
    (m' : (ℓ : Loc Cert.DMRefIdeal.nD Cert.DMRefIdeal.τ Cert.DMRefIdeal.sig) → Buf (Elt Ideal) ℓ) (g' : Dev Cert.DMRefIdeal.nD → PrngReg), Pre_DMIdeal m →
    (∀ c : Dev Cert.DMIdeal.nD,
      m' ((c.tc : Thread Cert.DMRefIdeal.nD Cert.DMRefIdeal.τ).loc Cert.DMRefIdeal.main_arg0) = m ((c.tc : Thread Cert.DMIdeal.nD Cert.DMIdeal.τ).loc Cert.DMIdeal.main_arg0)
      ∧ m' ((c.tc : Thread Cert.DMRefIdeal.nD Cert.DMRefIdeal.τ).loc Cert.DMRefIdeal.main_arg1) = m ((c.tc : Thread Cert.DMIdeal.nD Cert.DMIdeal.τ).loc Cert.DMIdeal.main_arg1)) →
    ∃ (v0 : (c : Dev Cert.DMIdeal.nD) → Buf (Elt Ideal) ((c.tc : Thread Cert.DMIdeal.nD Cert.DMIdeal.τ).loc Cert.DMIdeal.main_v0)),
      θ_run (Cert.DMIdeal.defs (F := Ideal)) (onTc (τ := Cert.DMIdeal.τ) (Cert.DMIdeal.main (F := Ideal))) ⟨m, fun _ => 0, g⟩ (fun r => ∀ c : Dev Cert.DMIdeal.nD,
          r.2.mem ((c.tc : Thread Cert.DMIdeal.nD Cert.DMIdeal.τ).loc Cert.DMIdeal.main_v0) = v0 c
          ∧ r.2.mem ((c.tc : Thread Cert.DMIdeal.nD Cert.DMIdeal.τ).loc Cert.DMIdeal.main_arg0) = m ((c.tc : Thread Cert.DMIdeal.nD Cert.DMIdeal.τ).loc Cert.DMIdeal.main_arg0)
          ∧ r.2.mem ((c.tc : Thread Cert.DMIdeal.nD Cert.DMIdeal.τ).loc Cert.DMIdeal.main_arg1) = m ((c.tc : Thread Cert.DMIdeal.nD Cert.DMIdeal.τ).loc Cert.DMIdeal.main_arg1))
      ∧ θ_run (Cert.DMRefIdeal.defs (F := Ideal)) (onTc (τ := Cert.DMRefIdeal.τ) (Cert.DMRefIdeal.main (F := Ideal))) ⟨m', fun _ => 0, g'⟩ (fun r => ∀ c : Dev Cert.DMRefIdeal.nD,
          r.2.mem ((c.tc : Thread Cert.DMRefIdeal.nD Cert.DMRefIdeal.τ).loc Cert.DMRefIdeal.main_v5) = v0 c
          ∧ r.2.mem ((c.tc : Thread Cert.DMRefIdeal.nD Cert.DMRefIdeal.τ).loc Cert.DMRefIdeal.main_arg0) = m' ((c.tc : Thread Cert.DMRefIdeal.nD Cert.DMRefIdeal.τ).loc Cert.DMRefIdeal.main_arg0)
          ∧ r.2.mem ((c.tc : Thread Cert.DMRefIdeal.nD Cert.DMRefIdeal.τ).loc Cert.DMRefIdeal.main_arg1) = m' ((c.tc : Thread Cert.DMRefIdeal.nD Cert.DMRefIdeal.τ).loc Cert.DMRefIdeal.main_arg1))

def preserves_DRows_DRowsIdeal : Prop :=
  True

def algebraic_DRowsIdeal_DRowsRefIdeal [hDRowsIdeal : Cert.DRowsIdeal.Facts] [hDRowsRefIdeal : Cert.DRowsRefIdeal.Facts] : Prop :=
  ∀ (m : (ℓ : Loc Cert.DRowsIdeal.nD Cert.DRowsIdeal.τ Cert.DRowsIdeal.sig) → Buf (Elt Ideal) ℓ) (g : Dev Cert.DRowsIdeal.nD → PrngReg)
    (m' : (ℓ : Loc Cert.DRowsRefIdeal.nD Cert.DRowsRefIdeal.τ Cert.DRowsRefIdeal.sig) → Buf (Elt Ideal) ℓ) (g' : Dev Cert.DRowsRefIdeal.nD → PrngReg), Pre_DRowsIdeal m →
    (∀ c : Dev Cert.DRowsIdeal.nD,
      m' ((c.tc : Thread Cert.DRowsRefIdeal.nD Cert.DRowsRefIdeal.τ).loc Cert.DRowsRefIdeal.main_arg0) = m ((c.tc : Thread Cert.DRowsIdeal.nD Cert.DRowsIdeal.τ).loc Cert.DRowsIdeal.main_arg0)
      ∧ m' ((c.tc : Thread Cert.DRowsRefIdeal.nD Cert.DRowsRefIdeal.τ).loc Cert.DRowsRefIdeal.main_arg1) = m ((c.tc : Thread Cert.DRowsIdeal.nD Cert.DRowsIdeal.τ).loc Cert.DRowsIdeal.main_arg1)) →
    ∃ (v0 : (c : Dev Cert.DRowsIdeal.nD) → Buf (Elt Ideal) ((c.tc : Thread Cert.DRowsIdeal.nD Cert.DRowsIdeal.τ).loc Cert.DRowsIdeal.main_v0)),
      θ_run (Cert.DRowsIdeal.defs (F := Ideal)) (onTc (τ := Cert.DRowsIdeal.τ) (Cert.DRowsIdeal.main (F := Ideal))) ⟨m, fun _ => 0, g⟩ (fun r => ∀ c : Dev Cert.DRowsIdeal.nD,
          r.2.mem ((c.tc : Thread Cert.DRowsIdeal.nD Cert.DRowsIdeal.τ).loc Cert.DRowsIdeal.main_v0) = v0 c
          ∧ r.2.mem ((c.tc : Thread Cert.DRowsIdeal.nD Cert.DRowsIdeal.τ).loc Cert.DRowsIdeal.main_arg0) = m ((c.tc : Thread Cert.DRowsIdeal.nD Cert.DRowsIdeal.τ).loc Cert.DRowsIdeal.main_arg0)
          ∧ r.2.mem ((c.tc : Thread Cert.DRowsIdeal.nD Cert.DRowsIdeal.τ).loc Cert.DRowsIdeal.main_arg1) = m ((c.tc : Thread Cert.DRowsIdeal.nD Cert.DRowsIdeal.τ).loc Cert.DRowsIdeal.main_arg1))
      ∧ θ_run (Cert.DRowsRefIdeal.defs (F := Ideal)) (onTc (τ := Cert.DRowsRefIdeal.τ) (Cert.DRowsRefIdeal.main (F := Ideal))) ⟨m', fun _ => 0, g'⟩ (fun r => ∀ c : Dev Cert.DRowsRefIdeal.nD,
          r.2.mem ((c.tc : Thread Cert.DRowsRefIdeal.nD Cert.DRowsRefIdeal.τ).loc Cert.DRowsRefIdeal.main_v5) = v0 c
          ∧ r.2.mem ((c.tc : Thread Cert.DRowsRefIdeal.nD Cert.DRowsRefIdeal.τ).loc Cert.DRowsRefIdeal.main_arg0) = m' ((c.tc : Thread Cert.DRowsRefIdeal.nD Cert.DRowsRefIdeal.τ).loc Cert.DRowsRefIdeal.main_arg0)
          ∧ r.2.mem ((c.tc : Thread Cert.DRowsRefIdeal.nD Cert.DRowsRefIdeal.τ).loc Cert.DRowsRefIdeal.main_arg1) = m' ((c.tc : Thread Cert.DRowsRefIdeal.nD Cert.DRowsRefIdeal.τ).loc Cert.DRowsRefIdeal.main_arg1))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v2) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v2) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v3) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)
      ∧ m' ((c.tc : Thread Cert.OutARefIdeal.nD Cert.OutARefIdeal.τ).loc Cert.OutARefIdeal.main_arg3) = m ((c.tc : Thread Cert.OutAIdeal.nD Cert.OutAIdeal.τ).loc Cert.OutAIdeal.main_arg3)) →
    ∃ (v0 : (c : Dev Cert.OutAIdeal.nD) → Buf (Elt Ideal) ((c.tc : Thread Cert.OutAIdeal.nD Cert.OutAIdeal.τ).loc Cert.OutAIdeal.main_v0_0)) (v1 : (c : Dev Cert.OutAIdeal.nD) → Buf (Elt Ideal) ((c.tc : Thread Cert.OutAIdeal.nD Cert.OutAIdeal.τ).loc Cert.OutAIdeal.main_v0_1)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0_0) = v0 c
          ∧ r.2.mem ((c.tc : Thread Cert.OutAIdeal.nD Cert.OutAIdeal.τ).loc Cert.OutAIdeal.main_v0_1) = v1 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v3) = v0 c
          ∧ r.2.mem ((c.tc : Thread Cert.OutARefIdeal.nD Cert.OutARefIdeal.τ).loc Cert.OutARefIdeal.main_v18) = v1 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2)
          ∧ r.2.mem ((c.tc : Thread Cert.OutARefIdeal.nD Cert.OutARefIdeal.τ).loc Cert.OutARefIdeal.main_arg3) = m' ((c.tc : Thread Cert.OutARefIdeal.nD Cert.OutARefIdeal.τ).loc Cert.OutARefIdeal.main_arg3))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)
      ∧ m' ((c.tc : Thread Cert.OutBRefIdeal.nD Cert.OutBRefIdeal.τ).loc Cert.OutBRefIdeal.main_arg3) = m ((c.tc : Thread Cert.OutBIdeal.nD Cert.OutBIdeal.τ).loc Cert.OutBIdeal.main_arg3)) →
    ∃ (v0 : (c : Dev Cert.OutBIdeal.nD) → Buf (Elt Ideal) ((c.tc : Thread Cert.OutBIdeal.nD Cert.OutBIdeal.τ).loc Cert.OutBIdeal.main_v0_0)) (v1 : (c : Dev Cert.OutBIdeal.nD) → Buf (Elt Ideal) ((c.tc : Thread Cert.OutBIdeal.nD Cert.OutBIdeal.τ).loc Cert.OutBIdeal.main_v0_1)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0_0) = v0 c
          ∧ r.2.mem ((c.tc : Thread Cert.OutBIdeal.nD Cert.OutBIdeal.τ).loc Cert.OutBIdeal.main_v0_1) = v1 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
          ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v3) = v0 c
          ∧ r.2.mem ((c.tc : Thread Cert.OutBRefIdeal.nD Cert.OutBRefIdeal.τ).loc Cert.OutBRefIdeal.main_v18) = v1 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2)
          ∧ r.2.mem ((c.tc : Thread Cert.OutBRefIdeal.nD Cert.OutBRefIdeal.τ).loc Cert.OutBRefIdeal.main_arg3) = m' ((c.tc : Thread Cert.OutBRefIdeal.nD Cert.OutBRefIdeal.τ).loc Cert.OutBRefIdeal.main_arg3))

def preserves_AdamInA_AdamInAIdeal : Prop :=
  True

def algebraic_AdamInAIdeal_AdamInARefIdeal [hAdamInAIdeal : Cert.AdamInAIdeal.Facts] [hAdamInARefIdeal : Cert.AdamInARefIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg)
    (m' : (ℓ : Loc Cert.AdamInARefIdeal.nD Cert.AdamInARefIdeal.τ Cert.AdamInARefIdeal.sig) → Buf (Elt Ideal) ℓ) (g' : Dev Cert.AdamInARefIdeal.nD → PrngReg), Pre_AdamInAIdeal m →
    (∀ c : Dev Cert.AdamInAIdeal.nD,
      m' ((c.tc : Thread Cert.AdamInARefIdeal.nD Cert.AdamInARefIdeal.τ).loc Cert.AdamInARefIdeal.main_arg0) = m ((c.tc : Thread Cert.AdamInAIdeal.nD Cert.AdamInAIdeal.τ).loc Cert.AdamInAIdeal.main_arg0)
      ∧ m' ((c.tc : Thread Cert.AdamInARefIdeal.nD Cert.AdamInARefIdeal.τ).loc Cert.AdamInARefIdeal.main_arg1) = m ((c.tc : Thread Cert.AdamInAIdeal.nD Cert.AdamInAIdeal.τ).loc Cert.AdamInAIdeal.main_arg1)
      ∧ m' ((c.tc : Thread Cert.AdamInARefIdeal.nD Cert.AdamInARefIdeal.τ).loc Cert.AdamInARefIdeal.main_arg2) = m ((c.tc : Thread Cert.AdamInAIdeal.nD Cert.AdamInAIdeal.τ).loc Cert.AdamInAIdeal.main_arg2)
      ∧ m' ((c.tc : Thread Cert.AdamInARefIdeal.nD Cert.AdamInARefIdeal.τ).loc Cert.AdamInARefIdeal.main_arg3) = m ((c.tc : Thread Cert.AdamInAIdeal.nD Cert.AdamInAIdeal.τ).loc Cert.AdamInAIdeal.main_arg3)) →
    ∃ (v0 : (c : Dev Cert.AdamInAIdeal.nD) → Buf (Elt Ideal) ((c.tc : Thread Cert.AdamInAIdeal.nD Cert.AdamInAIdeal.τ).loc Cert.AdamInAIdeal.main_v0_0)) (v1 : (c : Dev Cert.AdamInAIdeal.nD) → Buf (Elt Ideal) ((c.tc : Thread Cert.AdamInAIdeal.nD Cert.AdamInAIdeal.τ).loc Cert.AdamInAIdeal.main_v0_1)) (v2 : (c : Dev Cert.AdamInAIdeal.nD) → Buf (Elt Ideal) ((c.tc : Thread Cert.AdamInAIdeal.nD Cert.AdamInAIdeal.τ).loc Cert.AdamInAIdeal.main_v0_2)) (v3 : (c : Dev Cert.AdamInAIdeal.nD) → Buf (Elt Ideal) ((c.tc : Thread Cert.AdamInAIdeal.nD Cert.AdamInAIdeal.τ).loc Cert.AdamInAIdeal.main_v0_3)),
      θ_run (Cert.AdamInAIdeal.defs (F := Ideal)) (onTc (τ := Cert.AdamInAIdeal.τ) (Cert.AdamInAIdeal.main (F := Ideal))) ⟨m, fun _ => 0, g⟩ (fun r => ∀ c : Dev Cert.AdamInAIdeal.nD,
          r.2.mem ((c.tc : Thread Cert.AdamInAIdeal.nD Cert.AdamInAIdeal.τ).loc Cert.AdamInAIdeal.main_v0_0) = v0 c
          ∧ r.2.mem ((c.tc : Thread Cert.AdamInAIdeal.nD Cert.AdamInAIdeal.τ).loc Cert.AdamInAIdeal.main_v0_1) = v1 c
          ∧ r.2.mem ((c.tc : Thread Cert.AdamInAIdeal.nD Cert.AdamInAIdeal.τ).loc Cert.AdamInAIdeal.main_v0_2) = v2 c
          ∧ r.2.mem ((c.tc : Thread Cert.AdamInAIdeal.nD Cert.AdamInAIdeal.τ).loc Cert.AdamInAIdeal.main_v0_3) = v3 c
          ∧ r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
          ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
          ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
          ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ θ_run (Cert.AdamInARefIdeal.defs (F := Ideal)) (onTc (τ := Cert.AdamInARefIdeal.τ) (Cert.AdamInARefIdeal.main (F := Ideal))) ⟨m', fun _ => 0, g'⟩ (fun r => ∀ c : Dev Cert.AdamInARefIdeal.nD,
          r.2.mem ((c.tc : Thread Cert.AdamInARefIdeal.nD Cert.AdamInARefIdeal.τ).loc Cert.AdamInARefIdeal.main_v1) = v0 c
          ∧ r.2.mem ((c.tc : Thread Cert.AdamInARefIdeal.nD Cert.AdamInARefIdeal.τ).loc Cert.AdamInARefIdeal.main_v25) = v1 c
          ∧ r.2.mem ((c.tc : Thread Cert.AdamInARefIdeal.nD Cert.AdamInARefIdeal.τ).loc Cert.AdamInARefIdeal.main_v6) = v2 c
          ∧ r.2.mem ((c.tc : Thread Cert.AdamInARefIdeal.nD Cert.AdamInARefIdeal.τ).loc Cert.AdamInARefIdeal.main_v12) = v3 c
          ∧ r.2.mem ((c.tc : Thread Cert.AdamInARefIdeal.nD Cert.AdamInARefIdeal.τ).loc Cert.AdamInARefIdeal.main_arg0) = m' ((c.tc : Thread Cert.AdamInARefIdeal.nD Cert.AdamInARefIdeal.τ).loc Cert.AdamInARefIdeal.main_arg0)
          ∧ r.2.mem ((c.tc : Thread Cert.AdamInARefIdeal.nD Cert.AdamInARefIdeal.τ).loc Cert.AdamInARefIdeal.main_arg1) = m' ((c.tc : Thread Cert.AdamInARefIdeal.nD Cert.AdamInARefIdeal.τ).loc Cert.AdamInARefIdeal.main_arg1)
          ∧ r.2.mem ((c.tc : Thread Cert.AdamInARefIdeal.nD Cert.AdamInARefIdeal.τ).loc Cert.AdamInARefIdeal.main_arg2) = m' ((c.tc : Thread Cert.AdamInARefIdeal.nD Cert.AdamInARefIdeal.τ).loc Cert.AdamInARefIdeal.main_arg2)
          ∧ r.2.mem ((c.tc : Thread Cert.AdamInARefIdeal.nD Cert.AdamInARefIdeal.τ).loc Cert.AdamInARefIdeal.main_arg3) = m' ((c.tc : Thread Cert.AdamInARefIdeal.nD Cert.AdamInARefIdeal.τ).loc Cert.AdamInARefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v1) = v0 c
          ∧ r.2.mem ((c.tc : Thread Cert.AdamSquareRefIdeal.nD Cert.AdamSquareRefIdeal.τ).loc Cert.AdamSquareRefIdeal.main_v25) = v1 c
          ∧ r.2.mem ((c.tc : Thread Cert.AdamSquareRefIdeal.nD Cert.AdamSquareRefIdeal.τ).loc Cert.AdamSquareRefIdeal.main_v6) = v2 c
          ∧ r.2.mem ((c.tc : Thread Cert.AdamSquareRefIdeal.nD Cert.AdamSquareRefIdeal.τ).loc Cert.AdamSquareRefIdeal.main_v12) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v1) = v0 c
          ∧ r.2.mem ((c.tc : Thread Cert.AdamKvRefIdeal.nD Cert.AdamKvRefIdeal.τ).loc Cert.AdamKvRefIdeal.main_v25) = v1 c
          ∧ r.2.mem ((c.tc : Thread Cert.AdamKvRefIdeal.nD Cert.AdamKvRefIdeal.τ).loc Cert.AdamKvRefIdeal.main_v6) = v2 c
          ∧ r.2.mem ((c.tc : Thread Cert.AdamKvRefIdeal.nD Cert.AdamKvRefIdeal.τ).loc Cert.AdamKvRefIdeal.main_v12) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamInB_AdamInBIdeal : Prop :=
  True

def algebraic_AdamInBIdeal_AdamInBRefIdeal [hAdamInBIdeal : Cert.AdamInBIdeal.Facts] [hAdamInBRefIdeal : Cert.AdamInBRefIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg)
    (m' : (ℓ : Loc Cert.AdamInBRefIdeal.nD Cert.AdamInBRefIdeal.τ Cert.AdamInBRefIdeal.sig) → Buf (Elt Ideal) ℓ) (g' : Dev Cert.AdamInBRefIdeal.nD → PrngReg), Pre_AdamInBIdeal m →
    (∀ c : Dev Cert.AdamInBIdeal.nD,
      m' ((c.tc : Thread Cert.AdamInBRefIdeal.nD Cert.AdamInBRefIdeal.τ).loc Cert.AdamInBRefIdeal.main_arg0) = m ((c.tc : Thread Cert.AdamInBIdeal.nD Cert.AdamInBIdeal.τ).loc Cert.AdamInBIdeal.main_arg0)
      ∧ m' ((c.tc : Thread Cert.AdamInBRefIdeal.nD Cert.AdamInBRefIdeal.τ).loc Cert.AdamInBRefIdeal.main_arg1) = m ((c.tc : Thread Cert.AdamInBIdeal.nD Cert.AdamInBIdeal.τ).loc Cert.AdamInBIdeal.main_arg1)
      ∧ m' ((c.tc : Thread Cert.AdamInBRefIdeal.nD Cert.AdamInBRefIdeal.τ).loc Cert.AdamInBRefIdeal.main_arg2) = m ((c.tc : Thread Cert.AdamInBIdeal.nD Cert.AdamInBIdeal.τ).loc Cert.AdamInBIdeal.main_arg2)
      ∧ m' ((c.tc : Thread Cert.AdamInBRefIdeal.nD Cert.AdamInBRefIdeal.τ).loc Cert.AdamInBRefIdeal.main_arg3) = m ((c.tc : Thread Cert.AdamInBIdeal.nD Cert.AdamInBIdeal.τ).loc Cert.AdamInBIdeal.main_arg3)) →
    ∃ (v0 : (c : Dev Cert.AdamInBIdeal.nD) → Buf (Elt Ideal) ((c.tc : Thread Cert.AdamInBIdeal.nD Cert.AdamInBIdeal.τ).loc Cert.AdamInBIdeal.main_v0_0)) (v1 : (c : Dev Cert.AdamInBIdeal.nD) → Buf (Elt Ideal) ((c.tc : Thread Cert.AdamInBIdeal.nD Cert.AdamInBIdeal.τ).loc Cert.AdamInBIdeal.main_v0_1)) (v2 : (c : Dev Cert.AdamInBIdeal.nD) → Buf (Elt Ideal) ((c.tc : Thread Cert.AdamInBIdeal.nD Cert.AdamInBIdeal.τ).loc Cert.AdamInBIdeal.main_v0_2)) (v3 : (c : Dev Cert.AdamInBIdeal.nD) → Buf (Elt Ideal) ((c.tc : Thread Cert.AdamInBIdeal.nD Cert.AdamInBIdeal.τ).loc Cert.AdamInBIdeal.main_v0_3)),
      θ_run (Cert.AdamInBIdeal.defs (F := Ideal)) (onTc (τ := Cert.AdamInBIdeal.τ) (Cert.AdamInBIdeal.main (F := Ideal))) ⟨m, fun _ => 0, g⟩ (fun r => ∀ c : Dev Cert.AdamInBIdeal.nD,
          r.2.mem ((c.tc : Thread Cert.AdamInBIdeal.nD Cert.AdamInBIdeal.τ).loc Cert.AdamInBIdeal.main_v0_0) = v0 c
          ∧ r.2.mem ((c.tc : Thread Cert.AdamInBIdeal.nD Cert.AdamInBIdeal.τ).loc Cert.AdamInBIdeal.main_v0_1) = v1 c
          ∧ r.2.mem ((c.tc : Thread Cert.AdamInBIdeal.nD Cert.AdamInBIdeal.τ).loc Cert.AdamInBIdeal.main_v0_2) = v2 c
          ∧ r.2.mem ((c.tc : Thread Cert.AdamInBIdeal.nD Cert.AdamInBIdeal.τ).loc Cert.AdamInBIdeal.main_v0_3) = v3 c
          ∧ r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
          ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
          ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
          ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ θ_run (Cert.AdamInBRefIdeal.defs (F := Ideal)) (onTc (τ := Cert.AdamInBRefIdeal.τ) (Cert.AdamInBRefIdeal.main (F := Ideal))) ⟨m', fun _ => 0, g'⟩ (fun r => ∀ c : Dev Cert.AdamInBRefIdeal.nD,
          r.2.mem ((c.tc : Thread Cert.AdamInBRefIdeal.nD Cert.AdamInBRefIdeal.τ).loc Cert.AdamInBRefIdeal.main_v1) = v0 c
          ∧ r.2.mem ((c.tc : Thread Cert.AdamInBRefIdeal.nD Cert.AdamInBRefIdeal.τ).loc Cert.AdamInBRefIdeal.main_v25) = v1 c
          ∧ r.2.mem ((c.tc : Thread Cert.AdamInBRefIdeal.nD Cert.AdamInBRefIdeal.τ).loc Cert.AdamInBRefIdeal.main_v6) = v2 c
          ∧ r.2.mem ((c.tc : Thread Cert.AdamInBRefIdeal.nD Cert.AdamInBRefIdeal.τ).loc Cert.AdamInBRefIdeal.main_v12) = v3 c
          ∧ r.2.mem ((c.tc : Thread Cert.AdamInBRefIdeal.nD Cert.AdamInBRefIdeal.τ).loc Cert.AdamInBRefIdeal.main_arg0) = m' ((c.tc : Thread Cert.AdamInBRefIdeal.nD Cert.AdamInBRefIdeal.τ).loc Cert.AdamInBRefIdeal.main_arg0)
          ∧ r.2.mem ((c.tc : Thread Cert.AdamInBRefIdeal.nD Cert.AdamInBRefIdeal.τ).loc Cert.AdamInBRefIdeal.main_arg1) = m' ((c.tc : Thread Cert.AdamInBRefIdeal.nD Cert.AdamInBRefIdeal.τ).loc Cert.AdamInBRefIdeal.main_arg1)
          ∧ r.2.mem ((c.tc : Thread Cert.AdamInBRefIdeal.nD Cert.AdamInBRefIdeal.τ).loc Cert.AdamInBRefIdeal.main_arg2) = m' ((c.tc : Thread Cert.AdamInBRefIdeal.nD Cert.AdamInBRefIdeal.τ).loc Cert.AdamInBRefIdeal.main_arg2)
          ∧ r.2.mem ((c.tc : Thread Cert.AdamInBRefIdeal.nD Cert.AdamInBRefIdeal.τ).loc Cert.AdamInBRefIdeal.main_arg3) = m' ((c.tc : Thread Cert.AdamInBRefIdeal.nD Cert.AdamInBRefIdeal.τ).loc Cert.AdamInBRefIdeal.main_arg3))

def preserves_AdamOutB_AdamOutBIdeal : Prop :=
  True

def algebraic_AdamOutBIdeal_AdamOutBRefIdeal [hAdamOutBIdeal : Cert.AdamOutBIdeal.Facts] [hAdamOutBRefIdeal : Cert.AdamOutBRefIdeal.Facts] : Prop :=
  ∀ (m : (ℓ : Loc Cert.AdamOutBIdeal.nD Cert.AdamOutBIdeal.τ Cert.AdamOutBIdeal.sig) → Buf (Elt Ideal) ℓ) (g : Dev Cert.AdamOutBIdeal.nD → PrngReg)
    (m' : (ℓ : Loc Cert.AdamOutBRefIdeal.nD Cert.AdamOutBRefIdeal.τ Cert.AdamOutBRefIdeal.sig) → Buf (Elt Ideal) ℓ) (g' : Dev Cert.AdamOutBRefIdeal.nD → PrngReg), Pre_AdamOutBIdeal m →
    (∀ c : Dev Cert.AdamOutBIdeal.nD,
      m' ((c.tc : Thread Cert.AdamOutBRefIdeal.nD Cert.AdamOutBRefIdeal.τ).loc Cert.AdamOutBRefIdeal.main_arg0) = m ((c.tc : Thread Cert.AdamOutBIdeal.nD Cert.AdamOutBIdeal.τ).loc Cert.AdamOutBIdeal.main_arg0)
      ∧ m' ((c.tc : Thread Cert.AdamOutBRefIdeal.nD Cert.AdamOutBRefIdeal.τ).loc Cert.AdamOutBRefIdeal.main_arg1) = m ((c.tc : Thread Cert.AdamOutBIdeal.nD Cert.AdamOutBIdeal.τ).loc Cert.AdamOutBIdeal.main_arg1)
      ∧ m' ((c.tc : Thread Cert.AdamOutBRefIdeal.nD Cert.AdamOutBRefIdeal.τ).loc Cert.AdamOutBRefIdeal.main_arg2) = m ((c.tc : Thread Cert.AdamOutBIdeal.nD Cert.AdamOutBIdeal.τ).loc Cert.AdamOutBIdeal.main_arg2)
      ∧ m' ((c.tc : Thread Cert.AdamOutBRefIdeal.nD Cert.AdamOutBRefIdeal.τ).loc Cert.AdamOutBRefIdeal.main_arg3) = m ((c.tc : Thread Cert.AdamOutBIdeal.nD Cert.AdamOutBIdeal.τ).loc Cert.AdamOutBIdeal.main_arg3)) →
    ∃ (v0 : (c : Dev Cert.AdamOutBIdeal.nD) → Buf (Elt Ideal) ((c.tc : Thread Cert.AdamOutBIdeal.nD Cert.AdamOutBIdeal.τ).loc Cert.AdamOutBIdeal.main_v0_0)) (v1 : (c : Dev Cert.AdamOutBIdeal.nD) → Buf (Elt Ideal) ((c.tc : Thread Cert.AdamOutBIdeal.nD Cert.AdamOutBIdeal.τ).loc Cert.AdamOutBIdeal.main_v0_1)) (v2 : (c : Dev Cert.AdamOutBIdeal.nD) → Buf (Elt Ideal) ((c.tc : Thread Cert.AdamOutBIdeal.nD Cert.AdamOutBIdeal.τ).loc Cert.AdamOutBIdeal.main_v0_2)) (v3 : (c : Dev Cert.AdamOutBIdeal.nD) → Buf (Elt Ideal) ((c.tc : Thread Cert.AdamOutBIdeal.nD Cert.AdamOutBIdeal.τ).loc Cert.AdamOutBIdeal.main_v0_3)),
      θ_run (Cert.AdamOutBIdeal.defs (F := Ideal)) (onTc (τ := Cert.AdamOutBIdeal.τ) (Cert.AdamOutBIdeal.main (F := Ideal))) ⟨m, fun _ => 0, g⟩ (fun r => ∀ c : Dev Cert.AdamOutBIdeal.nD,
          r.2.mem ((c.tc : Thread Cert.AdamOutBIdeal.nD Cert.AdamOutBIdeal.τ).loc Cert.AdamOutBIdeal.main_v0_0) = v0 c
          ∧ r.2.mem ((c.tc : Thread Cert.AdamOutBIdeal.nD Cert.AdamOutBIdeal.τ).loc Cert.AdamOutBIdeal.main_v0_1) = v1 c
          ∧ r.2.mem ((c.tc : Thread Cert.AdamOutBIdeal.nD Cert.AdamOutBIdeal.τ).loc Cert.AdamOutBIdeal.main_v0_2) = v2 c
          ∧ r.2.mem ((c.tc : Thread Cert.AdamOutBIdeal.nD Cert.AdamOutBIdeal.τ).loc Cert.AdamOutBIdeal.main_v0_3) = v3 c
          ∧ r.2.mem ((c.tc : Thread Cert.AdamOutBIdeal.nD Cert.AdamOutBIdeal.τ).loc Cert.AdamOutBIdeal.main_arg0) = m ((c.tc : Thread Cert.AdamOutBIdeal.nD Cert.AdamOutBIdeal.τ).loc Cert.AdamOutBIdeal.main_arg0)
          ∧ r.2.mem ((c.tc : Thread Cert.AdamOutBIdeal.nD Cert.AdamOutBIdeal.τ).loc Cert.AdamOutBIdeal.main_arg1) = m ((c.tc : Thread Cert.AdamOutBIdeal.nD Cert.AdamOutBIdeal.τ).loc Cert.AdamOutBIdeal.main_arg1)
          ∧ r.2.mem ((c.tc : Thread Cert.AdamOutBIdeal.nD Cert.AdamOutBIdeal.τ).loc Cert.AdamOutBIdeal.main_arg2) = m ((c.tc : Thread Cert.AdamOutBIdeal.nD Cert.AdamOutBIdeal.τ).loc Cert.AdamOutBIdeal.main_arg2)
          ∧ r.2.mem ((c.tc : Thread Cert.AdamOutBIdeal.nD Cert.AdamOutBIdeal.τ).loc Cert.AdamOutBIdeal.main_arg3) = m ((c.tc : Thread Cert.AdamOutBIdeal.nD Cert.AdamOutBIdeal.τ).loc Cert.AdamOutBIdeal.main_arg3))
      ∧ θ_run (Cert.AdamOutBRefIdeal.defs (F := Ideal)) (onTc (τ := Cert.AdamOutBRefIdeal.τ) (Cert.AdamOutBRefIdeal.main (F := Ideal))) ⟨m', fun _ => 0, g'⟩ (fun r => ∀ c : Dev Cert.AdamOutBRefIdeal.nD,
          r.2.mem ((c.tc : Thread Cert.AdamOutBRefIdeal.nD Cert.AdamOutBRefIdeal.τ).loc Cert.AdamOutBRefIdeal.main_v1) = v0 c
          ∧ r.2.mem ((c.tc : Thread Cert.AdamOutBRefIdeal.nD Cert.AdamOutBRefIdeal.τ).loc Cert.AdamOutBRefIdeal.main_v25) = v1 c
          ∧ r.2.mem ((c.tc : Thread Cert.AdamOutBRefIdeal.nD Cert.AdamOutBRefIdeal.τ).loc Cert.AdamOutBRefIdeal.main_v6) = v2 c
          ∧ r.2.mem ((c.tc : Thread Cert.AdamOutBRefIdeal.nD Cert.AdamOutBRefIdeal.τ).loc Cert.AdamOutBRefIdeal.main_v12) = v3 c
          ∧ r.2.mem ((c.tc : Thread Cert.AdamOutBRefIdeal.nD Cert.AdamOutBRefIdeal.τ).loc Cert.AdamOutBRefIdeal.main_arg0) = m' ((c.tc : Thread Cert.AdamOutBRefIdeal.nD Cert.AdamOutBRefIdeal.τ).loc Cert.AdamOutBRefIdeal.main_arg0)
          ∧ r.2.mem ((c.tc : Thread Cert.AdamOutBRefIdeal.nD Cert.AdamOutBRefIdeal.τ).loc Cert.AdamOutBRefIdeal.main_arg1) = m' ((c.tc : Thread Cert.AdamOutBRefIdeal.nD Cert.AdamOutBRefIdeal.τ).loc Cert.AdamOutBRefIdeal.main_arg1)
          ∧ r.2.mem ((c.tc : Thread Cert.AdamOutBRefIdeal.nD Cert.AdamOutBRefIdeal.τ).loc Cert.AdamOutBRefIdeal.main_arg2) = m' ((c.tc : Thread Cert.AdamOutBRefIdeal.nD Cert.AdamOutBRefIdeal.τ).loc Cert.AdamOutBRefIdeal.main_arg2)
          ∧ r.2.mem ((c.tc : Thread Cert.AdamOutBRefIdeal.nD Cert.AdamOutBRefIdeal.τ).loc Cert.AdamOutBRefIdeal.main_arg3) = m' ((c.tc : Thread Cert.AdamOutBRefIdeal.nD Cert.AdamOutBRefIdeal.τ).loc Cert.AdamOutBRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v1) = v0 c
          ∧ r.2.mem ((c.tc : Thread Cert.AdamProjRefIdeal.nD Cert.AdamProjRefIdeal.τ).loc Cert.AdamProjRefIdeal.main_v25) = v1 c
          ∧ r.2.mem ((c.tc : Thread Cert.AdamProjRefIdeal.nD Cert.AdamProjRefIdeal.τ).loc Cert.AdamProjRefIdeal.main_v6) = v2 c
          ∧ r.2.mem ((c.tc : Thread Cert.AdamProjRefIdeal.nD Cert.AdamProjRefIdeal.τ).loc Cert.AdamProjRefIdeal.main_v12) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v1) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v31) = v0 c
          ∧ r.2.mem ((c.tc : Thread Cert.LossRefIdeal.nD Cert.LossRefIdeal.τ).loc Cert.LossRefIdeal.main_v32) = v1 c
          ∧ r.2.mem ((c.tc : Thread Cert.LossRefIdeal.nD Cert.LossRefIdeal.τ).loc Cert.LossRefIdeal.main_v33) = v2 c
          ∧ r.2.mem ((c.tc : Thread Cert.LossRefIdeal.nD Cert.LossRefIdeal.τ).loc Cert.LossRefIdeal.main_v21) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Norm0Bwd_Norm0BwdIdeal : Prop :=
  True

def algebraic_Norm0BwdIdeal_Norm0BwdRefIdeal [hNorm0BwdIdeal : Cert.Norm0BwdIdeal.Facts] [hNorm0BwdRefIdeal : Cert.Norm0BwdRefIdeal.Facts] : Prop :=
  ∀ (m : (ℓ : Loc Cert.Norm0BwdIdeal.nD Cert.Norm0BwdIdeal.τ Cert.Norm0BwdIdeal.sig) → Buf (Elt Ideal) ℓ) (g : Dev Cert.Norm0BwdIdeal.nD → PrngReg)
    (m' : (ℓ : Loc Cert.Norm0BwdRefIdeal.nD Cert.Norm0BwdRefIdeal.τ Cert.Norm0BwdRefIdeal.sig) → Buf (Elt Ideal) ℓ) (g' : Dev Cert.Norm0BwdRefIdeal.nD → PrngReg), Pre_Norm0BwdIdeal m →
    (∀ c : Dev Cert.Norm0BwdIdeal.nD,
      m' ((c.tc : Thread Cert.Norm0BwdRefIdeal.nD Cert.Norm0BwdRefIdeal.τ).loc Cert.Norm0BwdRefIdeal.main_arg0) = m ((c.tc : Thread Cert.Norm0BwdIdeal.nD Cert.Norm0BwdIdeal.τ).loc Cert.Norm0BwdIdeal.main_arg0)
      ∧ m' ((c.tc : Thread Cert.Norm0BwdRefIdeal.nD Cert.Norm0BwdRefIdeal.τ).loc Cert.Norm0BwdRefIdeal.main_arg1) = m ((c.tc : Thread Cert.Norm0BwdIdeal.nD Cert.Norm0BwdIdeal.τ).loc Cert.Norm0BwdIdeal.main_arg1)
      ∧ m' ((c.tc : Thread Cert.Norm0BwdRefIdeal.nD Cert.Norm0BwdRefIdeal.τ).loc Cert.Norm0BwdRefIdeal.main_arg2) = m ((c.tc : Thread Cert.Norm0BwdIdeal.nD Cert.Norm0BwdIdeal.τ).loc Cert.Norm0BwdIdeal.main_arg2)
      ∧ m' ((c.tc : Thread Cert.Norm0BwdRefIdeal.nD Cert.Norm0BwdRefIdeal.τ).loc Cert.Norm0BwdRefIdeal.main_arg3) = m ((c.tc : Thread Cert.Norm0BwdIdeal.nD Cert.Norm0BwdIdeal.τ).loc Cert.Norm0BwdIdeal.main_arg3)) →
    ∃ (v0 : (c : Dev Cert.Norm0BwdIdeal.nD) → Buf (Elt Ideal) ((c.tc : Thread Cert.Norm0BwdIdeal.nD Cert.Norm0BwdIdeal.τ).loc Cert.Norm0BwdIdeal.main_v0_0)) (v1 : (c : Dev Cert.Norm0BwdIdeal.nD) → Buf (Elt Ideal) ((c.tc : Thread Cert.Norm0BwdIdeal.nD Cert.Norm0BwdIdeal.τ).loc Cert.Norm0BwdIdeal.main_v1)),
      θ_run (Cert.Norm0BwdIdeal.defs (F := Ideal)) (onTc (τ := Cert.Norm0BwdIdeal.τ) (Cert.Norm0BwdIdeal.main (F := Ideal))) ⟨m, fun _ => 0, g⟩ (fun r => ∀ c : Dev Cert.Norm0BwdIdeal.nD,
          r.2.mem ((c.tc : Thread Cert.Norm0BwdIdeal.nD Cert.Norm0BwdIdeal.τ).loc Cert.Norm0BwdIdeal.main_v0_0) = v0 c
          ∧ r.2.mem ((c.tc : Thread Cert.Norm0BwdIdeal.nD Cert.Norm0BwdIdeal.τ).loc Cert.Norm0BwdIdeal.main_v1) = v1 c
          ∧ r.2.mem ((c.tc : Thread Cert.Norm0BwdIdeal.nD Cert.Norm0BwdIdeal.τ).loc Cert.Norm0BwdIdeal.main_arg0) = m ((c.tc : Thread Cert.Norm0BwdIdeal.nD Cert.Norm0BwdIdeal.τ).loc Cert.Norm0BwdIdeal.main_arg0)
          ∧ r.2.mem ((c.tc : Thread Cert.Norm0BwdIdeal.nD Cert.Norm0BwdIdeal.τ).loc Cert.Norm0BwdIdeal.main_arg1) = m ((c.tc : Thread Cert.Norm0BwdIdeal.nD Cert.Norm0BwdIdeal.τ).loc Cert.Norm0BwdIdeal.main_arg1)
          ∧ r.2.mem ((c.tc : Thread Cert.Norm0BwdIdeal.nD Cert.Norm0BwdIdeal.τ).loc Cert.Norm0BwdIdeal.main_arg2) = m ((c.tc : Thread Cert.Norm0BwdIdeal.nD Cert.Norm0BwdIdeal.τ).loc Cert.Norm0BwdIdeal.main_arg2)
          ∧ r.2.mem ((c.tc : Thread Cert.Norm0BwdIdeal.nD Cert.Norm0BwdIdeal.τ).loc Cert.Norm0BwdIdeal.main_arg3) = m ((c.tc : Thread Cert.Norm0BwdIdeal.nD Cert.Norm0BwdIdeal.τ).loc Cert.Norm0BwdIdeal.main_arg3))
      ∧ θ_run (Cert.Norm0BwdRefIdeal.defs (F := Ideal)) (onTc (τ := Cert.Norm0BwdRefIdeal.τ) (Cert.Norm0BwdRefIdeal.main (F := Ideal))) ⟨m', fun _ => 0, g'⟩ (fun r => ∀ c : Dev Cert.Norm0BwdRefIdeal.nD,
          r.2.mem ((c.tc : Thread Cert.Norm0BwdRefIdeal.nD Cert.Norm0BwdRefIdeal.τ).loc Cert.Norm0BwdRefIdeal.main_v39) = v0 c
          ∧ r.2.mem ((c.tc : Thread Cert.Norm0BwdRefIdeal.nD Cert.Norm0BwdRefIdeal.τ).loc Cert.Norm0BwdRefIdeal.main_v24) = v1 c
          ∧ r.2.mem ((c.tc : Thread Cert.Norm0BwdRefIdeal.nD Cert.Norm0BwdRefIdeal.τ).loc Cert.Norm0BwdRefIdeal.main_arg0) = m' ((c.tc : Thread Cert.Norm0BwdRefIdeal.nD Cert.Norm0BwdRefIdeal.τ).loc Cert.Norm0BwdRefIdeal.main_arg0)
          ∧ r.2.mem ((c.tc : Thread Cert.Norm0BwdRefIdeal.nD Cert.Norm0BwdRefIdeal.τ).loc Cert.Norm0BwdRefIdeal.main_arg1) = m' ((c.tc : Thread Cert.Norm0BwdRefIdeal.nD Cert.Norm0BwdRefIdeal.τ).loc Cert.Norm0BwdRefIdeal.main_arg1)
          ∧ r.2.mem ((c.tc : Thread Cert.Norm0BwdRefIdeal.nD Cert.Norm0BwdRefIdeal.τ).loc Cert.Norm0BwdRefIdeal.main_arg2) = m' ((c.tc : Thread Cert.Norm0BwdRefIdeal.nD Cert.Norm0BwdRefIdeal.τ).loc Cert.Norm0BwdRefIdeal.main_arg2)
          ∧ r.2.mem ((c.tc : Thread Cert.Norm0BwdRefIdeal.nD Cert.Norm0BwdRefIdeal.τ).loc Cert.Norm0BwdRefIdeal.main_arg3) = m' ((c.tc : Thread Cert.Norm0BwdRefIdeal.nD Cert.Norm0BwdRefIdeal.τ).loc Cert.Norm0BwdRefIdeal.main_arg3))

def preserves_PleNormBwd_PleNormBwdIdeal : Prop :=
  True

def algebraic_PleNormBwdIdeal_PleNormBwdRefIdeal [hPleNormBwdIdeal : Cert.PleNormBwdIdeal.Facts] [hPleNormBwdRefIdeal : Cert.PleNormBwdRefIdeal.Facts] : Prop :=
  ∀ (m : (ℓ : Loc Cert.PleNormBwdIdeal.nD Cert.PleNormBwdIdeal.τ Cert.PleNormBwdIdeal.sig) → Buf (Elt Ideal) ℓ) (g : Dev Cert.PleNormBwdIdeal.nD → PrngReg)
    (m' : (ℓ : Loc Cert.PleNormBwdRefIdeal.nD Cert.PleNormBwdRefIdeal.τ Cert.PleNormBwdRefIdeal.sig) → Buf (Elt Ideal) ℓ) (g' : Dev Cert.PleNormBwdRefIdeal.nD → PrngReg), Pre_PleNormBwdIdeal m →
    (∀ c : Dev Cert.PleNormBwdIdeal.nD,
      m' ((c.tc : Thread Cert.PleNormBwdRefIdeal.nD Cert.PleNormBwdRefIdeal.τ).loc Cert.PleNormBwdRefIdeal.main_arg0) = m ((c.tc : Thread Cert.PleNormBwdIdeal.nD Cert.PleNormBwdIdeal.τ).loc Cert.PleNormBwdIdeal.main_arg0)
      ∧ m' ((c.tc : Thread Cert.PleNormBwdRefIdeal.nD Cert.PleNormBwdRefIdeal.τ).loc Cert.PleNormBwdRefIdeal.main_arg1) = m ((c.tc : Thread Cert.PleNormBwdIdeal.nD Cert.PleNormBwdIdeal.τ).loc Cert.PleNormBwdIdeal.main_arg1)
      ∧ m' ((c.tc : Thread Cert.PleNormBwdRefIdeal.nD Cert.PleNormBwdRefIdeal.τ).loc Cert.PleNormBwdRefIdeal.main_arg2) = m ((c.tc : Thread Cert.PleNormBwdIdeal.nD Cert.PleNormBwdIdeal.τ).loc Cert.PleNormBwdIdeal.main_arg2)
      ∧ m' ((c.tc : Thread Cert.PleNormBwdRefIdeal.nD Cert.PleNormBwdRefIdeal.τ).loc Cert.PleNormBwdRefIdeal.main_arg3) = m ((c.tc : Thread Cert.PleNormBwdIdeal.nD Cert.PleNormBwdIdeal.τ).loc Cert.PleNormBwdIdeal.main_arg3)) →
    ∃ (v0 : (c : Dev Cert.PleNormBwdIdeal.nD) → Buf (Elt Ideal) ((c.tc : Thread Cert.PleNormBwdIdeal.nD Cert.PleNormBwdIdeal.τ).loc Cert.PleNormBwdIdeal.main_v0_0)) (v1 : (c : Dev Cert.PleNormBwdIdeal.nD) → Buf (Elt Ideal) ((c.tc : Thread Cert.PleNormBwdIdeal.nD Cert.PleNormBwdIdeal.τ).loc Cert.PleNormBwdIdeal.main_v1)),
      θ_run (Cert.PleNormBwdIdeal.defs (F := Ideal)) (onTc (τ := Cert.PleNormBwdIdeal.τ) (Cert.PleNormBwdIdeal.main (F := Ideal))) ⟨m, fun _ => 0, g⟩ (fun r => ∀ c : Dev Cert.PleNormBwdIdeal.nD,
          r.2.mem ((c.tc : Thread Cert.PleNormBwdIdeal.nD Cert.PleNormBwdIdeal.τ).loc Cert.PleNormBwdIdeal.main_v0_0) = v0 c
          ∧ r.2.mem ((c.tc : Thread Cert.PleNormBwdIdeal.nD Cert.PleNormBwdIdeal.τ).loc Cert.PleNormBwdIdeal.main_v1) = v1 c
          ∧ r.2.mem ((c.tc : Thread Cert.PleNormBwdIdeal.nD Cert.PleNormBwdIdeal.τ).loc Cert.PleNormBwdIdeal.main_arg0) = m ((c.tc : Thread Cert.PleNormBwdIdeal.nD Cert.PleNormBwdIdeal.τ).loc Cert.PleNormBwdIdeal.main_arg0)
          ∧ r.2.mem ((c.tc : Thread Cert.PleNormBwdIdeal.nD Cert.PleNormBwdIdeal.τ).loc Cert.PleNormBwdIdeal.main_arg1) = m ((c.tc : Thread Cert.PleNormBwdIdeal.nD Cert.PleNormBwdIdeal.τ).loc Cert.PleNormBwdIdeal.main_arg1)
          ∧ r.2.mem ((c.tc : Thread Cert.PleNormBwdIdeal.nD Cert.PleNormBwdIdeal.τ).loc Cert.PleNormBwdIdeal.main_arg2) = m ((c.tc : Thread Cert.PleNormBwdIdeal.nD Cert.PleNormBwdIdeal.τ).loc Cert.PleNormBwdIdeal.main_arg2)
          ∧ r.2.mem ((c.tc : Thread Cert.PleNormBwdIdeal.nD Cert.PleNormBwdIdeal.τ).loc Cert.PleNormBwdIdeal.main_arg3) = m ((c.tc : Thread Cert.PleNormBwdIdeal.nD Cert.PleNormBwdIdeal.τ).loc Cert.PleNormBwdIdeal.main_arg3))
      ∧ θ_run (Cert.PleNormBwdRefIdeal.defs (F := Ideal)) (onTc (τ := Cert.PleNormBwdRefIdeal.τ) (Cert.PleNormBwdRefIdeal.main (F := Ideal))) ⟨m', fun _ => 0, g'⟩ (fun r => ∀ c : Dev Cert.PleNormBwdRefIdeal.nD,
          r.2.mem ((c.tc : Thread Cert.PleNormBwdRefIdeal.nD Cert.PleNormBwdRefIdeal.τ).loc Cert.PleNormBwdRefIdeal.main_v40) = v0 c
          ∧ r.2.mem ((c.tc : Thread Cert.PleNormBwdRefIdeal.nD Cert.PleNormBwdRefIdeal.τ).loc Cert.PleNormBwdRefIdeal.main_v24) = v1 c
          ∧ r.2.mem ((c.tc : Thread Cert.PleNormBwdRefIdeal.nD Cert.PleNormBwdRefIdeal.τ).loc Cert.PleNormBwdRefIdeal.main_arg0) = m' ((c.tc : Thread Cert.PleNormBwdRefIdeal.nD Cert.PleNormBwdRefIdeal.τ).loc Cert.PleNormBwdRefIdeal.main_arg0)
          ∧ r.2.mem ((c.tc : Thread Cert.PleNormBwdRefIdeal.nD Cert.PleNormBwdRefIdeal.τ).loc Cert.PleNormBwdRefIdeal.main_arg1) = m' ((c.tc : Thread Cert.PleNormBwdRefIdeal.nD Cert.PleNormBwdRefIdeal.τ).loc Cert.PleNormBwdRefIdeal.main_arg1)
          ∧ r.2.mem ((c.tc : Thread Cert.PleNormBwdRefIdeal.nD Cert.PleNormBwdRefIdeal.τ).loc Cert.PleNormBwdRefIdeal.main_arg2) = m' ((c.tc : Thread Cert.PleNormBwdRefIdeal.nD Cert.PleNormBwdRefIdeal.τ).loc Cert.PleNormBwdRefIdeal.main_arg2)
          ∧ r.2.mem ((c.tc : Thread Cert.PleNormBwdRefIdeal.nD Cert.PleNormBwdRefIdeal.τ).loc Cert.PleNormBwdRefIdeal.main_arg3) = m' ((c.tc : Thread Cert.PleNormBwdRefIdeal.nD Cert.PleNormBwdRefIdeal.τ).loc Cert.PleNormBwdRefIdeal.main_arg3))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)
      ∧ m' ((c.tc : Thread Cert.Norm1BwdRefIdeal.nD Cert.Norm1BwdRefIdeal.τ).loc Cert.Norm1BwdRefIdeal.main_arg5) = m ((c.tc : Thread Cert.Norm1BwdIdeal.nD Cert.Norm1BwdIdeal.τ).loc Cert.Norm1BwdIdeal.main_arg5)
      ∧ m' ((c.tc : Thread Cert.Norm1BwdRefIdeal.nD Cert.Norm1BwdRefIdeal.τ).loc Cert.Norm1BwdRefIdeal.main_arg6) = m ((c.tc : Thread Cert.Norm1BwdIdeal.nD Cert.Norm1BwdIdeal.τ).loc Cert.Norm1BwdIdeal.main_arg6)
      ∧ m' ((c.tc : Thread Cert.Norm1BwdRefIdeal.nD Cert.Norm1BwdRefIdeal.τ).loc Cert.Norm1BwdRefIdeal.main_arg7) = m ((c.tc : Thread Cert.Norm1BwdIdeal.nD Cert.Norm1BwdIdeal.τ).loc Cert.Norm1BwdIdeal.main_arg7)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v1)) (v2 : (c : Dev Cert.Norm1BwdIdeal.nD) → Buf (Elt Ideal) ((c.tc : Thread Cert.Norm1BwdIdeal.nD Cert.Norm1BwdIdeal.τ).loc Cert.Norm1BwdIdeal.main_v2)) (v3 : (c : Dev Cert.Norm1BwdIdeal.nD) → Buf (Elt Ideal) ((c.tc : Thread Cert.Norm1BwdIdeal.nD Cert.Norm1BwdIdeal.τ).loc Cert.Norm1BwdIdeal.main_v0_3)) (v4 : (c : Dev Cert.Norm1BwdIdeal.nD) → Buf (Elt Ideal) ((c.tc : Thread Cert.Norm1BwdIdeal.nD Cert.Norm1BwdIdeal.τ).loc Cert.Norm1BwdIdeal.main_v0_4)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v1) = v1 c
          ∧ r.2.mem ((c.tc : Thread Cert.Norm1BwdIdeal.nD Cert.Norm1BwdIdeal.τ).loc Cert.Norm1BwdIdeal.main_v2) = v2 c
          ∧ r.2.mem ((c.tc : Thread Cert.Norm1BwdIdeal.nD Cert.Norm1BwdIdeal.τ).loc Cert.Norm1BwdIdeal.main_v0_3) = v3 c
          ∧ r.2.mem ((c.tc : Thread Cert.Norm1BwdIdeal.nD Cert.Norm1BwdIdeal.τ).loc Cert.Norm1BwdIdeal.main_v0_4) = v4 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
          ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5)
          ∧ r.2.mem ((c.tc : Thread Cert.Norm1BwdIdeal.nD Cert.Norm1BwdIdeal.τ).loc Cert.Norm1BwdIdeal.main_arg6) = m ((c.tc : Thread Cert.Norm1BwdIdeal.nD Cert.Norm1BwdIdeal.τ).loc Cert.Norm1BwdIdeal.main_arg6)
          ∧ r.2.mem ((c.tc : Thread Cert.Norm1BwdIdeal.nD Cert.Norm1BwdIdeal.τ).loc Cert.Norm1BwdIdeal.main_arg7) = m ((c.tc : Thread Cert.Norm1BwdIdeal.nD Cert.Norm1BwdIdeal.τ).loc Cert.Norm1BwdIdeal.main_arg7))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v94) = v0 c
          ∧ r.2.mem ((c.tc : Thread Cert.Norm1BwdRefIdeal.nD Cert.Norm1BwdRefIdeal.τ).loc Cert.Norm1BwdRefIdeal.main_v63) = v1 c
          ∧ r.2.mem ((c.tc : Thread Cert.Norm1BwdRefIdeal.nD Cert.Norm1BwdRefIdeal.τ).loc Cert.Norm1BwdRefIdeal.main_v42) = v2 c
          ∧ r.2.mem ((c.tc : Thread Cert.Norm1BwdRefIdeal.nD Cert.Norm1BwdRefIdeal.τ).loc Cert.Norm1BwdRefIdeal.main_v95) = v3 c
          ∧ r.2.mem ((c.tc : Thread Cert.Norm1BwdRefIdeal.nD Cert.Norm1BwdRefIdeal.τ).loc Cert.Norm1BwdRefIdeal.main_v96) = v4 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4)
          ∧ r.2.mem ((c.tc : Thread Cert.Norm1BwdRefIdeal.nD Cert.Norm1BwdRefIdeal.τ).loc Cert.Norm1BwdRefIdeal.main_arg5) = m' ((c.tc : Thread Cert.Norm1BwdRefIdeal.nD Cert.Norm1BwdRefIdeal.τ).loc Cert.Norm1BwdRefIdeal.main_arg5)
          ∧ r.2.mem ((c.tc : Thread Cert.Norm1BwdRefIdeal.nD Cert.Norm1BwdRefIdeal.τ).loc Cert.Norm1BwdRefIdeal.main_arg6) = m' ((c.tc : Thread Cert.Norm1BwdRefIdeal.nD Cert.Norm1BwdRefIdeal.τ).loc Cert.Norm1BwdRefIdeal.main_arg6)
          ∧ r.2.mem ((c.tc : Thread Cert.Norm1BwdRefIdeal.nD Cert.Norm1BwdRefIdeal.τ).loc Cert.Norm1BwdRefIdeal.main_arg7) = m' ((c.tc : Thread Cert.Norm1BwdRefIdeal.nD Cert.Norm1BwdRefIdeal.τ).loc Cert.Norm1BwdRefIdeal.main_arg7))

def preserves_Norm0_Norm0Ideal : Prop :=
  True

def algebraic_Norm0Ideal_Norm0RefIdeal [hNorm0Ideal : Cert.Norm0Ideal.Facts] [hNorm0RefIdeal : Cert.Norm0RefIdeal.Facts] : Prop :=
  ∀ (m : (ℓ : Loc Cert.Norm0Ideal.nD Cert.Norm0Ideal.τ Cert.Norm0Ideal.sig) → Buf (Elt Ideal) ℓ) (g : Dev Cert.Norm0Ideal.nD → PrngReg)
    (m' : (ℓ : Loc Cert.Norm0RefIdeal.nD Cert.Norm0RefIdeal.τ Cert.Norm0RefIdeal.sig) → Buf (Elt Ideal) ℓ) (g' : Dev Cert.Norm0RefIdeal.nD → PrngReg), Pre_Norm0Ideal m →
    (∀ c : Dev Cert.Norm0Ideal.nD,
      m' ((c.tc : Thread Cert.Norm0RefIdeal.nD Cert.Norm0RefIdeal.τ).loc Cert.Norm0RefIdeal.main_arg0) = m ((c.tc : Thread Cert.Norm0Ideal.nD Cert.Norm0Ideal.τ).loc Cert.Norm0Ideal.main_arg0)
      ∧ m' ((c.tc : Thread Cert.Norm0RefIdeal.nD Cert.Norm0RefIdeal.τ).loc Cert.Norm0RefIdeal.main_arg1) = m ((c.tc : Thread Cert.Norm0Ideal.nD Cert.Norm0Ideal.τ).loc Cert.Norm0Ideal.main_arg1)) →
    ∃ (v0 : (c : Dev Cert.Norm0Ideal.nD) → Buf (Elt Ideal) ((c.tc : Thread Cert.Norm0Ideal.nD Cert.Norm0Ideal.τ).loc Cert.Norm0Ideal.main_v0)),
      θ_run (Cert.Norm0Ideal.defs (F := Ideal)) (onTc (τ := Cert.Norm0Ideal.τ) (Cert.Norm0Ideal.main (F := Ideal))) ⟨m, fun _ => 0, g⟩ (fun r => ∀ c : Dev Cert.Norm0Ideal.nD,
          r.2.mem ((c.tc : Thread Cert.Norm0Ideal.nD Cert.Norm0Ideal.τ).loc Cert.Norm0Ideal.main_v0) = v0 c
          ∧ r.2.mem ((c.tc : Thread Cert.Norm0Ideal.nD Cert.Norm0Ideal.τ).loc Cert.Norm0Ideal.main_arg0) = m ((c.tc : Thread Cert.Norm0Ideal.nD Cert.Norm0Ideal.τ).loc Cert.Norm0Ideal.main_arg0)
          ∧ r.2.mem ((c.tc : Thread Cert.Norm0Ideal.nD Cert.Norm0Ideal.τ).loc Cert.Norm0Ideal.main_arg1) = m ((c.tc : Thread Cert.Norm0Ideal.nD Cert.Norm0Ideal.τ).loc Cert.Norm0Ideal.main_arg1))
      ∧ θ_run (Cert.Norm0RefIdeal.defs (F := Ideal)) (onTc (τ := Cert.Norm0RefIdeal.τ) (Cert.Norm0RefIdeal.main (F := Ideal))) ⟨m', fun _ => 0, g'⟩ (fun r => ∀ c : Dev Cert.Norm0RefIdeal.nD,
          r.2.mem ((c.tc : Thread Cert.Norm0RefIdeal.nD Cert.Norm0RefIdeal.τ).loc Cert.Norm0RefIdeal.main_v14) = v0 c
          ∧ r.2.mem ((c.tc : Thread Cert.Norm0RefIdeal.nD Cert.Norm0RefIdeal.τ).loc Cert.Norm0RefIdeal.main_arg0) = m' ((c.tc : Thread Cert.Norm0RefIdeal.nD Cert.Norm0RefIdeal.τ).loc Cert.Norm0RefIdeal.main_arg0)
          ∧ r.2.mem ((c.tc : Thread Cert.Norm0RefIdeal.nD Cert.Norm0RefIdeal.τ).loc Cert.Norm0RefIdeal.main_arg1) = m' ((c.tc : Thread Cert.Norm0RefIdeal.nD Cert.Norm0RefIdeal.τ).loc Cert.Norm0RefIdeal.main_arg1))

def preserves_PleNorm_PleNormIdeal : Prop :=
  True

def algebraic_PleNormIdeal_PleNormRefIdeal [hPleNormIdeal : Cert.PleNormIdeal.Facts] [hPleNormRefIdeal : Cert.PleNormRefIdeal.Facts] : Prop :=
  ∀ (m : (ℓ : Loc Cert.PleNormIdeal.nD Cert.PleNormIdeal.τ Cert.PleNormIdeal.sig) → Buf (Elt Ideal) ℓ) (g : Dev Cert.PleNormIdeal.nD → PrngReg)
    (m' : (ℓ : Loc Cert.PleNormRefIdeal.nD Cert.PleNormRefIdeal.τ Cert.PleNormRefIdeal.sig) → Buf (Elt Ideal) ℓ) (g' : Dev Cert.PleNormRefIdeal.nD → PrngReg), Pre_PleNormIdeal m →
    (∀ c : Dev Cert.PleNormIdeal.nD,
      m' ((c.tc : Thread Cert.PleNormRefIdeal.nD Cert.PleNormRefIdeal.τ).loc Cert.PleNormRefIdeal.main_arg0) = m ((c.tc : Thread Cert.PleNormIdeal.nD Cert.PleNormIdeal.τ).loc Cert.PleNormIdeal.main_arg0)
      ∧ m' ((c.tc : Thread Cert.PleNormRefIdeal.nD Cert.PleNormRefIdeal.τ).loc Cert.PleNormRefIdeal.main_arg1) = m ((c.tc : Thread Cert.PleNormIdeal.nD Cert.PleNormIdeal.τ).loc Cert.PleNormIdeal.main_arg1)
      ∧ m' ((c.tc : Thread Cert.PleNormRefIdeal.nD Cert.PleNormRefIdeal.τ).loc Cert.PleNormRefIdeal.main_arg2) = m ((c.tc : Thread Cert.PleNormIdeal.nD Cert.PleNormIdeal.τ).loc Cert.PleNormIdeal.main_arg2)
      ∧ m' ((c.tc : Thread Cert.PleNormRefIdeal.nD Cert.PleNormRefIdeal.τ).loc Cert.PleNormRefIdeal.main_arg3) = m ((c.tc : Thread Cert.PleNormIdeal.nD Cert.PleNormIdeal.τ).loc Cert.PleNormIdeal.main_arg3)
      ∧ m' ((c.tc : Thread Cert.PleNormRefIdeal.nD Cert.PleNormRefIdeal.τ).loc Cert.PleNormRefIdeal.main_arg4) = m ((c.tc : Thread Cert.PleNormIdeal.nD Cert.PleNormIdeal.τ).loc Cert.PleNormIdeal.main_arg4)) →
    ∃ (v0 : (c : Dev Cert.PleNormIdeal.nD) → Buf (Elt Ideal) ((c.tc : Thread Cert.PleNormIdeal.nD Cert.PleNormIdeal.τ).loc Cert.PleNormIdeal.main_v0_0)) (v1 : (c : Dev Cert.PleNormIdeal.nD) → Buf (Elt Ideal) ((c.tc : Thread Cert.PleNormIdeal.nD Cert.PleNormIdeal.τ).loc Cert.PleNormIdeal.main_v0_1)) (v2 : (c : Dev Cert.PleNormIdeal.nD) → Buf (Elt Ideal) ((c.tc : Thread Cert.PleNormIdeal.nD Cert.PleNormIdeal.τ).loc Cert.PleNormIdeal.main_v0_2)),
      θ_run (Cert.PleNormIdeal.defs (F := Ideal)) (onTc (τ := Cert.PleNormIdeal.τ) (Cert.PleNormIdeal.main (F := Ideal))) ⟨m, fun _ => 0, g⟩ (fun r => ∀ c : Dev Cert.PleNormIdeal.nD,
          r.2.mem ((c.tc : Thread Cert.PleNormIdeal.nD Cert.PleNormIdeal.τ).loc Cert.PleNormIdeal.main_v0_0) = v0 c
          ∧ r.2.mem ((c.tc : Thread Cert.PleNormIdeal.nD Cert.PleNormIdeal.τ).loc Cert.PleNormIdeal.main_v0_1) = v1 c
          ∧ r.2.mem ((c.tc : Thread Cert.PleNormIdeal.nD Cert.PleNormIdeal.τ).loc Cert.PleNormIdeal.main_v0_2) = v2 c
          ∧ r.2.mem ((c.tc : Thread Cert.PleNormIdeal.nD Cert.PleNormIdeal.τ).loc Cert.PleNormIdeal.main_arg0) = m ((c.tc : Thread Cert.PleNormIdeal.nD Cert.PleNormIdeal.τ).loc Cert.PleNormIdeal.main_arg0)
          ∧ r.2.mem ((c.tc : Thread Cert.PleNormIdeal.nD Cert.PleNormIdeal.τ).loc Cert.PleNormIdeal.main_arg1) = m ((c.tc : Thread Cert.PleNormIdeal.nD Cert.PleNormIdeal.τ).loc Cert.PleNormIdeal.main_arg1)
          ∧ r.2.mem ((c.tc : Thread Cert.PleNormIdeal.nD Cert.PleNormIdeal.τ).loc Cert.PleNormIdeal.main_arg2) = m ((c.tc : Thread Cert.PleNormIdeal.nD Cert.PleNormIdeal.τ).loc Cert.PleNormIdeal.main_arg2)
          ∧ r.2.mem ((c.tc : Thread Cert.PleNormIdeal.nD Cert.PleNormIdeal.τ).loc Cert.PleNormIdeal.main_arg3) = m ((c.tc : Thread Cert.PleNormIdeal.nD Cert.PleNormIdeal.τ).loc Cert.PleNormIdeal.main_arg3)
          ∧ r.2.mem ((c.tc : Thread Cert.PleNormIdeal.nD Cert.PleNormIdeal.τ).loc Cert.PleNormIdeal.main_arg4) = m ((c.tc : Thread Cert.PleNormIdeal.nD Cert.PleNormIdeal.τ).loc Cert.PleNormIdeal.main_arg4))
      ∧ θ_run (Cert.PleNormRefIdeal.defs (F := Ideal)) (onTc (τ := Cert.PleNormRefIdeal.τ) (Cert.PleNormRefIdeal.main (F := Ideal))) ⟨m', fun _ => 0, g'⟩ (fun r => ∀ c : Dev Cert.PleNormRefIdeal.nD,
          r.2.mem ((c.tc : Thread Cert.PleNormRefIdeal.nD Cert.PleNormRefIdeal.τ).loc Cert.PleNormRefIdeal.main_v9) = v0 c
          ∧ r.2.mem ((c.tc : Thread Cert.PleNormRefIdeal.nD Cert.PleNormRefIdeal.τ).loc Cert.PleNormRefIdeal.main_v24) = v1 c
          ∧ r.2.mem ((c.tc : Thread Cert.PleNormRefIdeal.nD Cert.PleNormRefIdeal.τ).loc Cert.PleNormRefIdeal.main_v39) = v2 c
          ∧ r.2.mem ((c.tc : Thread Cert.PleNormRefIdeal.nD Cert.PleNormRefIdeal.τ).loc Cert.PleNormRefIdeal.main_arg0) = m' ((c.tc : Thread Cert.PleNormRefIdeal.nD Cert.PleNormRefIdeal.τ).loc Cert.PleNormRefIdeal.main_arg0)
          ∧ r.2.mem ((c.tc : Thread Cert.PleNormRefIdeal.nD Cert.PleNormRefIdeal.τ).loc Cert.PleNormRefIdeal.main_arg1) = m' ((c.tc : Thread Cert.PleNormRefIdeal.nD Cert.PleNormRefIdeal.τ).loc Cert.PleNormRefIdeal.main_arg1)
          ∧ r.2.mem ((c.tc : Thread Cert.PleNormRefIdeal.nD Cert.PleNormRefIdeal.τ).loc Cert.PleNormRefIdeal.main_arg2) = m' ((c.tc : Thread Cert.PleNormRefIdeal.nD Cert.PleNormRefIdeal.τ).loc Cert.PleNormRefIdeal.main_arg2)
          ∧ r.2.mem ((c.tc : Thread Cert.PleNormRefIdeal.nD Cert.PleNormRefIdeal.τ).loc Cert.PleNormRefIdeal.main_arg3) = m' ((c.tc : Thread Cert.PleNormRefIdeal.nD Cert.PleNormRefIdeal.τ).loc Cert.PleNormRefIdeal.main_arg3)
          ∧ r.2.mem ((c.tc : Thread Cert.PleNormRefIdeal.nD Cert.PleNormRefIdeal.τ).loc Cert.PleNormRefIdeal.main_arg4) = m' ((c.tc : Thread Cert.PleNormRefIdeal.nD Cert.PleNormRefIdeal.τ).loc Cert.PleNormRefIdeal.main_arg4))

def preserves_DUFirst_DUFirstIdeal : Prop :=
  True

def algebraic_DUFirstIdeal_DUFirstRefIdeal [hDUFirstIdeal : Cert.DUFirstIdeal.Facts] [hDUFirstRefIdeal : Cert.DUFirstRefIdeal.Facts] : Prop :=
  ∀ (m : (ℓ : Loc Cert.DUFirstIdeal.nD Cert.DUFirstIdeal.τ Cert.DUFirstIdeal.sig) → Buf (Elt Ideal) ℓ) (g : Dev Cert.DUFirstIdeal.nD → PrngReg)
    (m' : (ℓ : Loc Cert.DUFirstRefIdeal.nD Cert.DUFirstRefIdeal.τ Cert.DUFirstRefIdeal.sig) → Buf (Elt Ideal) ℓ) (g' : Dev Cert.DUFirstRefIdeal.nD → PrngReg), Pre_DUFirstIdeal m →
    (∀ c : Dev Cert.DUFirstIdeal.nD,
      m' ((c.tc : Thread Cert.DUFirstRefIdeal.nD Cert.DUFirstRefIdeal.τ).loc Cert.DUFirstRefIdeal.main_arg0) = m ((c.tc : Thread Cert.DUFirstIdeal.nD Cert.DUFirstIdeal.τ).loc Cert.DUFirstIdeal.main_arg0)
      ∧ m' ((c.tc : Thread Cert.DUFirstRefIdeal.nD Cert.DUFirstRefIdeal.τ).loc Cert.DUFirstRefIdeal.main_arg1) = m ((c.tc : Thread Cert.DUFirstIdeal.nD Cert.DUFirstIdeal.τ).loc Cert.DUFirstIdeal.main_arg1)) →
    ∃ (v0 : (c : Dev Cert.DUFirstIdeal.nD) → Buf (Elt Ideal) ((c.tc : Thread Cert.DUFirstIdeal.nD Cert.DUFirstIdeal.τ).loc Cert.DUFirstIdeal.main_v0)),
      θ_run (Cert.DUFirstIdeal.defs (F := Ideal)) (onTc (τ := Cert.DUFirstIdeal.τ) (Cert.DUFirstIdeal.main (F := Ideal))) ⟨m, fun _ => 0, g⟩ (fun r => ∀ c : Dev Cert.DUFirstIdeal.nD,
          r.2.mem ((c.tc : Thread Cert.DUFirstIdeal.nD Cert.DUFirstIdeal.τ).loc Cert.DUFirstIdeal.main_v0) = v0 c
          ∧ r.2.mem ((c.tc : Thread Cert.DUFirstIdeal.nD Cert.DUFirstIdeal.τ).loc Cert.DUFirstIdeal.main_arg0) = m ((c.tc : Thread Cert.DUFirstIdeal.nD Cert.DUFirstIdeal.τ).loc Cert.DUFirstIdeal.main_arg0)
          ∧ r.2.mem ((c.tc : Thread Cert.DUFirstIdeal.nD Cert.DUFirstIdeal.τ).loc Cert.DUFirstIdeal.main_arg1) = m ((c.tc : Thread Cert.DUFirstIdeal.nD Cert.DUFirstIdeal.τ).loc Cert.DUFirstIdeal.main_arg1))
      ∧ θ_run (Cert.DUFirstRefIdeal.defs (F := Ideal)) (onTc (τ := Cert.DUFirstRefIdeal.τ) (Cert.DUFirstRefIdeal.main (F := Ideal))) ⟨m', fun _ => 0, g'⟩ (fun r => ∀ c : Dev Cert.DUFirstRefIdeal.nD,
          r.2.mem ((c.tc : Thread Cert.DUFirstRefIdeal.nD Cert.DUFirstRefIdeal.τ).loc Cert.DUFirstRefIdeal.main_v5) = v0 c
          ∧ r.2.mem ((c.tc : Thread Cert.DUFirstRefIdeal.nD Cert.DUFirstRefIdeal.τ).loc Cert.DUFirstRefIdeal.main_arg0) = m' ((c.tc : Thread Cert.DUFirstRefIdeal.nD Cert.DUFirstRefIdeal.τ).loc Cert.DUFirstRefIdeal.main_arg0)
          ∧ r.2.mem ((c.tc : Thread Cert.DUFirstRefIdeal.nD Cert.DUFirstRefIdeal.τ).loc Cert.DUFirstRefIdeal.main_arg1) = m' ((c.tc : Thread Cert.DUFirstRefIdeal.nD Cert.DUFirstRefIdeal.τ).loc Cert.DUFirstRefIdeal.main_arg1))

def Claim : Prop :=
  ∃ (hLnGate : Cert.LnGate.Facts) (hLnGateIdeal : Cert.LnGateIdeal.Facts) (hLnGateRefIdeal : Cert.LnGateRefIdeal.Facts) (hDInA : Cert.DInA.Facts) (hDInAIdeal : Cert.DInAIdeal.Facts) (hDInARefIdeal : Cert.DInARefIdeal.Facts) (hDInB : Cert.DInB.Facts) (hDInBIdeal : Cert.DInBIdeal.Facts) (hDInBRefIdeal : Cert.DInBRefIdeal.Facts) (hDKv : Cert.DKv.Facts) (hDKvIdeal : Cert.DKvIdeal.Facts) (hDKvRefIdeal : Cert.DKvRefIdeal.Facts) (hDProj : Cert.DProj.Facts) (hDProjIdeal : Cert.DProjIdeal.Facts) (hDProjRefIdeal : Cert.DProjRefIdeal.Facts) (hDOutA : Cert.DOutA.Facts) (hDOutAIdeal : Cert.DOutAIdeal.Facts) (hDOutARefIdeal : Cert.DOutARefIdeal.Facts) (hDSquare : Cert.DSquare.Facts) (hDSquareIdeal : Cert.DSquareIdeal.Facts) (hDSquareRefIdeal : Cert.DSquareRefIdeal.Facts) (hDU : Cert.DU.Facts) (hDUIdeal : Cert.DUIdeal.Facts) (hDURefIdeal : Cert.DURefIdeal.Facts) (hDKvn : Cert.DKvn.Facts) (hDKvnIdeal : Cert.DKvnIdeal.Facts) (hDKvnRefIdeal : Cert.DKvnRefIdeal.Facts) (hDM : Cert.DM.Facts) (hDMIdeal : Cert.DMIdeal.Facts) (hDMRefIdeal : Cert.DMRefIdeal.Facts) (hDRows : Cert.DRows.Facts) (hDRowsIdeal : Cert.DRowsIdeal.Facts) (hDRowsRefIdeal : Cert.DRowsRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hKv : Cert.Kv.Facts) (hKvIdeal : Cert.KvIdeal.Facts) (hKvRefIdeal : Cert.KvRefIdeal.Facts) (hGate : Cert.Gate.Facts) (hGateIdeal : Cert.GateIdeal.Facts) (hGateRefIdeal : Cert.GateRefIdeal.Facts) (hProj : Cert.Proj.Facts) (hProjIdeal : Cert.ProjIdeal.Facts) (hProjRefIdeal : Cert.ProjRefIdeal.Facts) (hOutA : Cert.OutA.Facts) (hOutAIdeal : Cert.OutAIdeal.Facts) (hOutARefIdeal : Cert.OutARefIdeal.Facts) (hOutB : Cert.OutB.Facts) (hOutBIdeal : Cert.OutBIdeal.Facts) (hOutBRefIdeal : Cert.OutBRefIdeal.Facts) (hAdamInA : Cert.AdamInA.Facts) (hAdamInAIdeal : Cert.AdamInAIdeal.Facts) (hAdamInARefIdeal : Cert.AdamInARefIdeal.Facts) (hAdamSquare : Cert.AdamSquare.Facts) (hAdamSquareIdeal : Cert.AdamSquareIdeal.Facts) (hAdamSquareRefIdeal : Cert.AdamSquareRefIdeal.Facts) (hAdamKv : Cert.AdamKv.Facts) (hAdamKvIdeal : Cert.AdamKvIdeal.Facts) (hAdamKvRefIdeal : Cert.AdamKvRefIdeal.Facts) (hAdamInB : Cert.AdamInB.Facts) (hAdamInBIdeal : Cert.AdamInBIdeal.Facts) (hAdamInBRefIdeal : Cert.AdamInBRefIdeal.Facts) (hAdamOutB : Cert.AdamOutB.Facts) (hAdamOutBIdeal : Cert.AdamOutBIdeal.Facts) (hAdamOutBRefIdeal : Cert.AdamOutBRefIdeal.Facts) (hAdamProj : Cert.AdamProj.Facts) (hAdamProjIdeal : Cert.AdamProjIdeal.Facts) (hAdamProjRefIdeal : Cert.AdamProjRefIdeal.Facts) (hAdamSmall : Cert.AdamSmall.Facts) (hAdamSmallIdeal : Cert.AdamSmallIdeal.Facts) (hAdamSmallRefIdeal : Cert.AdamSmallRefIdeal.Facts) (hLoss : Cert.Loss.Facts) (hLossIdeal : Cert.LossIdeal.Facts) (hLossRefIdeal : Cert.LossRefIdeal.Facts) (hNorm0Bwd : Cert.Norm0Bwd.Facts) (hNorm0BwdIdeal : Cert.Norm0BwdIdeal.Facts) (hNorm0BwdRefIdeal : Cert.Norm0BwdRefIdeal.Facts) (hPleNormBwd : Cert.PleNormBwd.Facts) (hPleNormBwdIdeal : Cert.PleNormBwdIdeal.Facts) (hPleNormBwdRefIdeal : Cert.PleNormBwdRefIdeal.Facts) (hNorm1Bwd : Cert.Norm1Bwd.Facts) (hNorm1BwdIdeal : Cert.Norm1BwdIdeal.Facts) (hNorm1BwdRefIdeal : Cert.Norm1BwdRefIdeal.Facts) (hNorm0 : Cert.Norm0.Facts) (hNorm0Ideal : Cert.Norm0Ideal.Facts) (hNorm0RefIdeal : Cert.Norm0RefIdeal.Facts) (hPleNorm : Cert.PleNorm.Facts) (hPleNormIdeal : Cert.PleNormIdeal.Facts) (hPleNormRefIdeal : Cert.PleNormRefIdeal.Facts) (hDUFirst : Cert.DUFirst.Facts) (hDUFirstIdeal : Cert.DUFirstIdeal.Facts) (hDUFirstRefIdeal : Cert.DUFirstRefIdeal.Facts) (hPre_ln_gate_finite : Cert.Pre_ln_gate_finite.Facts),
    quiescent_LnGate (hLnGate := hLnGate)
    ∧ quiescent_LnGateIdeal (hLnGateIdeal := hLnGateIdeal)
    ∧ quiescent_LnGateIdeal_pre_ln_gate_finite (hLnGateIdeal := hLnGateIdeal) (hPre_ln_gate_finite := hPre_ln_gate_finite)
    ∧ quiescent_LnGateRefIdeal (hLnGateRefIdeal := hLnGateRefIdeal)
    ∧ quiescent_LnGateRefIdeal_pre_ln_gate_finite (hLnGateRefIdeal := hLnGateRefIdeal) (hPre_ln_gate_finite := hPre_ln_gate_finite)
    ∧ quiescent_DInA (hDInA := hDInA)
    ∧ quiescent_DInAIdeal (hDInAIdeal := hDInAIdeal)
    ∧ quiescent_DInARefIdeal (hDInARefIdeal := hDInARefIdeal)
    ∧ quiescent_DInB (hDInB := hDInB)
    ∧ quiescent_DInBIdeal (hDInBIdeal := hDInBIdeal)
    ∧ quiescent_DInBRefIdeal (hDInBRefIdeal := hDInBRefIdeal)
    ∧ quiescent_DKv (hDKv := hDKv)
    ∧ quiescent_DKvIdeal (hDKvIdeal := hDKvIdeal)
    ∧ quiescent_DKvRefIdeal (hDKvRefIdeal := hDKvRefIdeal)
    ∧ quiescent_DProj (hDProj := hDProj)
    ∧ quiescent_DProjIdeal (hDProjIdeal := hDProjIdeal)
    ∧ quiescent_DProjRefIdeal (hDProjRefIdeal := hDProjRefIdeal)
    ∧ quiescent_DOutA (hDOutA := hDOutA)
    ∧ quiescent_DOutAIdeal (hDOutAIdeal := hDOutAIdeal)
    ∧ quiescent_DOutARefIdeal (hDOutARefIdeal := hDOutARefIdeal)
    ∧ quiescent_DSquare (hDSquare := hDSquare)
    ∧ quiescent_DSquareIdeal (hDSquareIdeal := hDSquareIdeal)
    ∧ quiescent_DSquareRefIdeal (hDSquareRefIdeal := hDSquareRefIdeal)
    ∧ quiescent_DU (hDU := hDU)
    ∧ quiescent_DUIdeal (hDUIdeal := hDUIdeal)
    ∧ quiescent_DURefIdeal (hDURefIdeal := hDURefIdeal)
    ∧ quiescent_DKvn (hDKvn := hDKvn)
    ∧ quiescent_DKvnIdeal (hDKvnIdeal := hDKvnIdeal)
    ∧ quiescent_DKvnRefIdeal (hDKvnRefIdeal := hDKvnRefIdeal)
    ∧ quiescent_DM (hDM := hDM)
    ∧ quiescent_DMIdeal (hDMIdeal := hDMIdeal)
    ∧ quiescent_DMRefIdeal (hDMRefIdeal := hDMRefIdeal)
    ∧ quiescent_DRows (hDRows := hDRows)
    ∧ quiescent_DRowsIdeal (hDRowsIdeal := hDRowsIdeal)
    ∧ quiescent_DRowsRefIdeal (hDRowsRefIdeal := hDRowsRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_Kv (hKv := hKv)
    ∧ quiescent_KvIdeal (hKvIdeal := hKvIdeal)
    ∧ quiescent_KvRefIdeal (hKvRefIdeal := hKvRefIdeal)
    ∧ quiescent_Gate (hGate := hGate)
    ∧ quiescent_GateIdeal (hGateIdeal := hGateIdeal)
    ∧ quiescent_GateRefIdeal (hGateRefIdeal := hGateRefIdeal)
    ∧ quiescent_Proj (hProj := hProj)
    ∧ quiescent_ProjIdeal (hProjIdeal := hProjIdeal)
    ∧ quiescent_ProjRefIdeal (hProjRefIdeal := hProjRefIdeal)
    ∧ quiescent_OutA (hOutA := hOutA)
    ∧ quiescent_OutAIdeal (hOutAIdeal := hOutAIdeal)
    ∧ quiescent_OutARefIdeal (hOutARefIdeal := hOutARefIdeal)
    ∧ quiescent_OutB (hOutB := hOutB)
    ∧ quiescent_OutBIdeal (hOutBIdeal := hOutBIdeal)
    ∧ quiescent_OutBRefIdeal (hOutBRefIdeal := hOutBRefIdeal)
    ∧ quiescent_AdamInA (hAdamInA := hAdamInA)
    ∧ quiescent_AdamInAIdeal (hAdamInAIdeal := hAdamInAIdeal)
    ∧ quiescent_AdamInARefIdeal (hAdamInARefIdeal := hAdamInARefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamInB (hAdamInB := hAdamInB)
    ∧ quiescent_AdamInBIdeal (hAdamInBIdeal := hAdamInBIdeal)
    ∧ quiescent_AdamInBRefIdeal (hAdamInBRefIdeal := hAdamInBRefIdeal)
    ∧ quiescent_AdamOutB (hAdamOutB := hAdamOutB)
    ∧ quiescent_AdamOutBIdeal (hAdamOutBIdeal := hAdamOutBIdeal)
    ∧ quiescent_AdamOutBRefIdeal (hAdamOutBRefIdeal := hAdamOutBRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Loss (hLoss := hLoss)
    ∧ quiescent_LossIdeal (hLossIdeal := hLossIdeal)
    ∧ quiescent_LossRefIdeal (hLossRefIdeal := hLossRefIdeal)
    ∧ quiescent_Norm0Bwd (hNorm0Bwd := hNorm0Bwd)
    ∧ quiescent_Norm0BwdIdeal (hNorm0BwdIdeal := hNorm0BwdIdeal)
    ∧ quiescent_Norm0BwdRefIdeal (hNorm0BwdRefIdeal := hNorm0BwdRefIdeal)
    ∧ quiescent_PleNormBwd (hPleNormBwd := hPleNormBwd)
    ∧ quiescent_PleNormBwdIdeal (hPleNormBwdIdeal := hPleNormBwdIdeal)
    ∧ quiescent_PleNormBwdRefIdeal (hPleNormBwdRefIdeal := hPleNormBwdRefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_Norm0 (hNorm0 := hNorm0)
    ∧ quiescent_Norm0Ideal (hNorm0Ideal := hNorm0Ideal)
    ∧ quiescent_Norm0RefIdeal (hNorm0RefIdeal := hNorm0RefIdeal)
    ∧ quiescent_PleNorm (hPleNorm := hPleNorm)
    ∧ quiescent_PleNormIdeal (hPleNormIdeal := hPleNormIdeal)
    ∧ quiescent_PleNormRefIdeal (hPleNormRefIdeal := hPleNormRefIdeal)
    ∧ quiescent_DUFirst (hDUFirst := hDUFirst)
    ∧ quiescent_DUFirstIdeal (hDUFirstIdeal := hDUFirstIdeal)
    ∧ quiescent_DUFirstRefIdeal (hDUFirstRefIdeal := hDUFirstRefIdeal)
    ∧ preserves_LnGate_LnGateIdeal
    ∧ algebraic_LnGateIdeal_LnGateRefIdeal_pre_ln_gate_finite (hLnGateIdeal := hLnGateIdeal) (hLnGateRefIdeal := hLnGateRefIdeal) (hPre_ln_gate_finite := hPre_ln_gate_finite)
    ∧ preserves_DInA_DInAIdeal
    ∧ algebraic_DInAIdeal_DInARefIdeal (hDInAIdeal := hDInAIdeal) (hDInARefIdeal := hDInARefIdeal)
    ∧ preserves_DInB_DInBIdeal
    ∧ algebraic_DInBIdeal_DInBRefIdeal (hDInBIdeal := hDInBIdeal) (hDInBRefIdeal := hDInBRefIdeal)
    ∧ preserves_DKv_DKvIdeal
    ∧ algebraic_DKvIdeal_DKvRefIdeal (hDKvIdeal := hDKvIdeal) (hDKvRefIdeal := hDKvRefIdeal)
    ∧ preserves_DProj_DProjIdeal
    ∧ algebraic_DProjIdeal_DProjRefIdeal (hDProjIdeal := hDProjIdeal) (hDProjRefIdeal := hDProjRefIdeal)
    ∧ preserves_DOutA_DOutAIdeal
    ∧ algebraic_DOutAIdeal_DOutARefIdeal (hDOutAIdeal := hDOutAIdeal) (hDOutARefIdeal := hDOutARefIdeal)
    ∧ preserves_DSquare_DSquareIdeal
    ∧ algebraic_DSquareIdeal_DSquareRefIdeal (hDSquareIdeal := hDSquareIdeal) (hDSquareRefIdeal := hDSquareRefIdeal)
    ∧ preserves_DU_DUIdeal
    ∧ algebraic_DUIdeal_DURefIdeal (hDUIdeal := hDUIdeal) (hDURefIdeal := hDURefIdeal)
    ∧ preserves_DKvn_DKvnIdeal
    ∧ algebraic_DKvnIdeal_DKvnRefIdeal (hDKvnIdeal := hDKvnIdeal) (hDKvnRefIdeal := hDKvnRefIdeal)
    ∧ preserves_DM_DMIdeal
    ∧ algebraic_DMIdeal_DMRefIdeal (hDMIdeal := hDMIdeal) (hDMRefIdeal := hDMRefIdeal)
    ∧ preserves_DRows_DRowsIdeal
    ∧ algebraic_DRowsIdeal_DRowsRefIdeal (hDRowsIdeal := hDRowsIdeal) (hDRowsRefIdeal := hDRowsRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_Kv_KvIdeal
    ∧ algebraic_KvIdeal_KvRefIdeal (hKvIdeal := hKvIdeal) (hKvRefIdeal := hKvRefIdeal)
    ∧ preserves_Gate_GateIdeal
    ∧ algebraic_GateIdeal_GateRefIdeal (hGateIdeal := hGateIdeal) (hGateRefIdeal := hGateRefIdeal)
    ∧ preserves_Proj_ProjIdeal
    ∧ algebraic_ProjIdeal_ProjRefIdeal (hProjIdeal := hProjIdeal) (hProjRefIdeal := hProjRefIdeal)
    ∧ preserves_OutA_OutAIdeal
    ∧ algebraic_OutAIdeal_OutARefIdeal (hOutAIdeal := hOutAIdeal) (hOutARefIdeal := hOutARefIdeal)
    ∧ preserves_OutB_OutBIdeal
    ∧ algebraic_OutBIdeal_OutBRefIdeal (hOutBIdeal := hOutBIdeal) (hOutBRefIdeal := hOutBRefIdeal)
    ∧ preserves_AdamInA_AdamInAIdeal
    ∧ algebraic_AdamInAIdeal_AdamInARefIdeal (hAdamInAIdeal := hAdamInAIdeal) (hAdamInARefIdeal := hAdamInARefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamInB_AdamInBIdeal
    ∧ algebraic_AdamInBIdeal_AdamInBRefIdeal (hAdamInBIdeal := hAdamInBIdeal) (hAdamInBRefIdeal := hAdamInBRefIdeal)
    ∧ preserves_AdamOutB_AdamOutBIdeal
    ∧ algebraic_AdamOutBIdeal_AdamOutBRefIdeal (hAdamOutBIdeal := hAdamOutBIdeal) (hAdamOutBRefIdeal := hAdamOutBRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Loss_LossIdeal
    ∧ algebraic_LossIdeal_LossRefIdeal (hLossIdeal := hLossIdeal) (hLossRefIdeal := hLossRefIdeal)
    ∧ preserves_Norm0Bwd_Norm0BwdIdeal
    ∧ algebraic_Norm0BwdIdeal_Norm0BwdRefIdeal (hNorm0BwdIdeal := hNorm0BwdIdeal) (hNorm0BwdRefIdeal := hNorm0BwdRefIdeal)
    ∧ preserves_PleNormBwd_PleNormBwdIdeal
    ∧ algebraic_PleNormBwdIdeal_PleNormBwdRefIdeal (hPleNormBwdIdeal := hPleNormBwdIdeal) (hPleNormBwdRefIdeal := hPleNormBwdRefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_Norm0_Norm0Ideal
    ∧ algebraic_Norm0Ideal_Norm0RefIdeal (hNorm0Ideal := hNorm0Ideal) (hNorm0RefIdeal := hNorm0RefIdeal)
    ∧ preserves_PleNorm_PleNormIdeal
    ∧ algebraic_PleNormIdeal_PleNormRefIdeal (hPleNormIdeal := hPleNormIdeal) (hPleNormRefIdeal := hPleNormRefIdeal)
    ∧ preserves_DUFirst_DUFirstIdeal
    ∧ algebraic_DUFirstIdeal_DUFirstRefIdeal (hDUFirstIdeal := hDUFirstIdeal) (hDUFirstRefIdeal := hDUFirstRefIdeal)
-- ==== Pre_ln_gate_finite.lean ====
abbrev S8192x2048 : Shape := ⟨2, ![8192, 2048]⟩
abbrev S8192x6144 : Shape := ⟨2, ![8192, 6144]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x6144_S8192x2048_0_4096 : S8192x6144.Slices ![0, 4096] S8192x2048
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v15 : IVec S_ 1) (main_v16 : FVec F S1x2048 .f32) (main_cst_4 : FVec F S_ .f32) : IVec S_ 1 :=
  let main_v17 : FVec F S1x2048 .f32 := broadcastInDim S1x2048 ![] bcast_S_S1x2048 main_cst_4
  let main_v18 : IVec S1x2048 1 := cmpf .olt main_v16 main_v17
  let main_c_5 : IVec S_ 1 := constantI S_ 1 1#1
  let main_v19 : IVec S_ 1 := (fun x v => Host.reduce IntOp.andi x v reducesTo_S1x2048_S_d0_1 h_S_) main_v18 main_c_5
  let main_v20 : IVec S_ 1 := andi main_v15 main_v19
  let main_v21 : FVec F S1x2048 .f32 := Host.absf main_arg4
  let main_cst_6 : FVec F S_ .f32 := constant S_ .f32 0x7F800000#32
  let main_v22 : FVec F S1x2048 .f32 := broadcastInDim S1x2048 ![] bcast_S_S1x2048 main_cst_6
  let main_v23 : IVec S1x2048 1 := cmpf .olt main_v21 main_v22
  let main_c_7 : IVec S_ 1 := constantI S_ 1 1#1
  let main_v24 : IVec S_ 1 := (fun x v => Host.reduce IntOp.andi x v reducesTo_S1x2048_S_d0_1 h_S_) main_v23 main_c_7
  let main_v25 : IVec S_ 1 := andi main_v20 main_v24
  main_v25

def fn {F : FTy → Type} [FloatOps F] (main_arg0 : FVec F S8192x2048 .bf16) (main_arg1 : FVec F S8192x2048 .f32) (main_arg2 : FVec F S8192x6144 .f32) (main_arg3 : FVec F S1x2048 .f32) (main_arg4 : FVec F S1x2048 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := Host.absf main_arg1
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_c_1 : IVec S_ 1 := constantI S_ 1 1#1
  let main_v8 : IVec S_ 1 := (fun x v => Host.reduce IntOp.andi x v reducesTo_S8192x2048_S_d0_1 h_S_) main_v7 main_c_1
  let main_v9 : IVec S_ 1 := andi main_v4 main_v8
  let main_v10 : FVec F S8192x2048 .f32 := (extractStridedSlice S8192x2048 ![0, 4096] · slices_S8192x6144_S8192x2048_0_4096) main_arg2
  let main_v11 : FVec F S8192x2048 .f32 := Host.absf main_v10
  let main_cst_2 : FVec F S_ .f32 := constant S_ .f32 0x7F800000#32
  let main_v12 : FVec F S8192x2048 .f32 := broadcastInDim S8192x2048 ![] bcast_S_S8192x2048 main_cst_2
  let main_v13 : IVec S8192x2048 1 := cmpf .olt main_v11 main_v12
  let main_c_3 : IVec S_ 1 := constantI S_ 1 1#1
  let main_v14 : IVec S_ 1 := (fun x v => Host.reduce IntOp.andi x v reducesTo_S8192x2048_S_d0_1 h_S_) main_v13 main_c_3
  let main_v15 : IVec S_ 1 := andi main_v9 main_v14
  let main_v16 : FVec F S1x2048 .f32 := Host.absf main_arg3
  let main_cst_4 : FVec F S_ .f32 := constant S_ .f32 0x7F800000#32
  fn_part1 (F := F) main_arg4 main_v15 main_v16 main_cst_4
-- ==== LnGate.lean ====
abbrev S8192x2048 : Shape := ⟨2, ![8192, 2048]⟩
abbrev S8192x6144 : Shape := ⟨2, ![8192, 6144]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩
abbrev S_ : Shape := ⟨0, ![]⟩
abbrev S2048 : Shape := ⟨1, ![2048]⟩

abbrev nBuf : Space → Nat
  | .hbm => 16
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x6144, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x2048, .f32⟩
  | .local _ .vmem, ⟨13, _⟩ => ⟨S8x2048, .f32⟩
  | .local _ .vmem, ⟨14, _⟩ => ⟨S8x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v86 : BitVec 1 := Scalar.cmpi .eq arg0 c0_i32
  let v87 : BitVec 32 := Scalar.extui v86
  let c0_i32_34 : BitVec 32 := 0#32
  let v88 : BitVec 1 := Scalar.cmpi .ne v87 c0_i32_34
  v88

def k0_cond2 (i : grid0.Coords) : BitVec 1 :=
  let arg0 : BitVec 32 := BitVec.ofNat 32 (i 0).val
  let c0_i32_35 : BitVec 32 := 0#32
  let v89 : BitVec 1 := Scalar.cmpi .sgt arg0 c0_i32_35
  let v90 : BitVec 32 := Scalar.extui v89
  let c0_i32_36 : BitVec 32 := 0#32
  let v91 : BitVec 1 := Scalar.cmpi .ne v90 c0_i32_36
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnGateRefIdeal.lean ====
abbrev S8192x2048 : Shape := ⟨2, ![8192, 2048]⟩
abbrev S8192x6144 : Shape := ⟨2, ![8192, 6144]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 137
  | .vmem => 0
  | .smem => 0
  | _ => 0

abbrev hbmTy0_0 (i : Nat) : BufTy := match i % 128 with
  | 0 => ⟨S8192x2048, .bf16⟩
  | 1 => ⟨S8192x2048, .f32⟩
  | 2 => ⟨S8192x6144, .f32⟩
  | 3 => ⟨S1x2048, .f32⟩
  | 4 => ⟨S1x2048, .f32⟩
  | 5 => ⟨S8192x2048, .f32⟩
  | 6 => ⟨S_, .f32⟩
  | 7 => ⟨S2048, .f32⟩
  | 8 => ⟨S2048, .f32⟩
  | 9 => ⟨S2048, .f32⟩
  | 10 => ⟨S1x2048, .f32⟩
  | 11 => ⟨S8192x2048, .f32⟩
  | 12 => ⟨S8192x2048, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x2048, .f32⟩
  | 20 => ⟨S8192x2048, .f32⟩
  | 21 => ⟨S8192x2048, .f32⟩
  | 22 => ⟨S_, .f32⟩
  | 23 => ⟨S8192x2048, .f32⟩
  | 24 => ⟨S8192x2048, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x2048, .f32⟩
  | 32 => ⟨S8192x2048, .f32⟩
  | 33 => ⟨S_, .f32⟩
  | 34 => ⟨S8192x1, .f32⟩
  | 35 => ⟨S8192x1, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x2048, .f32⟩
  | 42 => ⟨S8192x2048, .f32⟩
  | 43 => ⟨S1x2048, .f32⟩
  | 44 => ⟨S8192x2048, .f32⟩
  | 45 => ⟨S8192x2048, .f32⟩
  | 46 => ⟨S1x2048, .f32⟩
  | 47 => ⟨S8192x2048, .f32⟩
  | 48 => ⟨S8192x2048, .f32⟩
  | 49 => ⟨S8192x2048, .f32⟩
  | 50 => ⟨S8192x2048, .f32⟩
  | 51 => ⟨S_, .f32⟩
  | 52 => ⟨S8192x2048, .f32⟩
  | 53 => ⟨S8192x2048, .f32⟩
  | 54 => ⟨S_, .f32⟩
  | 55 => ⟨S8192x2048, .f32⟩
  | 56 => ⟨S8192x2048, .f32⟩
  | 57 => ⟨S_, .f32⟩
  | 58 => ⟨S8192x2048, .f32⟩
  | 59 => ⟨S8192x2048, .f32⟩
  | 60 => ⟨S8192x2048, .f32⟩
  | 61 => ⟨S8192x2048, .f32⟩
  | 62 => ⟨S8192x2048, .f32⟩
  | 63 => ⟨S8192x2048, .f32⟩
  | 64 => ⟨S_, .f32⟩
  | 65 => ⟨S8192x2048, .f32⟩
  | 66 => ⟨S8192x2048, .f32⟩
  | 67 => ⟨S_, .f32⟩
  | 68 => ⟨S8192x2048, .f32⟩
  | 69 => ⟨S8192x2048, .f32⟩
  | 70 => ⟨S_, .f32⟩
  | 71 => ⟨S8192x2048, .f32⟩
  | 72 => ⟨S8192x2048, .f32⟩
  | 73 => ⟨S8192x2048, .f32⟩
  | 74 => ⟨S8192x2048, .f32⟩
  | 75 => ⟨S8192x2048, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S8192x2048, .f32⟩
  | 86 => ⟨S8192x2048, .f32⟩
  | 87 => ⟨S_, .f32⟩
  | 88 => ⟨S2048, .f32⟩
  | 89 => ⟨S1x2048, .f32⟩
  | 90 => ⟨S_, .f32⟩
  | 91 => ⟨S2048, .f32⟩
  | 92 => ⟨S8192x2048, .f32⟩
  | 93 => ⟨S_, .f32⟩
  | 94 => ⟨S2048, .f32⟩
  | 95 => ⟨S1x2048, .f32⟩
  | 96 => ⟨S8192x2048, .f32⟩
  | 97 => ⟨S8192x2048, .f32⟩
  | 98 => ⟨S_, .f32⟩
  | 99 => ⟨S2048, .f32⟩
  | 100 => ⟨S8192x2048, .f32⟩
  | 101 => ⟨S_, .f32⟩
  | 102 => ⟨S8192, .f32⟩
  | 103 => ⟨S8192x1, .f32⟩
  | 104 => ⟨S8192x2048, .f32⟩
  | 105 => ⟨S8192x2048, .f32⟩
  | 106 => ⟨S8192x1, .f32⟩
  | 107 => ⟨S8192x2048, .f32⟩
  | 108 => ⟨S_, .f32⟩
  | 109 => ⟨S8192, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x2048, .f32⟩
  | 117 => ⟨S8192x2048, .f32⟩
  | 118 => ⟨S8192x2048, .f32⟩
  | 119 => ⟨S_, .f32⟩
  | 120 => ⟨S8192, .f32⟩
  | 121 => ⟨S8192x1, .f32⟩
  | 122 => ⟨S8192x2048, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x2048, .bf16⟩

abbrev hbmTy0_1 (i : Nat) : BufTy := match i % 128 with
  | 0 => ⟨S8192, .f32⟩
  | 1 => ⟨S8192x2048, .f32⟩
  | 2 => ⟨S8192x2048, .f32⟩
  | 3 => ⟨S_, .f32⟩
  | 4 => ⟨S2048, .f32⟩
  | 5 => ⟨S1x2048, .f32⟩
  | 6 => ⟨S_, .f32⟩
  | 7 => ⟨S2048, .f32⟩
  | 8 => ⟨S8192x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v36_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v36_1 : Ref sig .tc := ⟨.hbm, 60, rfl⟩
abbrev main_v36_0 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_v37_2 : Ref sig .tc := ⟨.hbm, 69, rfl⟩
abbrev main_call1_cst_1 : Ref sig .tc := ⟨.hbm, 70, rfl⟩
abbrev main_call1_v6 : Ref sig .tc := ⟨.hbm, 71, rfl⟩
abbrev main_call1_v7 : Ref sig .tc := ⟨.hbm, 72, rfl⟩
abbrev main_v37_1 : Ref sig .tc := ⟨.hbm, 73, rfl⟩
abbrev main_v37_0 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v42 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v43 : Ref sig .tc := ⟨.hbm, 86, rfl⟩
abbrev main_cst_7 : Ref sig .tc := ⟨.hbm, 87, rfl⟩
abbrev main_v44 : Ref sig .tc := ⟨.hbm, 88, rfl⟩
abbrev main_v45 : Ref sig .tc := ⟨.hbm, 89, rfl⟩
abbrev main_cst_8 : Ref sig .tc := ⟨.hbm, 90, rfl⟩
abbrev main_v46 : Ref sig .tc := ⟨.hbm, 91, rfl⟩
abbrev main_v47 : Ref sig .tc := ⟨.hbm, 92, rfl⟩
abbrev main_cst_9 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_10 : Ref sig .tc := ⟨.hbm, 98, rfl⟩
abbrev main_v52 : Ref sig .tc := ⟨.hbm, 99, rfl⟩
abbrev main_v53 : Ref sig .tc := ⟨.hbm, 100, rfl⟩
abbrev main_cst_11 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_12 : Ref sig .tc := ⟨.hbm, 108, rfl⟩
abbrev main_v60 : Ref sig .tc := ⟨.hbm, 109, rfl⟩
abbrev main_v61 : Ref sig .tc := ⟨.hbm, 110, rfl⟩
abbrev main_cst_13 : Ref sig .tc := ⟨.hbm, 111, rfl⟩
abbrev main_v62 : Ref sig .tc := ⟨.hbm, 112, rfl⟩
abbrev main_v63 : Ref sig .tc := ⟨.hbm, 113, rfl⟩
abbrev main_cst_14 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_15 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_16 : Ref sig .tc := ⟨.hbm, 124, rfl⟩
abbrev main_v72 : Ref sig .tc := ⟨.hbm, 125, rfl⟩
abbrev main_v73 : Ref sig .tc := ⟨.hbm, 126, rfl⟩
abbrev main_cst_17 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_18 : Ref sig .tc := ⟨.hbm, 131, rfl⟩
abbrev main_v77 : Ref sig .tc := ⟨.hbm, 132, rfl⟩
abbrev main_v78 : Ref sig .tc := ⟨.hbm, 133, rfl⟩
abbrev main_cst_19 : Ref sig .tc := ⟨.hbm, 134, rfl⟩
abbrev main_v79 : Ref sig .tc := ⟨.hbm, 135, rfl⟩
abbrev main_v80 : Ref sig .tc := ⟨.hbm, 136, rfl⟩

abbrev nD : Nat := 1
abbrev τ : Topo := Topo.v7x

variable {F : FTy → Type} [FloatOps F]
-- ==== DInA.lean ====
abbrev S8192x1024 : Shape := ⟨2, ![8192, 1024]⟩
abbrev S8192x6144 : Shape := ⟨2, ![8192, 6144]⟩
abbrev S8x1024x768 : Shape := ⟨3, ![8, 1024, 768]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8x1024x768, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInARefIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S_, .f32⟩
  | .hbm, ⟨3, _⟩ => ⟨S1024x6144, .f32⟩
  | .hbm, ⟨4, _⟩ => ⟨S8192x1024, .f32⟩
  | .hbm, ⟨5, _⟩ => ⟨S8192x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | .hbm, ⟨10, _⟩ => ⟨S1024x8x768, .bf16⟩
  | .hbm, ⟨11, _⟩ => ⟨S8x1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DInB.lean ====
abbrev S8192x1024 : Shape := ⟨2, ![8192, 1024]⟩
abbrev S8192x4096 : Shape := ⟨2, ![8192, 4096]⟩
abbrev S8x1024x512 : Shape := ⟨3, ![8, 1024, 512]⟩
abbrev S4096x1024 : Shape := ⟨2, ![4096, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInBRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DKv.lean ====
abbrev S8192x1024 : Shape := ⟨2, ![8192, 1024]⟩
abbrev S8192x2048 : Shape := ⟨2, ![8192, 2048]⟩
abbrev S8x1024x256 : Shape := ⟨3, ![8, 1024, 256]⟩
abbrev S4096x1024 : Shape := ⟨2, ![4096, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8x1024x256, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4x1024x256, .bf16⟩
  | .local _ .vmem, ⟨5, _⟩ => ⟨S4x1024x256, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DKvRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DProj.lean ====
abbrev S8192x256 : Shape := ⟨2, ![8192, 256]⟩
abbrev S8192x1024 : Shape := ⟨2, ![8192, 1024]⟩
abbrev S8x256x128 : Shape := ⟨3, ![8, 256, 128]⟩
abbrev S4096x256 : Shape := ⟨2, ![4096, 256]⟩
abbrev S4096x1024 : Shape := ⟨2, ![4096, 1024]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8x256x128, .bf16⟩
  | .local _ .vmem, ⟨0, _⟩ => ⟨S4096x256, .f32⟩
  | .local _ .vmem, ⟨1, _⟩ => ⟨S4096x256, .f32⟩
  | .local _ .vmem, ⟨2, _⟩ => ⟨S4096x1024, .bf16⟩
  | .local _ .vmem, ⟨3, _⟩ => ⟨S4096x1024, .bf16⟩
  | .local _ .vmem, ⟨4, _⟩ => ⟨S8x256x128, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DProjRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S256x1024, .bf16⟩
  | .hbm, ⟨9, _⟩ => ⟨S256x8x128, .bf16⟩
  | .hbm, ⟨10, _⟩ => ⟨S8x256x128, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DOutA.lean ====
abbrev S8192x2048 : Shape := ⟨2, ![8192, 2048]⟩
abbrev S8192x1024 : Shape := ⟨2, ![8192, 1024]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutARefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DSquare.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DSquareRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DU.lean ====
abbrev S8192x4096 : Shape := ⟨2, ![8192, 4096]⟩
abbrev S1024x4096 : Shape := ⟨2, ![1024, 4096]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DURefIdeal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DKvn.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DKvnRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DM.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DRows.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DRowsRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InA.lean ====
abbrev S8192x1024 : Shape := ⟨2, ![8192, 1024]⟩
abbrev S1024x6144 : Shape := ⟨2, ![1024, 6144]⟩
abbrev S8192x6144 : Shape := ⟨2, ![8192, 6144]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InARefIdeal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S1024x6144, .f32⟩
  | .hbm, ⟨4, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InB.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBRefIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kv.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gate.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .bf16⟩
  | .local _ .vmem, ⟨0, _⟩ => ⟨S2048x256, .f32⟩
  | .local _ .vmem, ⟨1, _⟩ => ⟨S2048x256, .f32⟩
  | .local _ .vmem, ⟨2, _⟩ => ⟨S256x1024, .bf16⟩
  | .local _ .vmem, ⟨3, _⟩ => ⟨S2048x1024, .bf16⟩
  | .local _ .vmem, ⟨4, _⟩ => ⟨S2048x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S256x1024, .f32⟩
  | .hbm, ⟨3, _⟩ => ⟨S8192x1024, .f32⟩
  | .hbm, ⟨4, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutA.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutARefIdeal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x2048, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutB.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutBRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== AdamInA.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInAIdeal.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInARefIdeal.lean ====
abbrev S8x1024x768 : Shape := ⟨3, ![8, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S8x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSquare.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareIdeal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamKv.lean ====
abbrev S8x1024x256 : Shape := ⟨3, ![8, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvIdeal.lean ====
abbrev S8x1024x256 : Shape := ⟨3, ![8, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvRefIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamInB.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInBIdeal.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInBRefIdeal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOutB.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutBIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutBRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamProj.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamProjIdeal.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamProjRefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x144x1024, .bf16⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S8x144x1024, .bf16⟩
  | .local _ .vmem, ⟨1, _⟩ => ⟨S144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | _, _ => ⟨S8x144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x144x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x144x1024 : Shape := ⟨3, ![8, 144, 1024]⟩
abbrev S144x1024 : Shape := ⟨2, ![144, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x144x1024, .bf16⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S8x144x1024, .f32⟩
  | .hbm, ⟨5, _⟩ => ⟨S_, .f32⟩
  | .hbm, ⟨6, _⟩ => ⟨S144x1024, .f32⟩
  | .hbm, ⟨7, _⟩ => ⟨S_, .f32⟩
  | .hbm, ⟨8, _⟩ => ⟨S144x1024, .f32⟩
  | .hbm, ⟨9, _⟩ => ⟨S144x1024, .f32⟩
  | .hbm, ⟨10, _⟩ => ⟨S_, .f32⟩
  | .hbm, ⟨11, _⟩ => ⟨S144x1024, .f32⟩
  | .hbm, ⟨12, _⟩ => ⟨S144x1024, .f32⟩
  | .hbm, ⟨13, _⟩ => ⟨S144x1024, .f32⟩
  | .hbm, ⟨14, _⟩ => ⟨S_, .f32⟩
  | .hbm, ⟨15, _⟩ => ⟨S144x1024, .f32⟩
  | .hbm, ⟨16, _⟩ => ⟨S144x1024, .f32⟩
  | .hbm, ⟨17, _⟩ => ⟨S144x1024, .f32⟩
  | .hbm, ⟨18, _⟩ => ⟨S_, .f32⟩
  | .hbm, ⟨19, _⟩ => ⟨S144x1024, .f32⟩
  | .hbm, ⟨20, _⟩ => ⟨S144x1024, .f32⟩
  | .hbm, ⟨21, _⟩ => ⟨S144x1024, .f32⟩
  | .hbm, ⟨22, _⟩ => ⟨S_, .f32⟩
  | .hbm, ⟨23, _⟩ => ⟨S144x1024, .f32⟩
  | .hbm, ⟨24, _⟩ => ⟨S144x1024, .f32⟩
  | .hbm, ⟨25, _⟩ => ⟨S_, .f32⟩
  | .hbm, ⟨26, _⟩ => ⟨S144x1024, .f32⟩
  | .hbm, ⟨27, _⟩ => ⟨S144x1024, .f32⟩
  | .hbm, ⟨28, _⟩ => ⟨S144x1024, .f32⟩
  | .hbm, ⟨29, _⟩ => ⟨S_, .f32⟩
  | .hbm, ⟨30, _⟩ => ⟨S144x1024, .f32⟩
  | .hbm, ⟨31, _⟩ => ⟨S144x1024, .f32⟩
  | .hbm, ⟨32, _⟩ => ⟨S144x1024, .f32⟩
  | .hbm, ⟨33, _⟩ => ⟨S_, .f32⟩
  | .hbm, ⟨34, _⟩ => ⟨S144x1024, .f32⟩
  | .hbm, ⟨35, _⟩ => ⟨S144x1024, .f32⟩
  | .hbm, ⟨36, _⟩ => ⟨S144x1024, .f32⟩
  | .hbm, ⟨37, _⟩ => ⟨S_, .f32⟩
  | .hbm, ⟨38, _⟩ => ⟨S144x1024, .f32⟩
  | .hbm, ⟨39, _⟩ => ⟨S144x1024, .f32⟩
  | _, _ => ⟨S8x144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Loss.lean ====
abbrev S8192x1024 : Shape := ⟨2, ![8192, 1024]⟩
abbrev S8x1024 : Shape := ⟨2, ![8, 1024]⟩
abbrev S512x1024 : Shape := ⟨2, ![512, 1024]⟩
abbrev S64x8x1024 : Shape := ⟨3, ![64, 8, 1024]⟩
abbrev S_ : Shape := ⟨0, ![]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8x1024, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_cst : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_22 : BitVec 32 := 0#32
  let v44 : BitVec 1 := Scalar.cmpi .ne v43 c0_i32_22
  v44

def k0_cond2 (i : grid0.Coords) : BitVec 1 :=
  let arg0 : BitVec 32 := BitVec.ofNat 32 (i 0).val
  let c0_i32_23 : BitVec 32 := 0#32
  let v45 : BitVec 1 := Scalar.cmpi .sgt arg0 c0_i32_23
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | .hbm, ⟨47, _⟩ => ⟨S8192x1024, .bf16⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Norm0Bwd.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8x1024, .f32⟩
  | .hbm, ⟨6, _⟩ => ⟨S_, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_12 : BitVec 32 := 0#32
  let v34 : BitVec 1 := Scalar.cmpi .ne v33 c0_i32_12
  v34

def k0_cond2 (i : grid0.Coords) : BitVec 1 :=
  let arg0 : BitVec 32 := BitVec.ofNat 32 (i 0).val
  let c0_i32_13 : BitVec 32 := 0#32
  let v35 : BitVec 1 := Scalar.cmpi .sgt arg0 c0_i32_13
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Norm0BwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .bf16⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== PleNormBwd.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8x1024, .f32⟩
  | .hbm, ⟨6, _⟩ => ⟨S_, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_12 : BitVec 32 := 0#32
  let v34 : BitVec 1 := Scalar.cmpi .ne v33 c0_i32_12
  v34

def k0_cond2 (i : grid0.Coords) : BitVec 1 :=
  let arg0 : BitVec 32 := BitVec.ofNat 32 (i 0).val
  let c0_i32_13 : BitVec 32 := 0#32
  let v35 : BitVec 1 := Scalar.cmpi .sgt arg0 c0_i32_13
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PleNormBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .bf16⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Norm1Bwd.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 17
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8x1024, .f32⟩
  | .hbm, ⟨10, _⟩ => ⟨S8x1024, .f32⟩
  | .hbm, ⟨11, _⟩ => ⟨S8192x1024, .bf16⟩
  | .hbm, ⟨12, _⟩ => ⟨S8192x1024, .bf16⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | .local _ .vmem, ⟨17, _⟩ => ⟨S8x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_12 : BitVec 32 := 0#32
  let v34 : BitVec 1 := Scalar.cmpi .ne v33 c0_i32_12
  v34

def k0_cond2 (i : grid0.Coords) : BitVec 1 :=
  let arg0 : BitVec 32 := BitVec.ofNat 32 (i 0).val
  let c0_i32_13 : BitVec 32 := 0#32
  let v35 : BitVec 1 := Scalar.cmpi .sgt arg0 c0_i32_13
  let v36 : BitVec 32 := Scalar.extui v35
  let c0_i32_14 : BitVec 32 := 0#32
  let v37 : BitVec 1 := Scalar.cmpi .ne v36 c0_i32_14
  v37

def k0_cond3 (i : grid0.Coords) : BitVec 1 :=
  let arg0 : BitVec 32 := BitVec.ofNat 32 (i 0).val
  let c0_i32_22 : BitVec 32 := 0#32
  let v57 : BitVec 1 := Scalar.cmpi .eq arg0 c0_i32_22
  let v58 : BitVec 32 := Scalar.extui v57
  let c0_i32_23 : BitVec 32 := 0#32
  let v59 : BitVec 1 := Scalar.cmpi .ne v58 c0_i32_23
  v59

def k0_cond4 (i : grid0.Coords) : BitVec 1 :=
  let arg0 : BitVec 32 := BitVec.ofNat 32 (i 0).val
  let c0_i32_24 : BitVec 32 := 0#32
  let v60 : BitVec 1 := Scalar.cmpi .sgt arg0 c0_i32_24
  let v61 : BitVec 32 := Scalar.extui v60
  let c0_i32_25 : BitVec 32 := 0#32
  let v62 : BitVec 1 := Scalar.cmpi .ne v61 c0_i32_25
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Norm1BwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S_, .f32⟩
  | .hbm, ⟨110, _⟩ => ⟨S8192x1024, .f32⟩
  | .hbm, ⟨111, _⟩ => ⟨S8192x1024, .f32⟩
  | .hbm, ⟨112, _⟩ => ⟨S_, .f32⟩
  | .hbm, ⟨113, _⟩ => ⟨S8192x1024, .f32⟩
  | .hbm, ⟨114, _⟩ => ⟨S8192x1024, .f32⟩
  | .hbm, ⟨115, _⟩ => ⟨S_, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .f32⟩
  | .hbm, ⟨122, _⟩ => ⟨S8192x1024, .f32⟩
  | .hbm, ⟨123, _⟩ => ⟨S8192x1024, .bf16⟩
  | .hbm, ⟨124, _⟩ => ⟨S8192x1024, .bf16⟩
  | .hbm, ⟨125, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_cst_18 : Ref sig .tc := ⟨.hbm, 112, rfl⟩
abbrev main_v85 : Ref sig .tc := ⟨.hbm, 113, rfl⟩
abbrev main_v86 : Ref sig .tc := ⟨.hbm, 114, rfl⟩
abbrev main_cst_19 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Norm0.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Norm0RefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== PleNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleNormRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== DUFirst.lean ====
abbrev S8192x6144 : Shape := ⟨2, ![8192, 6144]⟩
abbrev S1024x6144 : Shape := ⟨2, ![1024, 6144]⟩
abbrev S8192x1024 : Shape := ⟨2, ![8192, 1024]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S8192x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUFirstRefIdeal.lean ====
abbrev S8192x6144 : Shape := ⟨2, ![8192, 6144]⟩
abbrev S1024x6144 : Shape := ⟨2, ![1024, 6144]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S_, .f32⟩
  | .hbm, ⟨3, _⟩ => ⟨S8192x1024, .f32⟩
  | .hbm, ⟨4, _⟩ => ⟨S1024x6144, .f32⟩
  | .hbm, ⟨5, _⟩ => ⟨S8192x6144, .f32⟩
  | .hbm, ⟨6, _⟩ => ⟨S8192x6144, .f32⟩
  | .hbm, ⟨7, _⟩ => ⟨S8192x1024, .f32⟩
  | .hbm, ⟨8, _⟩ => ⟨S8192x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Lift.lean ====
/- Real arithmetic inside the extended reals: on finite values each operation of a program is the real operation. -/
module

public import Idealize.ShloMosaic.PureOps.Ideal
public import Idealize.ShloMosaic.PureOps.Ideal.Laws
public import Idealize.ShloMosaic.Lib.IdealHost
public import Idealize.ShloMosaic.Lib.Pointwise

@[expose] public section

noncomputable section

open Idealize.ShloMosaic

namespace Cert.Lift

/-- An array of reals as an array of extended reals. -/
def up {a b : ℕ} (A : Fin a → Fin b → ℝ) : Shape.Idx ⟨2, ![a, b]⟩ → EReal := fun i => ((A (i 0) (i 1) : ℝ) : EReal)

theorem div_real (a b : ℝ) (h : b ≠ 0) : Ideal.div (a : EReal) (b : EReal) = ((a / b : ℝ) : EReal) := by
  rw [Ideal.div_coe h, ← EReal.coe_mul, mul_one_div]

theorem rsqrt_real (a : ℝ) (h : 0 < a) : Ideal.rsqrt (a : EReal) = (((Real.sqrt a)⁻¹ : ℝ) : EReal) := by
  rw [Ideal.rsqrt_coe, if_neg (not_lt.mpr h.le), if_neg h.ne']

theorem tanh_real (a : ℝ) : Ideal.tanh (a : EReal) = ((Real.tanh a : ℝ) : EReal) := rfl

theorem exp_real (a : ℝ) : Ideal.exp (a : EReal) = ((Real.exp a : ℝ) : EReal) := rfl

theorem sum_real {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The literals of the programs. -/
theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul, -EReal.coe_neg]; norm_num

theorem lit_one : Ideal.ofBits .f32 0x3F800000#32 = ((1 : ℝ) : EReal) := by
  simp

theorem lit_two : Ideal.ofBits .f32 0x40000000#32 = ((2 : ℝ) : EReal) := by
  simp [Ideal.ofBits, Ideal.ieee, -EReal.coe_mul]; norm_num

theorem lit_2048 : Ideal.ofBits .f32 0x45000000#32 = ((2048 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem div_2048 (a : ℝ) : Ideal.div (a : EReal) (Ideal.ofBits .f32 0x45000000#32) = ((a / 2048 : ℝ) : EReal) := by
  rw [lit_2048, div_real _ _ (by norm_num)]

theorem div_1024 (a : ℝ) : Ideal.div (a : EReal) (Ideal.ofBits .f32 0x44800000#32) = ((a / 1024 : ℝ) : EReal) := by
  rw [lit_1024, div_real _ _ (by norm_num)]

/-- The norms' small constant. -/
def eps : ℝ := (Ideal.ofBits .f32 0x358637BD#32).toReal

theorem eps_eq : eps = 8796093 / 8796093022208 := by
  simp [eps, Ideal.ofBits, Ideal.ieee, -EReal.coe_mul]; norm_num

theorem eps_pos : 0 < eps := by rw [eps_eq]; norm_num

theorem lit_eps : Ideal.ofBits .f32 0x358637BD#32 = ((eps : ℝ) : EReal) := by
  rw [eps_eq]; simp [Ideal.ofBits, Ideal.ieee, -EReal.coe_mul]; norm_num

end Cert.Lift

end
-- ==== Proof.GateRow.lean ====
/- The gradient of a row's LayerNorm, swish and gate, over the reals. -/
module

public import proofs.«01_k».proof.Proof.Lift

@[expose] public section

noncomputable section

namespace Cert.GateRow

open Cert.Lift

variable {n : ℕ}

def mean (v : Fin n → ℝ) : ℝ := (∑ l, v l) / n

/-- The logistic function. -/
def sigm (x : ℝ) : ℝ := 1 / (1 + Real.exp (-x))

/-- The kernel's form of the logistic function. -/
theorem half_tanh (x : ℝ) : 1 / 2 * Real.tanh (1 / 2 * x) + 1 / 2 = sigm x := by
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  rw [sigm, h1, Real.tanh_eq_sinh_div_cosh, Real.sinh_eq, Real.cosh_eq]
  have p1 := Real.exp_pos (1 / 2 * x)
  have p2 := Real.exp_pos (-(1 / 2 * x))
  generalize Real.exp (1 / 2 * x) = u at *
  generalize Real.exp (-(1 / 2 * x)) = w at *
  have hu : u = 1 / w := by field_simp; linarith
  subst hu
  have : (1 + w * w) ≠ 0 := by positivity
  field_simp
  ring

variable (y g b z d : Fin n → ℝ)

/-- The row less its mean. -/
def centered (l : Fin n) : ℝ := y l - mean y

/-- One over the row's deviation. -/
def rstd : ℝ := (Real.sqrt (mean (fun l => centered y l * centered y l) + eps))⁻¹

/-- The normalised row. -/
def xhat (l : Fin n) : ℝ := centered y l * rstd y

/-- The LayerNorm. -/
def ln (l : Fin n) : ℝ := xhat y l * g l + b l

/-- The cotangent of the LayerNorm's result. -/
def dln (l : Fin n) : ℝ :=
  d l * (z l * sigm (z l)) * (sigm (ln y g b l) * (1 + ln y g b l * (1 - sigm (ln y g b l))))

/-- The cotangent of the gate. -/
def dz (l : Fin n) : ℝ :=
  d l * (ln y g b l * sigm (ln y g b l)) * (sigm (z l) * (1 + z l * (1 - sigm (z l))))

/-- The cotangent of the normalised row. -/
def dxh (l : Fin n) : ℝ := dln y g b z d l * g l

/-- The cotangent of the row: less its mean and less its part along the normalised row. -/
def dy (l : Fin n) : ℝ :=
  rstd y * (dxh y g b z d l - mean (dxh y g b z d) - xhat y l * mean (fun k => dxh y g b z d k * xhat y k))

theorem mean_sq_nonneg : 0 ≤ mean (fun l => centered y l * centered y l) :=
  div_nonneg (Finset.sum_nonneg fun _ _ => mul_self_nonneg _) (Nat.cast_nonneg _)

theorem var_pos : 0 < mean (fun l => centered y l * centered y l) + eps :=
  add_pos_of_nonneg_of_pos (mean_sq_nonneg y) eps_pos

/-- The centred row sums to zero. -/
theorem sum_centered (h : n ≠ 0) : ∑ l, centered y l = 0 := by
  have hn : (n : ℝ) ≠ 0 := Nat.cast_ne_zero.mpr h
  simp only [centered, Finset.sum_sub_distrib, Finset.sum_const, Finset.card_univ, Fintype.card_fin, nsmul_eq_mul, mean]
  field_simp
  ring

/-- The same cotangent, as the differentiation of the mean, the square and the reciprocal root writes it. -/
theorem dy_chain (h : n ≠ 0) (l : Fin n) :
    dxh y g b z d l * rstd y
        + (∑ k, centered y k * dxh y g b z d k) * (-(1 / 2) * (rstd y / (mean (fun k => centered y k * centered y k) + eps))) / n
          * (2 * centered y l)
        + (∑ k, -(dxh y g b z d k * rstd y)
            + ∑ k, -((∑ k, centered y k * dxh y g b z d k)
                * (-(1 / 2) * (rstd y / (mean (fun k => centered y k * centered y k) + eps))) / n * (2 * centered y k))) / n
      = dy y g b z d l := by
  have hn : (n : ℝ) ≠ 0 := Nat.cast_ne_zero.mpr h
  have hv := var_pos y
  have hr : rstd y / (mean (fun k => centered y k * centered y k) + eps) = rstd y * (rstd y * rstd y) := by
    rw [div_eq_mul_inv]
    congr 1
    rw [rstd, ← mul_inv, Real.mul_self_sqrt hv.le]
  have h0 : ∀ a : ℝ, ∑ k, -(a * (2 * centered y k)) = 0 := fun a => by
    rw [Finset.sum_neg_distrib, ← Finset.mul_sum, ← Finset.mul_sum, sum_centered y h]; simp
  have h1 : ∑ k, -(dxh y g b z d k * rstd y) = -(rstd y * ∑ k, dxh y g b z d k) := by
    rw [Finset.sum_neg_distrib, ← Finset.sum_mul, mul_comm]
  have h2 : ∑ k, dxh y g b z d k * xhat y k = rstd y * ∑ k, centered y k * dxh y g b z d k := by
    rw [Finset.mul_sum]
    exact Finset.sum_congr rfl fun k _ => by rw [xhat]; ring
  rw [h0, hr, h1, dy, mean, mean, h2, xhat]
  generalize rstd y = r
  generalize ∑ k, centered y k * dxh y g b z d k = s
  generalize ∑ k, dxh y g b z d k = q
  field_simp
  ring

end Cert.GateRow

end
-- ==== Proof.LnGateRef.lean ====
/- What the reference of the gate's gradient computes on finite values: each of its values, as an array of reals. -/
module

public import proofs.«01_k».proof.Proof.Gen.LnGateRefIdeal.Read
public import proofs.«01_k».proof.Proof.GateRow

@[expose] public section

set_option maxRecDepth 16384

noncomputable section

open Idealize.ShloMosaic Cert.Lift Cert.GateRow

namespace Cert.LnGateRefIdeal.Real

open Cert.LnGateRefIdeal Cert.LnGateRefIdeal.Read

variable (D Y Z : Fin 8192 → Fin 2048 → ℝ) (g b : Fin 2048 → ℝ)

theorem mean_eq (v : Fin 2048 → ℝ) : mean v = (∑ l, v l) / 2048 := by rw [mean]; norm_num

/-- The host's form of the logistic function. -/
theorem logistic (x : ℝ) : Ideal.div (1 : EReal) (1 + ((Real.exp (-x) : ℝ) : EReal)) = ((sigm x : ℝ) : EReal) := by
  rw [← EReal.coe_one, ← EReal.coe_add, div_real _ _ (by positivity), sigm]

theorem input : val_main_v6 (F := Ideal) (up Y) = up Y := by
  funext j
  pointwise [val_main_v6, val_main_v5, val_main_v4, val_main_v1, val_main_cst, up]

theorem centred : val_main_v12 (F := Ideal) (up Y) = up fun r => centered (Y r) := by
  funext j
  pointwise [val_main_v12, val_main_v11, val_main_v10, val_main_v9, val_main_v8, val_main_v7, val_main_cst_0, val_main_cst_1, input, up]
  simp only [sum_real, div_2048, ← EReal.coe_sub, centered, mean_eq]

theorem centred' : val_main_v21 (F := Ideal) (up Y) = up fun r => centered (Y r) := centred Y

theorem variance : val_main_v23 (F := Ideal) (up Y)
    = up fun r (_ : Fin 1) => mean (fun l => centered (Y r) l * centered (Y r) l) + eps := by
  funext j
  pointwise [val_main_v23, val_main_v22, val_main_cst_5, val_main_v19, val_main_v18, val_main_v17, val_main_v16, val_main_v13,
    val_main_cst_3, val_main_cst_4, centred, up]
  simp only [← EReal.coe_mul, sum_real, div_2048, lit_eps, ← EReal.coe_add, mean_eq]

theorem deviation : val_main_v24 (F := Ideal) (up Y) = up fun r (_ : Fin 1) => rstd (Y r) := by
  funext j
  pointwise [val_main_v24, variance, up]
  rw [rsqrt_real _ (var_pos _), rstd]

/-- The slope of the reciprocal root at the row's variance. -/
def slope {n : ℕ} (y : Fin n → ℝ) : ℝ := -(1 / 2) * (rstd y / (mean (fun k => centered y k * centered y k) + eps))

theorem chain (y g b z d : Fin 2048 → ℝ) (l : Fin 2048) :
    dxh y g b z d l * rstd y + (∑ k, centered y k * dxh y g b z d k) * slope y / 2048 * (2 * centered y l)
        + (∑ k, -(dxh y g b z d k * rstd y)
            + ∑ k, -((∑ k, centered y k * dxh y g b z d k) * slope y / 2048 * (2 * centered y k))) / 2048
      = dy y g b z d l := by
  simpa only [slope, Nat.cast_ofNat] using dy_chain y g b z d (by norm_num) l

theorem root_slope : val_main_v27 (F := Ideal) (up Y) = up fun r (_ : Fin 1) => slope (Y r) := by
  funext j
  pointwise [val_main_v27, val_main_v26, val_main_v25, val_main_cst_6, deviation, variance, up]
  rw [div_real _ _ (var_pos _).ne', lit_neg_half, ← EReal.coe_mul, slope]

theorem normalised : val_main_v29 (F := Ideal) (up Y) = up fun r => xhat (Y r) := by
  funext j
  pointwise [val_main_v29, val_main_v28, centred', deviation, up]
  rw [← EReal.coe_mul]
  rfl

theorem gain : val_main_v30 (F := Ideal) (up fun _ => g) = up fun _ : Fin 1 => g := by
  funext j
  pointwise [val_main_v30, val_main_v2, up]

theorem shift : val_main_v33 (F := Ideal) (up fun _ => b) = up fun _ : Fin 1 => b := by
  funext j
  pointwise [val_main_v33, val_main_v3, up]

theorem layernorm : val_main_v35 (F := Ideal) (up Y) (up fun _ => g) (up fun _ => b) = up fun r => ln (Y r) g b := by
  funext j
  pointwise [val_main_v35, val_main_v34, val_main_v32, val_main_v31, normalised, gain, shift, up]
  rw [← EReal.coe_mul, ← EReal.coe_add]
  rfl

theorem logistic_ln : val_main_v36_2 (F := Ideal) (up Y) (up fun _ => g) (up fun _ => b)
    = up fun r l => sigm (ln (Y r) g b l) := by
  funext j
  pointwise [val_main_v36_2, val_main_call0_v4, val_main_call0_cst_0, val_main_call0_v3, val_main_call0_v2, val_main_call0_cst,
    val_main_call0_v1, val_main_call0_v0, layernorm, up]
  simp only [← EReal.coe_neg, exp_real, logistic]

variable {D Y g b} {x2 : (⟨S8192x6144, .f32⟩ : BufTy).Contents (Elt Ideal)} {Z} (hz : val_main_v0 (F := Ideal) x2 = up Z)
include hz

theorem logistic_z : val_main_v37_2 (F := Ideal) x2 = up fun r l => sigm (Z r l) := by
  funext j
  pointwise [val_main_v37_2, val_main_call1_v4, val_main_call1_cst_0, val_main_call1_v3, val_main_call1_v2, val_main_call1_cst,
    val_main_call1_v1, val_main_call1_v0, hz, up]
  simp only [← EReal.coe_neg, exp_real, logistic]

/-- The cotangent of the gate. -/
theorem gate : val_main_v80 (F := Ideal) (up D) (up Y) x2 (up fun _ => g) (up fun _ => b)
    = up fun r => dz (Y r) g b (Z r) (D r) := by
  funext j
  pointwise [val_main_v80, val_main_v42, val_main_call2_v2, val_main_call2_v1, val_main_call2_v0, val_main_v40, val_main_v39,
    val_main_v36_0, val_main_v37_1, val_main_call1_v7, val_main_call1_v6, val_main_call1_cst_1,
    layernorm, logistic_ln, logistic_z hz, hz, up]
  simp only [← EReal.coe_one, ← EReal.coe_mul, ← EReal.coe_sub, ← EReal.coe_add, dz]
  congr 1
  ring

/-- The cotangent of the LayerNorm's result. -/
theorem norm : val_main_v43 (F := Ideal) (up D) (up Y) x2 (up fun _ => g) (up fun _ => b)
    = up fun r => dln (Y r) g b (Z r) (D r) := by
  funext j
  pointwise [val_main_v43, val_main_call3_v2, val_main_call3_v1, val_main_call3_v0, val_main_v41, val_main_v39,
    val_main_v37_0, val_main_v36_1, val_main_call0_v7, val_main_call0_v6, val_main_call0_cst_1,
    layernorm, logistic_ln, logistic_z hz, hz, up]
  simp only [← EReal.coe_one, ← EReal.coe_mul, ← EReal.coe_sub, ← EReal.coe_add, dln]
  congr 1
  ring

theorem d_shift (l : Fin 2048) : val_main_v46 (F := Ideal) (up D) (up Y) x2 (up fun _ => g) (up fun _ => b) (ix1 l)
    = ((∑ r, dln (Y r) g b (Z r) (D r) l : ℝ) : EReal) := by
  pointwise [val_main_v46, val_main_v45, val_main_v44, val_main_cst_7, val_main_cst_8, norm hz, up]
  simp only [sum_real, Finset.univ_unique, Finset.sum_singleton]

theorem d_gain (l : Fin 2048) : val_main_v52 (F := Ideal) (up D) (up Y) x2 (up fun _ => g) (up fun _ => b) (ix1 l)
    = ((∑ r, dln (Y r) g b (Z r) (D r) l * xhat (Y r) l : ℝ) : EReal) := by
  pointwise [val_main_v52, val_main_v49, val_main_v48, val_main_v47, val_main_cst_9, val_main_cst_10, normalised, norm hz, up]
  simp only [← EReal.coe_mul, sum_real, Finset.univ_unique, Finset.sum_singleton, mul_comm]

/-- The cotangent of the normalised row. -/
theorem scaled : val_main_v51 (F := Ideal) (up D) (up Y) x2 (up fun _ => g) (up fun _ => b)
    = up fun r => dxh (Y r) g b (Z r) (D r) := by
  funext j
  pointwise [val_main_v51, val_main_v50, norm hz, gain, up]
  rw [← EReal.coe_mul]
  rfl

/-- The part through the square root, before the square. -/
theorem through_root : val_main_v65 (F := Ideal) (up D) (up Y) x2 (up fun _ => g) (up fun _ => b)
    = up fun r (_ : Fin 2048) => (∑ k, centered (Y r) k * dxh (Y r) g b (Z r) (D r) k) * slope (Y r) / 2048 := by
  funext j
  pointwise [val_main_v65, val_main_v64, val_main_cst_14, val_main_v63, val_main_v62, val_main_cst_13, val_main_v58, val_main_v55,
    val_main_v54, val_main_cst_11, val_main_v53, centred', scaled hz, root_slope, up]
  simp only [← EReal.coe_mul, sum_real, div_2048, Finset.univ_unique, Finset.sum_singleton]

theorem direct : val_main_v57 (F := Ideal) (up D) (up Y) x2 (up fun _ => g) (up fun _ => b)
    = up fun r l => dxh (Y r) g b (Z r) (D r) l * rstd (Y r) := by
  funext j
  pointwise [val_main_v57, val_main_v56, scaled hz, deviation, up]
  rw [← EReal.coe_mul]

theorem square : val_main_v66 (F := Ideal) (up D) (up Y) x2 (up fun _ => g) (up fun _ => b)
    = up fun r l => (∑ k, centered (Y r) k * dxh (Y r) g b (Z r) (D r) k) * slope (Y r) / 2048 * (2 * centered (Y r) l) := by
  funext j
  pointwise [val_main_v66, val_main_v15, val_main_v14, val_main_cst_2, through_root hz, centred, up]
  simp only [lit_two, ← EReal.coe_mul]

/-- The cotangent of the row. -/
theorem row : val_main_v76 (F := Ideal) (up D) (up Y) x2 (up fun _ => g) (up fun _ => b)
    = up fun r => dy (Y r) g b (Z r) (D r) := by
  funext j
  pointwise [val_main_v76, val_main_v75, val_main_v74, val_main_cst_17, val_main_v73, val_main_v72, val_main_cst_16, val_main_v71,
    val_main_v70, val_main_v69, val_main_v68, val_main_cst_15, val_main_v67, val_main_v61, val_main_v60, val_main_cst_12,
    val_main_v59, direct hz, square hz, up]
  simp only [← EReal.coe_neg, sum_real, ← EReal.coe_add, div_2048, Finset.univ_unique, Finset.sum_singleton]
  exact congrArg _ (chain ..)

theorem d_bias (l : Fin 2048) : val_main_v79 (F := Ideal) (up D) (up Y) x2 (up fun _ => g) (up fun _ => b) (ix1 l)
    = ((∑ r, dy (Y r) g b (Z r) (D r) l : ℝ) : EReal) := by
  pointwise [val_main_v79, val_main_v78, val_main_v77, val_main_cst_18, val_main_cst_19, row hz, up]
  simp only [sum_real, Finset.univ_unique, Finset.sum_singleton]

end Cert.LnGateRefIdeal.Real

end
-- ==== Proof.LnGateBody.lean ====
/- What one block of the gate's gradient computes on finite values: each of the body's values, as an array of reals. -/
module

public import proofs.«01_k».proof.Proof.Gen.LnGateIdeal.Skeleton
public import proofs.«01_k».proof.Proof.GateRow

@[expose] public section

set_option maxRecDepth 16384

noncomputable section

open Idealize.ShloMosaic Cert.Lift Cert.GateRow

namespace Cert.LnGateIdeal.Body

open Cert.LnGateIdeal Cert.LnGateIdeal.Gen

variable (Y Z D L S SZ X : Fin 256 → Fin 2048 → ℝ) (R : Fin 256 → ℝ) (g b : Fin 2048 → ℝ)

theorem mean_eq (v : Fin 2048 → ℝ) : mean v = (∑ l, v l) / 2048 := by rw [mean]; norm_num

theorem centred : k0_pay6 (F := Ideal) (up Y) = up fun r => centered (Y r) := by
  funext j
  pointwise [k0_pay6, up]
  simp only [sum_real, div_2048, ← EReal.coe_sub, centered, mean_eq]

theorem deviation : k0_pay7 (F := Ideal) (up Y) = up fun r (_ : Fin 1) => rstd (Y r) := by
  funext j
  pointwise [k0_pay7, centred, up]
  simp only [sum_real, div_2048, ← EReal.coe_mul, lit_eps, ← EReal.coe_add]
  rw [rsqrt_real _ (by simpa only [mean_eq] using var_pos (Y (j 0))), rstd, mean_eq]

theorem normalised : k0_pay8 (F := Ideal) (up Y) = up fun r => xhat (Y r) := by
  funext j
  pointwise [k0_pay8, deviation, centred, up]
  rw [← EReal.coe_mul]
  rfl

theorem layernorm : k0_pay9 (F := Ideal) (up Y) (up fun _ => g) (up fun _ => b) = up fun r => ln (Y r) g b := by
  funext j
  pointwise [k0_pay9, normalised, up]
  rw [← EReal.coe_mul, ← EReal.coe_add]
  rfl

theorem logistic_ln : k0_pay10 (F := Ideal) (up Y) (up fun _ => g) (up fun _ => b) = up fun r l => sigm (ln (Y r) g b l) := by
  funext j
  pointwise [k0_pay10, layernorm, up]
  simp only [lit_half, ← EReal.coe_mul, tanh_real, ← EReal.coe_add, half_tanh]

theorem logistic : k0_pay11 (F := Ideal) (up Z) = up fun r l => sigm (Z r l) := by
  funext j
  pointwise [k0_pay11, up]
  simp only [lit_half, ← EReal.coe_mul, tanh_real, ← EReal.coe_add, half_tanh]

/-- The gate's cotangent. -/
theorem gate : k0_pay13 (F := Ideal) (up L) (up S) (up Z) (up SZ) (up D)
    = up fun r l => D r l * (L r l * S r l) * (SZ r l * (1 + Z r l * (1 - SZ r l))) := by
  funext j
  pointwise [k0_pay13, k0_pay12, up]
  simp only [← EReal.coe_one, ← EReal.coe_mul, ← EReal.coe_sub, ← EReal.coe_add]

/-- The LayerNorm's cotangent. -/
theorem norm : k0_pay14 (F := Ideal) (up L) (up S) (up Z) (up SZ) (up D)
    = up fun r l => D r l * (Z r l * SZ r l) * (S r l * (1 + L r l * (1 - S r l))) := by
  funext j
  pointwise [k0_pay14, k0_pay12, up]
  simp only [← EReal.coe_one, ← EReal.coe_mul, ← EReal.coe_sub, ← EReal.coe_add]

/-- The row's cotangent. -/
theorem row : k0_pay15 (F := Ideal) (up fun r (_ : Fin 1) => rstd (Y r)) (up fun r => xhat (Y r)) (up fun _ => g)
      (up fun r => ln (Y r) g b) (up fun r l => sigm (ln (Y r) g b l)) (up Z) (up fun r l => sigm (Z r l)) (up D)
    = up fun r => dy (Y r) g b (Z r) (D r) := by
  funext j
  pointwise [k0_pay15, norm, up]
  simp only [sum_real, div_2048, ← EReal.coe_mul, ← EReal.coe_sub, dy, dxh, dln, mean_eq]

/-- A block's sums over the rows of equal residue modulo eight. -/
def sums (A : Fin 256 → Fin 2048 → ℝ) : Shape.Idx ⟨2, ![8, 2048]⟩ → EReal :=
  fun i => ∑ q : Fin 32, ((A ⟨q.val * 8 + (i 0).val, by have : (i 0).val < 8 := (i 0).isLt; omega⟩ (i 1) : ℝ) : EReal)

theorem sums_gain : k0_pay16 (F := Ideal) (up X) (up L) (up S) (up Z) (up SZ) (up D)
    = sums fun r l => D r l * (Z r l * SZ r l) * (S r l * (1 + L r l * (1 - S r l))) * X r l := by
  funext j
  pointwise [k0_pay16, norm, up, sums]
  rfl

theorem sums_shift : k0_pay1 (F := Ideal) (k0_pay17 (up L) (up S) (up Z) (up SZ) (up D))
    = sums fun r l => D r l * (Z r l * SZ r l) * (S r l * (1 + L r l * (1 - S r l))) := by
  funext j
  pointwise [k0_pay1, k0_pay17, norm, up, sums]

theorem sums_row : k0_pay2 (F := Ideal) (up X) = sums X := by
  funext j
  pointwise [k0_pay2, up, sums]

end Cert.LnGateIdeal.Body

end
-- ==== Proof.LnGateVal.lean ====
/- What the mixer's LayerNorm and gate gradient leaves in its results, of finite arguments. -/
module

public import proofs.«01_k».proof.Proof.Gen.LnGateIdeal.Frame
public import proofs.«01_k».proof.Proof.LnGateBody
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.LnGateIdeal.Val

open Cert.LnGateIdeal Cert.LnGateIdeal.Gen Cert.Lift Cert.GateRow

variable (m : (ℓ : Loc nD τ sig) → Buf (Elt Ideal) ℓ)

/-- The arguments are the reals `D`, `Y`, `Z` (the gate's columns of the projection), `g` and `b`. -/
structure Real (c : Dev nD) (D Y Z : Fin 8192 → Fin 2048 → ℝ) (g b : Fin 2048 → ℝ) : Prop where
  d : m ((c : Thread nD τ).loc main_arg0) = up D
  y : m ((c : Thread nD τ).loc main_arg1) = up Y
  z : ∀ r l, (m ((c : Thread nD τ).loc main_arg2) : S8192x6144.Idx → EReal) (ix2 r ⟨4096 + l.val, by omega⟩) = ((Z r l : ℝ) : EReal)
  g : m ((c : Thread nD τ).loc main_arg3) = up fun _ : Fin 1 => g
  b : m ((c : Thread nD τ).loc main_arg4) = up fun _ : Fin 1 => b

/-- The blocks of the operands and of the results at a grid point. -/
theorem idx : ∀ t : Fin cfg0.N, win0_0.index t = ![t.val, 0] ∧ win0_1.index t = ![t.val, 0] ∧ win0_2.index t = ![t.val, 2]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

/-- Row `r` of the block at a grid point. -/
def row (t : Fin cfg0.N) (r : Fin 256) : Fin 8192 :=
  ⟨t.val * 256 + r.val, by have : t.val < 32 := lt_of_lt_of_eq t.isLt N_0; omega⟩

variable {m} {c : Dev nD} {D Y Z : Fin 8192 → Fin 2048 → ℝ} {g b : Fin 2048 → ℝ} (h : Real m c D Y Z g b) (t : Fin cfg0.N)
include h

theorem block_d : iblk m c 0 t = up fun r => D (row t r) := by
  funext j
  refine Eq.trans (b := (m ((c : Thread nD τ).loc main_arg0) : S8192x2048.Idx → EReal) (ix2 (row t (j 0)) (j 1))) (by blk_point [iblk, V, idx t]; rfl) ?_
  rw [h.d]; rfl

theorem block_y : iblk m c 1 t = up fun r => Y (row t r) := by
  funext j
  refine Eq.trans (b := (m ((c : Thread nD τ).loc main_arg1) : S8192x2048.Idx → EReal) (ix2 (row t (j 0)) (j 1))) (by blk_point [iblk, V, idx t]; rfl) ?_
  rw [h.y]; rfl

theorem block_z : iblk m c 2 t = up fun r => Z (row t r) := by
  funext j
  refine Eq.trans (b := (m ((c : Thread nD τ).loc main_arg2) : S8192x6144.Idx → EReal) (ix2 (row t (j 0)) ⟨4096 + (j 1).val, by have : (j 1).val < 2048 := (j 1).isLt; omega⟩)) (by blk_point [iblk, V, idx t]; rfl) ?_
  exact h.z _ _

theorem block_g : iblk m c 3 t = up fun _ : Fin 1 => g := by
  funext j
  refine Eq.trans (b := (m ((c : Thread nD τ).loc main_arg3) : S1x2048.Idx → EReal) (ix2 0 (j 1))) (by blk_point [iblk, V, idx t]) ?_
  rw [h.g]; rfl

theorem block_b : iblk m c 4 t = up fun _ : Fin 1 => b := by
  funext j
  refine Eq.trans (b := (m ((c : Thread nD τ).loc main_arg4) : S1x2048.Idx → EReal) (ix2 0 (j 1))) (by blk_point [iblk, V, idx t]) ?_
  rw [h.b]; rfl

/-- The row's cotangent, of a block. -/
theorem point_dy : k0_pay15 (k0_pay7 (iblk m c 1 t)) (k0_pay8 (iblk m c 1 t)) (iblk m c 3 t)
      (k0_pay9 (iblk m c 1 t) (iblk m c 3 t) (iblk m c 4 t)) (k0_pay10 (iblk m c 1 t) (iblk m c 3 t) (iblk m c 4 t))
      (iblk m c 2 t) (k0_pay11 (iblk m c 2 t)) (iblk m c 0 t)
    = up fun r => dy (Y (row t r)) g b (Z (row t r)) (D (row t r)) := by
  rw [block_d h t, block_y h t, block_z h t, block_g h t, block_b h t, Body.deviation, Body.normalised, Body.layernorm,
    Body.logistic_ln, Body.logistic]
  exact Body.row (fun r => Y (row t r)) (fun r => Z (row t r)) (fun r => D (row t r)) g b

/-- The gate's cotangent, of a block. -/
theorem point_dz : k0_pay13 (k0_pay9 (iblk m c 1 t) (iblk m c 3 t) (iblk m c 4 t))
      (k0_pay10 (iblk m c 1 t) (iblk m c 3 t) (iblk m c 4 t)) (iblk m c 2 t) (k0_pay11 (iblk m c 2 t)) (iblk m c 0 t)
    = up fun r => dz (Y (row t r)) g b (Z (row t r)) (D (row t r)) := by
  rw [block_d h t, block_y h t, block_z h t, block_g h t, block_b h t, Body.layernorm, Body.logistic_ln, Body.logistic, Body.gate]
  rfl

/-- The gains' part, of a block. -/
theorem point_gain : k0_pay16 (k0_pay8 (iblk m c 1 t)) (k0_pay9 (iblk m c 1 t) (iblk m c 3 t) (iblk m c 4 t))
      (k0_pay10 (iblk m c 1 t) (iblk m c 3 t) (iblk m c 4 t)) (iblk m c 2 t) (k0_pay11 (iblk m c 2 t)) (iblk m c 0 t)
    = Body.sums fun r l => dln (Y (row t r)) g b (Z (row t r)) (D (row t r)) l * xhat (Y (row t r)) l := by
  rw [block_d h t, block_y h t, block_z h t, block_g h t, block_b h t, Body.normalised, Body.layernorm, Body.logistic_ln,
    Body.logistic, Body.sums_gain]
  rfl

/-- The shifts' part, of a block. -/
theorem point_shift : k0_pay1 (k0_pay17 (k0_pay9 (iblk m c 1 t) (iblk m c 3 t) (iblk m c 4 t))
      (k0_pay10 (iblk m c 1 t) (iblk m c 3 t) (iblk m c 4 t)) (iblk m c 2 t) (k0_pay11 (iblk m c 2 t)) (iblk m c 0 t))
    = Body.sums fun r => dln (Y (row t r)) g b (Z (row t r)) (D (row t r)) := by
  rw [block_d h t, block_y h t, block_z h t, block_g h t, block_b h t, Body.layernorm, Body.logistic_ln, Body.logistic,
    Body.sums_shift]
  rfl

/-- The first result's array after the run. -/
theorem final_dy : (dats m 0 c).arrAt 5 (cfgs 0).N = up fun r => dy (Y r) g b (Z r) (D r) := by
  refine (dats m 0 c).arrAt_eq_of_covers 5 _ (by decide +kernel) fun t _ y => ?_
  have ht : t.val < 32 := lt_of_lt_of_eq t.isLt N_0
  blk_simp
  rw [after0_5]
  refine Eq.trans (b := up (fun r => dy (Y r) g b (Z r) (D r)) (ix2 (row t (y 0)) (y 1))) ?_ (by blk_point [idx t]; rfl)
  by_cases h0 : t.val % 32 = 0
  · rw [outsAt0_A m c t h0 (by omega)]
    frame_out
    exact congrFun (point_dy h t) y
  · rw [outsAt0_B m c t h0 (by omega)]
    frame_out
    exact congrFun (point_dy h t) y

/-- The second result's array after the run. -/
theorem final_dz : (dats m 0 c).arrAt 6 (cfgs 0).N = up fun r => dz (Y r) g b (Z r) (D r) := by
  refine (dats m 0 c).arrAt_eq_of_covers 6 _ (by decide +kernel) fun t _ y => ?_
  have ht : t.val < 32 := lt_of_lt_of_eq t.isLt N_0
  blk_simp
  rw [after0_6]
  refine Eq.trans (b := up (fun r => dz (Y r) g b (Z r) (D r)) (ix2 (row t (y 0)) (y 1))) ?_ (by blk_point [idx t]; rfl)
  by_cases h0 : t.val % 32 = 0
  · rw [outsAt0_A m c t h0 (by omega)]
    frame_out
    exact congrFun (point_dz h t) y
  · rw [outsAt0_B m c t h0 (by omega)]
    frame_out
    exact congrFun (point_dz h t) y

omit h in
/-- The sums of `A`'s rows of equal residue modulo eight, block by block. -/
def total (A : Fin 8192 → Fin 2048 → ℝ) : S8x2048.Idx → EReal :=
  fun i => ∑ p : Fin cfg0.N, Body.sums (fun r => A (row p r)) i

omit h in
/-- The eight rows' sum is the sum of all rows. -/
theorem sum_total (A : Fin 8192 → Fin 2048 → ℝ) (l : Fin 2048) :
    ∑ i : Fin 8, total A (ix2 i l) = ((∑ r, A r l : ℝ) : EReal) := by
  rw [← sum_real, Fin.sum_univ_tiles 32 256 rfl]
  unfold total
  rw [Finset.sum_comm]
  refine Fintype.sum_equiv (finCongr N_0) _ _ fun p => ?_
  rw [Fin.sum_univ_tiles 32 8 rfl, Finset.sum_comm]
  rfl

omit h t in
theorem last_of_flush {t : Fin cfg0.N} (hf : t.val % 32 = 31) : t.val + 1 = cfg0.N := by
  have h32 : cfg0.N = 32 := N_0
  have := t.isLt
  omega

omit h t in
theorem first_point (t : Fin cfg0.N) (h0 : t.val % 32 = 0) : ¬1 ≤ t.val := by
  have h32 : cfg0.N = 32 := N_0
  have := t.isLt
  omega

/-- The gains' eight rows after the run. -/
theorem final_gain : (dats m 0 c).arrAt 7 (cfgs 0).N = total fun r l => dln (Y r) g b (Z r) (D r) l * xhat (Y r) l := by
  refine (dats m 0 c).arrAt_eq_of_covers 7 _ (by decide +kernel) fun t hf y => ?_
  blk_simp
  rw [after0_7, Pipeline.eq_sum_fin_of_reset_step_apply_last (fun n hn => (outsAt0 m c n hn).2.2.1) 32 (fun _ => 0)
    (fun t => Body.sums fun r l => dln (Y (row t r)) g b (Z (row t r)) (D (row t r)) l * xhat (Y (row t r)) l)
    (fun t h0 i => by rw [outsAt0_A m c t h0 (first_point t h0)]; frame_out; rw [point_gain h t, zero_add])
    (fun t h0 i => by rw [outsAt0_B m c t h0 (by omega)]; frame_out; pointwise [k0_pay3]; rw [point_gain h t])
    (le_of_eq N_0) t (last_of_flush ((flush0_7 t).mp hf)) y, zero_add]
  refine Eq.trans (b := total (fun r l => dln (Y r) g b (Z r) (D r) l * xhat (Y r) l) y) rfl ?_
  generalize total (fun r l => dln (Y r) g b (Z r) (D r) l * xhat (Y r) l) = f
  blk_point [idx t]

/-- The shifts' eight rows after the run. -/
theorem final_shift : (dats m 0 c).arrAt 8 (cfgs 0).N = total fun r => dln (Y r) g b (Z r) (D r) := by
  refine (dats m 0 c).arrAt_eq_of_covers 8 _ (by decide +kernel) fun t hf y => ?_
  blk_simp
  rw [after0_8, Pipeline.eq_sum_fin_of_reset_step_apply_last (fun n hn => (outsAt0 m c n hn).2.2.2.1) 32 (fun _ => 0)
    (fun t => Body.sums fun r => dln (Y (row t r)) g b (Z (row t r)) (D (row t r)))
    (fun t h0 i => by rw [outsAt0_A m c t h0 (first_point t h0)]; frame_out; rw [point_shift h t, zero_add])
    (fun t h0 i => by rw [outsAt0_B m c t h0 (by omega)]; frame_out; pointwise [k0_pay4]; rw [point_shift h t])
    (le_of_eq N_0) t (last_of_flush ((flush0_8 t).mp hf)) y, zero_add]
  refine Eq.trans (b := total (fun r => dln (Y r) g b (Z r) (D r)) y) rfl ?_
  generalize total (fun r => dln (Y r) g b (Z r) (D r)) = f
  blk_point [idx t]

/-- The convolution bias' eight rows after the run. -/
theorem final_bias : (dats m 0 c).arrAt 9 (cfgs 0).N = total fun r => dy (Y r) g b (Z r) (D r) := by
  refine (dats m 0 c).arrAt_eq_of_covers 9 _ (by decide +kernel) fun t hf y => ?_
  blk_simp
  rw [after0_9, Pipeline.eq_sum_fin_of_reset_step_apply_last (fun n hn => (outsAt0 m c n hn).2.2.2.2) 32 (fun _ => 0)
    (fun t => Body.sums fun r => dy (Y (row t r)) g b (Z (row t r)) (D (row t r)))
    (fun t h0 i => by rw [outsAt0_A m c t h0 (first_point t h0)]; frame_out; rw [point_dy h t, Body.sums_row, zero_add])
    (fun t h0 i => by rw [outsAt0_B m c t h0 (by omega)]; frame_out; pointwise [k0_pay5]; rw [point_dy h t, Body.sums_row])
    (le_of_eq N_0) t (last_of_flush ((flush0_9 t).mp hf)) y, zero_add]
  refine Eq.trans (b := total (fun r => dy (Y r) g b (Z r) (D r)) y) rfl ?_
  generalize total (fun r => dy (Y r) g b (Z r) (D r)) = f
  blk_point [idx t]

end Cert.LnGateIdeal.Val

end
-- ==== Proof.LnGatePre.lean ====
/- The arguments under the precondition, and the host's sums after the gate's gradient. -/
module

public import proofs.«01_k».proof.Defs
public import proofs.«01_k».proof.Proof.Gen.Pre_ln_gate_finite
public import proofs.«01_k».proof.Proof.LnGateVal
public import Idealize.ShloMosaic.Lib.ReduceAll
public import Idealize.ShloMosaic.Lib.KernelVsHost
public import Idealize.ShloMosaic.Lib.Claim

@[expose] public section

set_option maxRecDepth 16384

noncomputable section

open Idealize.ShloMosaic Idealize.ShloMosaic.TcCoe Idealize.SL.Sem Cert.Lift Cert.GateRow

namespace Cert.LnGateIdeal.Val

open Cert.LnGateIdeal Cert.LnGateIdeal.Gen

/-- A value that the precondition's comparison calls finite is a real number. -/
theorem real_of_finite (x : Ideal .f32)
    (h : FloatOps.cmpf .olt (FloatOps.hostAbsf x) (FloatOps.ofBits (F := Ideal) .f32 0x7F800000#32) = 1#1) :
    (x : EReal) = ((EReal.toReal x : ℝ) : EReal) := by
  rw [← Ideal.xori_weird_eq_hostAbsf_olt_inf] at h
  have h' : IntOp.xori (BitVec.ofBool (decide ((x : EReal) = ⊤ ∨ (x : EReal) = ⊥))) 1#1 = 1#1 := h
  by_cases hx : (x : EReal) = ⊤ ∨ (x : EReal) = ⊥
  · simp [hx, IntOp.xori] at h'
  · push Not at hx
    exact (EReal.coe_toReal hx.1 hx.2).symm

theorem up_toReal {a b : ℕ} (x : Shape.Idx ⟨2, ![a, b]⟩ → EReal) (h : ∀ i, x i = ((EReal.toReal (x i) : ℝ) : EReal)) :
    x = up fun r l => EReal.toReal (x (ix2 r l)) := by
  funext i
  rw [up, ix2_eta i]
  exact h i

theorem up_toReal_row {b : ℕ} (x : Shape.Idx ⟨2, ![1, b]⟩ → EReal) (h : ∀ i, x i = ((EReal.toReal (x i) : ℝ) : EReal)) :
    x = up fun (_ : Fin 1) l => EReal.toReal (x (ix2 0 l)) := by
  refine (up_toReal x h).trans (funext fun i => ?_)
  exact congrArg (fun k : Fin 1 => ((EReal.toReal (x (ix2 k (i 1))) : ℝ) : EReal)) (Subsingleton.elim (α := Fin 1) (i 0) 0)

/-- Under the precondition the arguments are arrays of reals. -/
theorem real_of_pre (m : (ℓ : Loc nD τ sig) → Buf (Elt Ideal) ℓ) (hp : Pre_LnGateIdeal_ln_gate_finite m) (c : Dev nD) :
    ∃ D Y Z g b, Real m c D Y Z g b := by
  have h := congrFun (hp c) (fun i => i.elim0)
  simp only [Cert.Pre_ln_gate_finite.fn, Cert.Pre_ln_gate_finite.fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton (Shape.Idx Cert.Pre_ln_gate_finite.S_) := ⟨fun a b => funext fun i => i.elim0⟩
  have a0 := fun i => real_of_finite _ (Host.reduce_andi_all _ _ _ _ _ h0 i)
  have a1 := fun i => real_of_finite _ (Host.reduce_andi_all _ _ _ _ _ h1 i)
  have a2 := fun i => real_of_finite _ (Host.reduce_andi_all _ _ _ _ _ h2 i)
  have a3 := fun i => real_of_finite _ (Host.reduce_andi_all _ _ _ _ _ h3 i)
  have a4 := fun i => real_of_finite _ (Host.reduce_andi_all _ _ _ _ _ h4 i)
  clear h h0 h1 h2 h3 h4
  refine ⟨fun r l => EReal.toReal (m ((c : Thread nD τ).loc main_arg0) (ix2 r l)),
    fun r l => EReal.toReal (m ((c : Thread nD τ).loc main_arg1) (ix2 r l)),
    fun r l => EReal.toReal (m ((c : Thread nD τ).loc main_arg2) (ix2 r ⟨4096 + l.val, by omega⟩)),
    fun l => EReal.toReal (m ((c : Thread nD τ).loc main_arg3) (ix2 0 l)),
    fun l => EReal.toReal (m ((c : Thread nD τ).loc main_arg4) (ix2 0 l)), ?_, ?_, ?_, ?_, ?_⟩
  · exact up_toReal _ a0
  · exact up_toReal _ a1
  · intro r l
    have := a2 (ix2 r l)
    pointwise at this
    exact this
  · exact up_toReal_row _ a3
  · exact up_toReal_row _ a4

variable (m : (ℓ : Loc nD τ sig) → Buf (Elt Ideal) ℓ) (c : Dev nD)

theorem arrays_distinct : Function.Injective (Pipeline.arrRef (cfgs 0).spec) := by
  decide +kernel

/-- The host's sum of an array's eight rows. -/
def hostSum (A : S8x2048.Idx → EReal) : S2048.Idx → EReal :=
  Host.reduceAdd (F := Ideal) (φ := .f32) A (constant S_ .f32 0x00000000#32) reducesTo_S8x2048_S2048_d0 h_S_

theorem hostSum_total (A : Fin 8192 → Fin 2048 → ℝ) : hostSum (total A) = fun j => ((∑ r, A r (j 0) : ℝ) : EReal) := by
  funext j
  unfold hostSum
  pointwise
  exact sum_total A (j 0)

/-- The host's sums of the partial rows. -/
theorem tail_gain : Pipeline.afterTail₀ cfgs (dats m) 0 (V0 m) [hostOps1] c main_v1 = hostSum ((dats m 0 c).arrAt 7 (cfgs 0).N) := by
  unfold Pipeline.afterTail₀ hostOps1
  simp only [List.flatten_cons, List.flatten_nil, List.append_nil]
  after_results_simp
  exact congrArg hostSum (Pipeline.withArrays_arr _ arrays_distinct c (V0 m c) (fun w => (dats m 0 c).arrAt w (cfgs 0).N) 7)

theorem tail_shift : Pipeline.afterTail₀ cfgs (dats m) 0 (V0 m) [hostOps1] c main_v2 = hostSum ((dats m 0 c).arrAt 8 (cfgs 0).N) := by
  unfold Pipeline.afterTail₀ hostOps1
  simp only [List.flatten_cons, List.flatten_nil, List.append_nil]
  after_results_simp
  exact congrArg hostSum (Pipeline.withArrays_arr _ arrays_distinct c (V0 m c) (fun w => (dats m 0 c).arrAt w (cfgs 0).N) 8)

theorem tail_bias : Pipeline.afterTail₀ cfgs (dats m) 0 (V0 m) [hostOps1] c main_v3 = hostSum ((dats m 0 c).arrAt 9 (cfgs 0).N) := by
  unfold Pipeline.afterTail₀ hostOps1
  simp only [List.flatten_cons, List.flatten_nil, List.append_nil]
  after_results_simp
  exact congrArg hostSum (Pipeline.withArrays_arr _ arrays_distinct c (V0 m c) (fun w => (dats m 0 c).arrAt w (cfgs 0).N) 9)

end Cert.LnGateIdeal.Val

end
-- ==== Proof.LnGate.lean ====
/- The gradient of the convolution mixer's LayerNorm and gates. -/
module

public import proofs.«01_k».proof.Proof.LnGateRef
public import proofs.«01_k».proof.Proof.LnGatePre

@[expose] public section

set_option maxRecDepth 16384

noncomputable section

open Idealize.ShloMosaic Idealize.ShloMosaic.TcCoe Idealize.SL.Sem Cert.Lift Cert.GateRow

namespace Cert.LnGate

open Cert.LnGateIdeal.Val in
/-- On finite arguments the call computes, over the extended reals, what the differentiation of the gate computes. -/
theorem equal : Cert.algebraic_LnGateIdeal_LnGateRefIdeal_pre_ln_gate_finite := by
  pair_intro
  · run_from Cert.LnGateIdeal.Gen.run_main m g
  · refine (θ_run _ _ _).mono (fun r hr c => ?_) (Cert.LnGateRefIdeal.Value.run m' g')
    obtain ⟨D, Y, Z, u, b, h⟩ := real_of_pre m hpre c
    obtain ⟨e0, e1, e2, e3, e4⟩ := hagree c
    obtain ⟨v0, v1, v2, v3, v4, vs⟩ := hr c
    have hz : Cert.LnGateRefIdeal.Read.val_main_v0 (F := Ideal) (m' ((c.tc : Thread _ _).loc Cert.LnGateRefIdeal.main_arg2)) = up Z := by
      rw [e2]
      funext i
      pointwise [Cert.LnGateRefIdeal.Read.val_main_v0]
      exact h.z (i 0) (i 1)
    have r0 := e0.trans h.d
    have r1 := e1.trans h.y
    have r3 := e3.trans h.g
    have r4 := e4.trans h.b
    refine ⟨v0.trans ?_, v1.trans ?_, v2.trans ?_, v3.trans ?_, v4.trans ?_, vs⟩
    · rw [Cert.LnGateRefIdeal.Read.val_main_v76_eq, r0, r1, r3, r4]
      exact (Cert.LnGateRefIdeal.Real.row hz).trans (final_dy h).symm
    · rw [Cert.LnGateRefIdeal.Read.val_main_v80_eq, r0, r1, r3, r4]
      exact (Cert.LnGateRefIdeal.Real.gate hz).trans (final_dz h).symm
    · rw [Cert.LnGateRefIdeal.Read.val_main_v52_eq, r0, r1, r3, r4, tail_gain, final_gain h, hostSum_total]
      funext j
      exact (congrArg _ (eq_ix1 j)).trans (Cert.LnGateRefIdeal.Real.d_gain hz (j 0))
    · rw [Cert.LnGateRefIdeal.Read.val_main_v46_eq, r0, r1, r3, r4, tail_shift, final_shift h, hostSum_total]
      funext j
      exact (congrArg _ (eq_ix1 j)).trans (Cert.LnGateRefIdeal.Real.d_shift hz (j 0))
    · rw [Cert.LnGateRefIdeal.Read.val_main_v79_eq, r0, r1, r3, r4, tail_bias, final_bias h, hostSum_total]
      funext j
      exact (congrArg _ (eq_ix1 j)).trans (Cert.LnGateRefIdeal.Real.d_bias hz (j 0))

/-- The reference terminates and leaves its arguments unchanged. -/
theorem frame_reference : Cert.quiescent_LnGateRefIdeal := by
  intro m g _
  hlo_run
  · exact fun _ => ⟨trivial, trivial, trivial, trivial, trivial⟩
  · exact sem_eq_zero_of_no_sems rfl _

theorem frame_reference_pre : Cert.quiescent_LnGateRefIdeal_pre_ln_gate_finite := fun m g _ => frame_reference m g trivial

end Cert.LnGate

end
-- ==== Proof.Products.lean ====
/- What the step's products compute, as sums over the contracted axis: `rowsCols` is a product with the operands as they
   stand, `rowsRows` contracts the second axis of both (the gradient of a product's left operand), `colsCols` the first axis
   of both (the gradient of its right operand), and `colsColsByOwner` is the latter with the result's columns cut into the
   blocks that the devices own. -/
module

public import Idealize.ShloMosaic.PureOps.Ideal
public import Idealize.ShloMosaic.Lib.Pointwise

@[expose] public section

noncomputable section

open Idealize.ShloMosaic

namespace Cert.Products

variable {M K N O B : ℕ}

def rowsCols (X : Shape.Idx ⟨2, ![M, K]⟩ → EReal) (W : Shape.Idx ⟨2, ![K, N]⟩ → EReal) : Shape.Idx ⟨2, ![M, N]⟩ → EReal :=
  fun i => ∑ k : Fin K, X (ix2 (i 0) k) * W (ix2 k (i 1))

def rowsRows (X : Shape.Idx ⟨2, ![M, K]⟩ → EReal) (W : Shape.Idx ⟨2, ![N, K]⟩ → EReal) : Shape.Idx ⟨2, ![M, N]⟩ → EReal :=
  fun i => ∑ k : Fin K, X (ix2 (i 0) k) * W (ix2 (i 1) k)

def colsCols (X : Shape.Idx ⟨2, ![K, M]⟩ → EReal) (Y : Shape.Idx ⟨2, ![K, N]⟩ → EReal) : Shape.Idx ⟨2, ![M, N]⟩ → EReal :=
  fun i => ∑ k : Fin K, X (ix2 k (i 0)) * Y (ix2 k (i 1))

/-- The result's column `o * B + b` is column `b` of owner `o`'s block. -/
def colsColsByOwner (h : N = O * B) (X : Shape.Idx ⟨2, ![K, M]⟩ → EReal) (Y : Shape.Idx ⟨2, ![K, N]⟩ → EReal) :
    Shape.Idx ⟨3, ![O, M, B]⟩ → EReal :=
  fun i => ∑ k : Fin K, X (ix2 k (i 1)) * Y (ix2 k ⟨(i 0).val * B + (i 2).val, by
    subst h
    have h0 : (i 0).val < O := (i 0).isLt
    have h2 : (i 2).val < B := (i 2).isLt
    calc (i 0).val * B + (i 2).val < (i 0).val * B + B := by omega
      _ = ((i 0).val + 1) * B := by rw [Nat.add_mul, Nat.one_mul]
      _ ≤ O * B := Nat.mul_le_mul_right _ h0⟩)

end Cert.Products

end
-- ==== Proof.DInA.lean ====
/- The gradient of the convolution mixer's input weights. -/
module

public import proofs.«01_k».proof.Defs
public import proofs.«01_k».proof.Proof.Gen.DInA.Frame
public import proofs.«01_k».proof.Proof.Gen.DInAIdeal.Frame
public import proofs.«01_k».proof.Proof.Gen.DInARefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DInAIdeal.Val

open Cert.DInAIdeal Cert.DInAIdeal.Gen

variable (m : (ℓ : Loc nD τ sig) → Buf (Elt Ideal) ℓ)

/-- The blocks of the operands and of the result at a grid point. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The result's array after the run is the whole product. -/
theorem final (c : Dev nD) : (dats m 0 c).arrAt 2 (cfgs 0).N
    = colsColsByOwner (O := 8) (B := 768) rfl (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hlt : t.val - 1 < cfg0.N := lt_of_le_of_lt (Nat.sub_le _ _) t.isLt
  have halves : ∀ f : Fin 8192 → EReal, ∑ k, f k = ∑ j : Fin 2, ∑ k : Fin 4096, f ⟨j.val * 4096 + k.val, by omega⟩ :=
    fun f => Fin.sum_univ_tiles 2 4096 rfl f
  rw [after0_2, outsAt0_B m c t (by omega) ht ht, outsAt0_A m c ⟨t.val - 1, hlt⟩ (by show (t.val - 1) % 2 = 0; omega)
    (by show ¬(t.val - 1) % 2 = 1; omega) (by show ¬(t.val - 1) % 2 = 1; omega)]
  frame_out
  simp only [read_unread_whole]
  have hs : (⟨t.val - 1, hlt⟩ : Fin cfg0.N).val + 1 = t.val := by show t.val - 1 + 1 = t.val; omega
  generalize (⟨t.val - 1, hlt⟩ : Fin cfg0.N) = s at hs ⊢
  pointwise [k0_pay4, k0_pay3, k0_pay2, k0_pay1, colsColsByOwner, halves]
  rw [Fin.sum_univ_two]
  blk_point [iblk, V, idx t, idx s]

end Cert.DInAIdeal.Val

namespace Cert.DInA

/-- Over the extended reals the call computes what its reference computes. -/
theorem equal : Cert.algebraic_DInAIdeal_DInARefIdeal := by
  pair_intro
  · run_from Cert.DInAIdeal.Gen.run_main m g
  · hlo_run
    rw [Cert.DInAIdeal.Val.final]
    funext i
    pointwise [colsColsByOwner]
    exact Finset.sum_congr rfl fun _ _ => mul_comm _ _

/-- The reference terminates and leaves its arguments unchanged. -/
theorem frame_reference : Cert.quiescent_DInARefIdeal := by
  intro m g _
  hlo_run
  · exact fun _ => ⟨trivial, trivial⟩
  · exact sem_eq_zero_of_no_sems rfl _

end Cert.DInA

end
-- ==== Proof.DInB.lean ====
/- The gradient of the attention mixer's input weights. -/
module

public import proofs.«01_k».proof.Defs
public import proofs.«01_k».proof.Proof.Gen.DInB.Frame
public import proofs.«01_k».proof.Proof.Gen.DInBIdeal.Frame
public import proofs.«01_k».proof.Proof.Gen.DInBRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DInBIdeal.Val

open Cert.DInBIdeal Cert.DInBIdeal.Gen

variable (m : (ℓ : Loc nD τ sig) → Buf (Elt Ideal) ℓ)

/-- The blocks of the operands and of the result at a grid point. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The result's array after the run is the whole product. -/
theorem final (c : Dev nD) : (dats m 0 c).arrAt 2 (cfgs 0).N
    = colsColsByOwner (O := 8) (B := 512) rfl (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hlt : t.val - 1 < cfg0.N := lt_of_le_of_lt (Nat.sub_le _ _) t.isLt
  have halves : ∀ f : Fin 8192 → EReal, ∑ k, f k = ∑ j : Fin 2, ∑ k : Fin 4096, f ⟨j.val * 4096 + k.val, by omega⟩ :=
    fun f => Fin.sum_univ_tiles 2 4096 rfl f
  rw [after0_2, outsAt0_B m c t (by omega) ht ht, outsAt0_A m c ⟨t.val - 1, hlt⟩ (by show (t.val - 1) % 2 = 0; omega)
    (by show ¬(t.val - 1) % 2 = 1; omega) (by show ¬(t.val - 1) % 2 = 1; omega)]
  frame_out
  simp only [read_unread_whole]
  have hs : (⟨t.val - 1, hlt⟩ : Fin cfg0.N).val + 1 = t.val := by show t.val - 1 + 1 = t.val; omega
  generalize (⟨t.val - 1, hlt⟩ : Fin cfg0.N) = s at hs ⊢
  canon_tiles x g
  all_goals
    pointwise [k0_pay5, k0_pay4, k0_pay3, k0_pay2, k0_pay1, colsColsByOwner, halves]
    rw [Fin.sum_univ_two]
    blk_point [iblk, V, idx t, idx s]

end Cert.DInBIdeal.Val

namespace Cert.DInB

/-- Over the extended reals the call computes what its reference computes. -/
theorem equal : Cert.algebraic_DInBIdeal_DInBRefIdeal := by
  pair_intro
  · run_from Cert.DInBIdeal.Gen.run_main m g
  · hlo_run
    rw [Cert.DInBIdeal.Val.final]
    funext i
    pointwise [colsColsByOwner]
    exact Finset.sum_congr rfl fun _ _ => mul_comm _ _

/-- The reference terminates and leaves its arguments unchanged. -/
theorem frame_reference : Cert.quiescent_DInBRefIdeal := by
  intro m g _
  hlo_run
  · exact fun _ => ⟨trivial, trivial⟩
  · exact sem_eq_zero_of_no_sems rfl _

end Cert.DInB

end
-- ==== Proof.DKv.lean ====
/- The gradient of the shared keys' and values' weights. -/
module

public import proofs.«01_k».proof.Defs
public import proofs.«01_k».proof.Proof.Gen.DKv.Frame
public import proofs.«01_k».proof.Proof.Gen.DKvIdeal.Frame
public import proofs.«01_k».proof.Proof.Gen.DKvRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DKvIdeal.Val

open Cert.DKvIdeal Cert.DKvIdeal.Gen

variable (m : (ℓ : Loc nD τ sig) → Buf (Elt Ideal) ℓ)

/-- The blocks of the operands and of the result at a grid point. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The result's array after the run is the whole product. -/
theorem final (c : Dev nD) : (dats m 0 c).arrAt 2 (cfgs 0).N
    = colsColsByOwner (O := 8) (B := 256) rfl (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hlt : t.val - 1 < cfg0.N := lt_of_le_of_lt (Nat.sub_le _ _) t.isLt
  have halves : ∀ f : Fin 8192 → EReal, ∑ k, f k = ∑ j : Fin 2, ∑ k : Fin 4096, f ⟨j.val * 4096 + k.val, by omega⟩ :=
    fun f => Fin.sum_univ_tiles 2 4096 rfl f
  rw [after0_2, outsAt0_B m c t (by omega) ht ht, outsAt0_A m c ⟨t.val - 1, hlt⟩ (by show (t.val - 1) % 2 = 0; omega)
    (by show ¬(t.val - 1) % 2 = 1; omega) (by show ¬(t.val - 1) % 2 = 1; omega)]
  frame_out
  simp only [read_unread_whole]
  have hs : (⟨t.val - 1, hlt⟩ : Fin cfg0.N).val + 1 = t.val := by show t.val - 1 + 1 = t.val; omega
  generalize (⟨t.val - 1, hlt⟩ : Fin cfg0.N) = s at hs ⊢
  canon_tiles x g
  all_goals
    pointwise [k0_pay7, k0_pay6, k0_pay5, k0_pay4, k0_pay3, k0_pay2, k0_pay1, colsColsByOwner, halves]
    rw [Fin.sum_univ_two]
    blk_point [iblk, V, idx t, idx s]

end Cert.DKvIdeal.Val

namespace Cert.DKv

/-- Over the extended reals the call computes what its reference computes. -/
theorem equal : Cert.algebraic_DKvIdeal_DKvRefIdeal := by
  pair_intro
  · run_from Cert.DKvIdeal.Gen.run_main m g
  · hlo_run
    rw [Cert.DKvIdeal.Val.final]
    funext i
    pointwise [colsColsByOwner]
    exact Finset.sum_congr rfl fun _ _ => mul_comm _ _

/-- The reference terminates and leaves its arguments unchanged. -/
theorem frame_reference : Cert.quiescent_DKvRefIdeal := by
  intro m g _
  hlo_run
  · exact fun _ => ⟨trivial, trivial⟩
  · exact sem_eq_zero_of_no_sems rfl _

end Cert.DKv

end
-- ==== Proof.DProj.lean ====
/- The gradient of a layer's embedding projection. -/
module

public import proofs.«01_k».proof.Defs
public import proofs.«01_k».proof.Proof.Gen.DProj.Frame
public import proofs.«01_k».proof.Proof.Gen.DProjIdeal.Frame
public import proofs.«01_k».proof.Proof.Gen.DProjRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DProjIdeal.Val

open Cert.DProjIdeal Cert.DProjIdeal.Gen

variable (m : (ℓ : Loc nD τ sig) → Buf (Elt Ideal) ℓ)

/-- The blocks of the operands and of the result at a grid point. -/
theorem idx : ∀ t : Fin cfg0.N, win0_0.index t = ![t.val % 2, 0] ∧ win0_1.index t = ![t.val % 2, 0] ∧ win0_2.index t = ![0, 0, 0] :=
  (by decide +kernel : ∀ t : Fin grid0.N, _)

/-- The result's array after the run is the whole product. -/
theorem final (c : Dev nD) : (dats m 0 c).arrAt 2 (cfgs 0).N
    = colsColsByOwner (O := 8) (B := 128) rfl (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hlt : t.val - 1 < cfg0.N := lt_of_le_of_lt (Nat.sub_le _ _) t.isLt
  have halves : ∀ f : Fin 8192 → EReal, ∑ k, f k = ∑ j : Fin 2, ∑ k : Fin 4096, f ⟨j.val * 4096 + k.val, by omega⟩ :=
    fun f => Fin.sum_univ_tiles 2 4096 rfl f
  rw [after0_2, outsAt0_B m c t (by omega) ht ht, outsAt0_A m c ⟨t.val - 1, hlt⟩ (by show (t.val - 1) % 2 = 0; omega)
    (by show ¬(t.val - 1) % 2 = 1; omega) (by show ¬(t.val - 1) % 2 = 1; omega)]
  frame_out
  simp only [read_unread_whole]
  have hs : (⟨t.val - 1, hlt⟩ : Fin cfg0.N).val + 1 = t.val := by show t.val - 1 + 1 = t.val; omega
  generalize (⟨t.val - 1, hlt⟩ : Fin cfg0.N) = s at hs ⊢
  canon_tiles x g
  all_goals
    pointwise [k0_pay11, k0_pay10, k0_pay9, k0_pay8, k0_pay7, k0_pay6, k0_pay5, k0_pay4, k0_pay3, k0_pay2, k0_pay1, colsColsByOwner, halves]
    rw [Fin.sum_univ_two]
    blk_point [iblk, V, idx t, idx s]

end Cert.DProjIdeal.Val

namespace Cert.DProj

/-- Over the extended reals the call computes what its reference computes. -/
theorem equal : Cert.algebraic_DProjIdeal_DProjRefIdeal := by
  pair_intro
  · run_from Cert.DProjIdeal.Gen.run_main m g
  · hlo_run
    rw [Cert.DProjIdeal.Val.final]
    funext i
    pointwise [colsColsByOwner]
    exact Finset.sum_congr rfl fun _ _ => mul_comm _ _

/-- The reference terminates and leaves its arguments unchanged. -/
theorem frame_reference : Cert.quiescent_DProjRefIdeal := by
  intro m g _
  hlo_run
  · exact fun _ => ⟨trivial, trivial⟩
  · exact sem_eq_zero_of_no_sems rfl _

end Cert.DProj

end
-- ==== Proof.DOutA.lean ====
/- The gradient of the convolution mixer's output weights. -/
module

public import proofs.«01_k».proof.Defs
public import proofs.«01_k».proof.Proof.Gen.DOutA.Frame
public import proofs.«01_k».proof.Proof.Gen.DOutAIdeal.Frame
public import proofs.«01_k».proof.Proof.Gen.DOutARefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DOutAIdeal.Val

open Cert.DOutAIdeal Cert.DOutAIdeal.Gen

variable (m : (ℓ : Loc nD τ sig) → Buf (Elt Ideal) ℓ)

/-- The blocks of the operands and of the result at a grid point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The result's array after the run is the whole product. -/
theorem final (c : Dev nD) : (dats m 0 c).arrAt 2 (cfgs 0).N
    = colsCols (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hlt : t.val - 1 < cfg0.N := lt_of_le_of_lt (Nat.sub_le _ _) t.isLt
  have halves : ∀ f : Fin 8192 → EReal, ∑ k, f k = ∑ j : Fin 2, ∑ k : Fin 4096, f ⟨j.val * 4096 + k.val, by omega⟩ :=
    fun f => Fin.sum_univ_tiles 2 4096 rfl f
  rw [after0_2, outsAt0_B m c t (by omega) ht ht, outsAt0_A m c ⟨t.val - 1, hlt⟩ (by show (t.val - 1) % 2 = 0; omega)
    (by show ¬(t.val - 1) % 2 = 1; omega) (by show ¬(t.val - 1) % 2 = 1; omega)]
  frame_out
  simp only [read_unread_whole]
  have hs : (⟨t.val - 1, hlt⟩ : Fin cfg0.N).val + 1 = t.val := by show t.val - 1 + 1 = t.val; omega
  generalize (⟨t.val - 1, hlt⟩ : Fin cfg0.N) = s at hs ⊢
  pointwise [k0_pay4, k0_pay3, k0_pay2, k0_pay1, colsCols, halves]
  rw [Fin.sum_univ_two]
  blk_point [iblk, V, idx t, idx s]

end Cert.DOutAIdeal.Val

namespace Cert.DOutA

/-- Over the extended reals the call computes what its reference computes. -/
theorem equal : Cert.algebraic_DOutAIdeal_DOutARefIdeal := by
  pair_intro
  · run_from Cert.DOutAIdeal.Gen.run_main m g
  · hlo_run
    rw [Cert.DOutAIdeal.Val.final]
    funext i
    pointwise [colsCols]
    exact Finset.sum_congr rfl fun _ _ => mul_comm _ _

/-- The reference terminates and leaves its arguments unchanged. -/
theorem frame_reference : Cert.quiescent_DOutARefIdeal := by
  intro m g _
  hlo_run
  · exact fun _ => ⟨trivial, trivial⟩
  · exact sem_eq_zero_of_no_sems rfl _

end Cert.DOutA

end
-- ==== Proof.DSquare.lean ====
/- The gradient of a square weight: both embedding gates' and the attention mixer's output's. -/
module

public import proofs.«01_k».proof.Defs
public import proofs.«01_k».proof.Proof.Gen.DSquare.Frame
public import proofs.«01_k».proof.Proof.Gen.DSquareIdeal.Frame
public import proofs.«01_k».proof.Proof.Gen.DSquareRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DSquareIdeal.Val

open Cert.DSquareIdeal Cert.DSquareIdeal.Gen

variable (m : (ℓ : Loc nD τ sig) → Buf (Elt Ideal) ℓ)

/-- The blocks of the operands and of the result at a grid point. -/
theorem idx : ∀ t : Fin cfg0.N, win0_0.index t = ![t.val % 2, 0] ∧ win0_1.index t = ![t.val % 2, 0] ∧ win0_2.index t = ![0, 0] :=
  (by decide +kernel : ∀ t : Fin grid0.N, _)

/-- The result's array after the run is the whole product. -/
theorem final (c : Dev nD) : (dats m 0 c).arrAt 2 (cfgs 0).N
    = colsCols (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hlt : t.val - 1 < cfg0.N := lt_of_le_of_lt (Nat.sub_le _ _) t.isLt
  have halves : ∀ f : Fin 8192 → EReal, ∑ k, f k = ∑ j : Fin 2, ∑ k : Fin 4096, f ⟨j.val * 4096 + k.val, by omega⟩ :=
    fun f => Fin.sum_univ_tiles 2 4096 rfl f
  rw [after0_2, outsAt0_B m c t (by omega) ht ht, outsAt0_A m c ⟨t.val - 1, hlt⟩ (by show (t.val - 1) % 2 = 0; omega)
    (by show ¬(t.val - 1) % 2 = 1; omega) (by show ¬(t.val - 1) % 2 = 1; omega)]
  frame_out
  simp only [read_unread_whole]
  have hs : (⟨t.val - 1, hlt⟩ : Fin cfg0.N).val + 1 = t.val := by show t.val - 1 + 1 = t.val; omega
  generalize (⟨t.val - 1, hlt⟩ : Fin cfg0.N) = s at hs ⊢
  pointwise [k0_pay4, k0_pay3, k0_pay2, k0_pay1, colsCols, halves]
  rw [Fin.sum_univ_two]
  blk_point [iblk, V, idx t, idx s]

end Cert.DSquareIdeal.Val

namespace Cert.DSquare

/-- Over the extended reals the call computes what its reference computes. -/
theorem equal : Cert.algebraic_DSquareIdeal_DSquareRefIdeal := by
  pair_intro
  · run_from Cert.DSquareIdeal.Gen.run_main m g
  · hlo_run
    rw [Cert.DSquareIdeal.Val.final]
    funext i
    pointwise [colsCols]
    exact Finset.sum_congr rfl fun _ _ => mul_comm _ _

/-- The reference terminates and leaves its arguments unchanged. -/
theorem frame_reference : Cert.quiescent_DSquareRefIdeal := by
  intro m g _
  hlo_run
  · exact fun _ => ⟨trivial, trivial⟩
  · exact sem_eq_zero_of_no_sems rfl _

end Cert.DSquare

end
-- ==== Proof.DU.lean ====
/- The gradient of the attention mixer's normalised input through its projection. -/
module

public import proofs.«01_k».proof.Defs
public import proofs.«01_k».proof.Proof.Gen.DU.Frame
public import proofs.«01_k».proof.Proof.Gen.DUIdeal.Frame
public import proofs.«01_k».proof.Proof.Gen.DURefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DUIdeal.Val

open Cert.DUIdeal Cert.DUIdeal.Gen

variable (m : (ℓ : Loc nD τ sig) → Buf (Elt Ideal) ℓ)

/-- The blocks of the operands and of the result at a grid point. -/
theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- The result's array after the run is the whole product. -/
theorem final (c : Dev nD) : (dats m 0 c).arrAt 2 (cfgs 0).N
    = rowsRows (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hlt : t.val - 1 < cfg0.N := lt_of_le_of_lt (Nat.sub_le _ _) t.isLt
  have halves : ∀ f : Fin 4096 → EReal, ∑ k, f k = ∑ j : Fin 2, ∑ k : Fin 2048, f ⟨j.val * 2048 + k.val, by omega⟩ :=
    fun f => Fin.sum_univ_tiles 2 2048 rfl f
  rw [after0_2, outsAt0_B m c t (by omega) ht ht, outsAt0_A m c ⟨t.val - 1, hlt⟩ (by show (t.val - 1) % 2 = 0; omega)
    (by show ¬(t.val - 1) % 2 = 1; omega) (by show ¬(t.val - 1) % 2 = 1; omega)]
  frame_out
  simp only [read_unread_whole]
  have hs : (⟨t.val - 1, hlt⟩ : Fin cfg0.N).val + 1 = t.val := by show t.val - 1 + 1 = t.val; omega
  generalize (⟨t.val - 1, hlt⟩ : Fin cfg0.N) = s at hs ⊢
  pointwise [k0_pay4, k0_pay3, k0_pay2, k0_pay1, rowsRows, halves]
  rw [Fin.sum_univ_two]
  blk_point [iblk, V, idx t, idx s]

end Cert.DUIdeal.Val

namespace Cert.DU

/-- Over the extended reals the call computes what its reference computes. -/
theorem equal : Cert.algebraic_DUIdeal_DURefIdeal := by
  pair_intro
  · run_from Cert.DUIdeal.Gen.run_main m g
  · hlo_run
    rw [Cert.DUIdeal.Val.final]
    funext i
    pointwise [rowsRows]

/-- The reference terminates and leaves its arguments unchanged. -/
theorem frame_reference : Cert.quiescent_DURefIdeal := by
  intro m g _
  hlo_run
  · exact fun _ => ⟨trivial, trivial⟩
  · exact sem_eq_zero_of_no_sems rfl _

end Cert.DU

end
-- ==== Proof.DKvn.lean ====
/- The gradient of the shared keys' and values' normalised input. -/
module

public import proofs.«01_k».proof.Defs
public import proofs.«01_k».proof.Proof.Gen.DKvn.Frame
public import proofs.«01_k».proof.Proof.Gen.DKvnIdeal.Frame
public import proofs.«01_k».proof.Proof.Gen.DKvnRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DKvnIdeal.Val

open Cert.DKvnIdeal Cert.DKvnIdeal.Gen

variable (m : (ℓ : Loc nD τ sig) → Buf (Elt Ideal) ℓ)

/-- The blocks of the operands and of the result at a grid point. -/
theorem idx : ∀ t : Fin cfg0.N, win0_0.index t = ![t.val, 0] ∧ win0_1.index t = ![0, 0] ∧ win0_2.index t = ![t.val, 0] :=
  (by decide +kernel : ∀ t : Fin grid0.N, _)

/-- The result's array after the run is the whole product. -/
theorem final (c : Dev nD) : (dats m 0 c).arrAt 2 (cfgs 0).N
    = rowsRows (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rowsRows]
  blk_point [iblk, V, idx t]

end Cert.DKvnIdeal.Val

namespace Cert.DKvn

/-- Over the extended reals the call computes what its reference computes. -/
theorem equal : Cert.algebraic_DKvnIdeal_DKvnRefIdeal := by
  pair_intro
  · run_from Cert.DKvnIdeal.Gen.run_main m g
  · hlo_run
    rw [Cert.DKvnIdeal.Val.final]
    funext i
    pointwise [rowsRows]

/-- The reference terminates and leaves its arguments unchanged. -/
theorem frame_reference : Cert.quiescent_DKvnRefIdeal := by
  intro m g _
  hlo_run
  · exact fun _ => ⟨trivial, trivial⟩
  · exact sem_eq_zero_of_no_sems rfl _

end Cert.DKvn

end
-- ==== Proof.DM.lean ====
/- The gradient of the convolution mixer's gated output. -/
module

public import proofs.«01_k».proof.Defs
public import proofs.«01_k».proof.Proof.Gen.DM.Frame
public import proofs.«01_k».proof.Proof.Gen.DMIdeal.Frame
public import proofs.«01_k».proof.Proof.Gen.DMRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DMIdeal.Val

open Cert.DMIdeal Cert.DMIdeal.Gen

variable (m : (ℓ : Loc nD τ sig) → Buf (Elt Ideal) ℓ)

/-- The blocks of the operands and of the result at a grid point. -/
theorem idx : ∀ t : Fin cfg0.N, win0_0.index t = ![t.val, 0] ∧ win0_1.index t = ![0, 0] ∧ win0_2.index t = ![t.val, 0] :=
  (by decide +kernel : ∀ t : Fin grid0.N, _)

/-- The result's array after the run is the whole product. -/
theorem final (c : Dev nD) : (dats m 0 c).arrAt 2 (cfgs 0).N
    = rowsRows (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rowsRows]
  blk_point [iblk, V, idx t]

end Cert.DMIdeal.Val

namespace Cert.DM

/-- Over the extended reals the call computes what its reference computes. -/
theorem equal : Cert.algebraic_DMIdeal_DMRefIdeal := by
  pair_intro
  · run_from Cert.DMIdeal.Gen.run_main m g
  · hlo_run
    rw [Cert.DMIdeal.Val.final]
    funext i
    pointwise [rowsRows]

/-- The reference terminates and leaves its arguments unchanged. -/
theorem frame_reference : Cert.quiescent_DMRefIdeal := by
  intro m g _
  hlo_run
  · exact fun _ => ⟨trivial, trivial⟩
  · exact sem_eq_zero_of_no_sems rfl _

end Cert.DM

end
-- ==== Proof.DRows.lean ====
/- The gradient of a square weight's input: both embedding gates' and the attention mixer's output's. -/
module

public import proofs.«01_k».proof.Defs
public import proofs.«01_k».proof.Proof.Gen.DRows.Frame
public import proofs.«01_k».proof.Proof.Gen.DRowsIdeal.Frame
public import proofs.«01_k».proof.Proof.Gen.DRowsRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DRowsIdeal.Val

open Cert.DRowsIdeal Cert.DRowsIdeal.Gen

variable (m : (ℓ : Loc nD τ sig) → Buf (Elt Ideal) ℓ)

/-- The blocks of the operands and of the result at a grid point. -/
theorem idx : ∀ t : Fin cfg0.N, win0_0.index t = ![t.val, 0] ∧ win0_1.index t = ![0, 0] ∧ win0_2.index t = ![t.val, 0] :=
  (by decide +kernel : ∀ t : Fin grid0.N, _)

/-- The result's array after the run is the whole product. -/
theorem final (c : Dev nD) : (dats m 0 c).arrAt 2 (cfgs 0).N
    = rowsRows (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rowsRows]
  blk_point [iblk, V, idx t]

end Cert.DRowsIdeal.Val

namespace Cert.DRows

/-- Over the extended reals the call computes what its reference computes. -/
theorem equal : Cert.algebraic_DRowsIdeal_DRowsRefIdeal := by
  pair_intro
  · run_from Cert.DRowsIdeal.Gen.run_main m g
  · hlo_run
    rw [Cert.DRowsIdeal.Val.final]
    funext i
    pointwise [rowsRows]

/-- The reference terminates and leaves its arguments unchanged. -/
theorem frame_reference : Cert.quiescent_DRowsRefIdeal := by
  intro m g _
  hlo_run
  · exact fun _ => ⟨trivial, trivial⟩
  · exact sem_eq_zero_of_no_sems rfl _

end Cert.DRows

end
-- ==== Proof.InA.lean ====
/- The convolution mixer's input product. -/
module

public import proofs.«01_k».proof.Defs
public import proofs.«01_k».proof.Proof.Gen.InA.Frame
public import proofs.«01_k».proof.Proof.Gen.InAIdeal.Frame
public import proofs.«01_k».proof.Proof.Gen.InARefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.InAIdeal.Val

open Cert.InAIdeal Cert.InAIdeal.Gen

variable (m : (ℓ : Loc nD τ sig) → Buf (Elt Ideal) ℓ)

/-- The blocks of the operands and of the result at a grid point. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The result's array after the run is the whole product. -/
theorem final (c : Dev nD) : (dats m 0 c).arrAt 2 (cfgs 0).N
    = rowsCols (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rowsCols]
  blk_point [iblk, V, idx t]

end Cert.InAIdeal.Val

namespace Cert.InA

/-- Over the extended reals the call computes what its reference computes. -/
theorem equal : Cert.algebraic_InAIdeal_InARefIdeal := by
  pair_intro
  · run_from Cert.InAIdeal.Gen.run_main m g
  · hlo_run
    rw [Cert.InAIdeal.Val.final]
    funext i
    pointwise [rowsCols]

/-- The reference terminates and leaves its arguments unchanged. -/
theorem frame_reference : Cert.quiescent_InARefIdeal := by
  intro m g _
  hlo_run
  · exact fun _ => ⟨trivial, trivial⟩
  · exact sem_eq_zero_of_no_sems rfl _

end Cert.InA

end
-- ==== Proof.InB.lean ====
/- The attention mixer's input product. -/
module

public import proofs.«01_k».proof.Defs
public import proofs.«01_k».proof.Proof.Gen.InB.Frame
public import proofs.«01_k».proof.Proof.Gen.InBIdeal.Frame
public import proofs.«01_k».proof.Proof.Gen.InBRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.InBIdeal.Val

open Cert.InBIdeal Cert.InBIdeal.Gen

variable (m : (ℓ : Loc nD τ sig) → Buf (Elt Ideal) ℓ)

/-- The blocks of the operands and of the result at a grid point. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The result's array after the run is the whole product. -/
theorem final (c : Dev nD) : (dats m 0 c).arrAt 2 (cfgs 0).N
    = rowsCols (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rowsCols]
  blk_point [iblk, V, idx t]

end Cert.InBIdeal.Val

namespace Cert.InB

/-- Over the extended reals the call computes what its reference computes. -/
theorem equal : Cert.algebraic_InBIdeal_InBRefIdeal := by
  pair_intro
  · run_from Cert.InBIdeal.Gen.run_main m g
  · hlo_run
    rw [Cert.InBIdeal.Val.final]
    funext i
    pointwise [rowsCols]

/-- The reference terminates and leaves its arguments unchanged. -/
theorem frame_reference : Cert.quiescent_InBRefIdeal := by
  intro m g _
  hlo_run
  · exact fun _ => ⟨trivial, trivial⟩
  · exact sem_eq_zero_of_no_sems rfl _

end Cert.InB

end
-- ==== Proof.Kv.lean ====
/- The shared keys' and values' product. -/
module

public import proofs.«01_k».proof.Defs
public import proofs.«01_k».proof.Proof.Gen.Kv.Frame
public import proofs.«01_k».proof.Proof.Gen.KvIdeal.Frame
public import proofs.«01_k».proof.Proof.Gen.KvRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.KvIdeal.Val

open Cert.KvIdeal Cert.KvIdeal.Gen

variable (m : (ℓ : Loc nD τ sig) → Buf (Elt Ideal) ℓ)

/-- The blocks of the operands and of the result at a grid point. -/
theorem idx : ∀ t : Fin cfg0.N, win0_0.index t = ![t.val, 0] ∧ win0_1.index t = ![0, 0] ∧ win0_2.index t = ![t.val, 0] :=
  (by decide +kernel : ∀ t : Fin grid0.N, _)

/-- The result's array after the run is the whole product. -/
theorem final (c : Dev nD) : (dats m 0 c).arrAt 2 (cfgs 0).N
    = rowsCols (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rowsCols]
  blk_point [iblk, V, idx t]

end Cert.KvIdeal.Val

namespace Cert.Kv

/-- Over the extended reals the call computes what its reference computes. -/
theorem equal : Cert.algebraic_KvIdeal_KvRefIdeal := by
  pair_intro
  · run_from Cert.KvIdeal.Gen.run_main m g
  · hlo_run
    rw [Cert.KvIdeal.Val.final]
    funext i
    pointwise [rowsCols]

/-- The reference terminates and leaves its arguments unchanged. -/
theorem frame_reference : Cert.quiescent_KvRefIdeal := by
  intro m g _
  hlo_run
  · exact fun _ => ⟨trivial, trivial⟩
  · exact sem_eq_zero_of_no_sems rfl _

end Cert.Kv

end
-- ==== Proof.Gate.lean ====
/- A layer's embedding gate before its sigmoid. -/
module

public import proofs.«01_k».proof.Defs
public import proofs.«01_k».proof.Proof.Gen.Gate.Frame
public import proofs.«01_k».proof.Proof.Gen.GateIdeal.Frame
public import proofs.«01_k».proof.Proof.Gen.GateRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.GateIdeal.Val

open Cert.GateIdeal Cert.GateIdeal.Gen

variable (m : (ℓ : Loc nD τ sig) → Buf (Elt Ideal) ℓ)

/-- The blocks of the operands and of the result at a grid point. -/
theorem idx : ∀ t : Fin cfg0.N, win0_0.index t = ![t.val, 0] ∧ win0_1.index t = ![0, 0] ∧ win0_2.index t = ![t.val, 0] :=
  (by decide +kernel : ∀ t : Fin grid0.N, _)

/-- The result's array after the run is the whole product. -/
theorem final (c : Dev nD) : (dats m 0 c).arrAt 2 (cfgs 0).N
    = rowsCols (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rowsCols]
  blk_point [iblk, V, idx t]

end Cert.GateIdeal.Val

namespace Cert.Gate

/-- Over the extended reals the call computes what its reference computes. -/
theorem equal : Cert.algebraic_GateIdeal_GateRefIdeal := by
  pair_intro
  · run_from Cert.GateIdeal.Gen.run_main m g
  · hlo_run
    rw [Cert.GateIdeal.Val.final]
    funext i
    pointwise [rowsCols]

/-- The reference terminates and leaves its arguments unchanged. -/
theorem frame_reference : Cert.quiescent_GateRefIdeal := by
  intro m g _
  hlo_run
  · exact fun _ => ⟨trivial, trivial⟩
  · exact sem_eq_zero_of_no_sems rfl _

end Cert.Gate

end
-- ==== Proof.Proj.lean ====
/- A layer's embedding projection. -/
module

public import proofs.«01_k».proof.Defs
public import proofs.«01_k».proof.Proof.Gen.Proj.Frame
public import proofs.«01_k».proof.Proof.Gen.ProjIdeal.Frame
public import proofs.«01_k».proof.Proof.Gen.ProjRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.ProjIdeal.Val

open Cert.ProjIdeal Cert.ProjIdeal.Gen

variable (m : (ℓ : Loc nD τ sig) → Buf (Elt Ideal) ℓ)

/-- The blocks of the operands and of the result at a grid point. -/
theorem idx : ∀ t : Fin cfg0.N, win0_0.index t = ![t.val, 0] ∧ win0_1.index t = ![0, 0] ∧ win0_2.index t = ![t.val, 0] :=
  (by decide +kernel : ∀ t : Fin grid0.N, _)

/-- The result's array after the run is the whole product. -/
theorem final (c : Dev nD) : (dats m 0 c).arrAt 2 (cfgs 0).N
    = rowsCols (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rowsCols]
  blk_point [iblk, V, idx t]

end Cert.ProjIdeal.Val

namespace Cert.Proj

/-- Over the extended reals the call computes what its reference computes. -/
theorem equal : Cert.algebraic_ProjIdeal_ProjRefIdeal := by
  pair_intro
  · run_from Cert.ProjIdeal.Gen.run_main m g
  · hlo_run
    rw [Cert.ProjIdeal.Val.final]
    funext i
    pointwise [rowsCols]

/-- The reference terminates and leaves its arguments unchanged. -/
theorem frame_reference : Cert.quiescent_ProjRefIdeal := by
  intro m g _
  hlo_run
  · exact fun _ => ⟨trivial, trivial⟩
  · exact sem_eq_zero_of_no_sems rfl _

end Cert.Proj

end
-- ==== Proof.Residual.lean ====
/- A product's epilogue: the residual stream's sum, and the row norm of it. -/
module

public import Idealize.ShloMosaic.PureOps.Ideal
public import Idealize.ShloMosaic.Lib.Pointwise
public import proofs.«01_k».proof.Proof.Products

@[expose] public section

noncomputable section

open Idealize.ShloMosaic

namespace Cert.Residual

variable {M K N : ℕ}

/-- A product added to the residual stream `A`. -/
def sum (X : Shape.Idx ⟨2, ![M, K]⟩ → EReal) (W : Shape.Idx ⟨2, ![K, N]⟩ → EReal) (A : Shape.Idx ⟨2, ![M, N]⟩ → EReal) :
    Shape.Idx ⟨2, ![M, N]⟩ → EReal :=
  fun i => A i + Products.rowsCols X W i

/-- Each row of `H` over the root of its mean square (`n` is the row's length, `e` the norm's small constant), times the
    gains. -/
def normed (n e : EReal) (H : Shape.Idx ⟨2, ![M, N]⟩ → EReal) (gain : Shape.Idx ⟨2, ![1, N]⟩ → EReal) :
    Shape.Idx ⟨2, ![M, N]⟩ → EReal :=
  fun i => H i * Ideal.rsqrt (Ideal.div (∑ l : Fin N, H (ix2 (i 0) l) * H (ix2 (i 0) l)) n + e) * gain (ix2 0 (i 1))

/-- The row's length 1024 and the norm's constant, as the programs write them. -/
def len : EReal := Ideal.ofBits .f32 0x44800000#32
def eps : EReal := Ideal.ofBits .f32 0x358637BD#32

end Cert.Residual

end
-- ==== Proof.OutA.lean ====
/- The convolution mixer's output product, added to the residual stream, and the norm of the sum. -/
module

public import proofs.«01_k».proof.Defs
public import proofs.«01_k».proof.Proof.Gen.OutA.Frame
public import proofs.«01_k».proof.Proof.Gen.OutAIdeal.Frame
public import proofs.«01_k».proof.Proof.Gen.OutARefIdeal
public import proofs.«01_k».proof.Proof.Residual
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.OutAIdeal.Val

open Cert.OutAIdeal Cert.OutAIdeal.Gen

variable (m : (ℓ : Loc nD τ sig) → Buf (Elt Ideal) ℓ)

/-- The blocks of the operands and of the results at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The new residual stream, of the arguments. -/
def stream (c : Dev nD) : S8192x1024.Idx → EReal :=
  Residual.sum (m ((c : Thread nD τ).loc main_arg0)) (m ((c : Thread nD τ).loc main_arg1)) (m ((c : Thread nD τ).loc main_arg2))

/-- The first result's array after the run is the new residual stream. -/
theorem final_stream (c : Dev nD) : (dats m 0 c).arrAt 4 (cfgs 0).N = stream m c := by
  refine (dats m 0 c).arrAt_eq_of_covers 4 _ (by decide +kernel) fun t _ y => ?_
  blk_simp
  rw [after0_4]; frame_out
  pointwise [k0_pay1, stream, Residual.sum, rowsCols]
  blk_point [iblk, V, idx t]

/-- The second result's array after the run is the stream's norm. -/
theorem final_normed (c : Dev nD) : (dats m 0 c).arrAt 5 (cfgs 0).N
    = Residual.normed Residual.len Residual.eps (stream m c) (m ((c : Thread nD τ).loc main_arg3)) := by
  refine (dats m 0 c).arrAt_eq_of_covers 5 _ (by decide +kernel) fun t _ y => ?_
  blk_simp
  rw [after0_5]; frame_out
  pointwise [k0_pay1, k0_pay2, stream, Residual.normed, Residual.sum, rowsCols, Residual.len, Residual.eps]
  blk_point [iblk, V, idx t]

end Cert.OutAIdeal.Val

namespace Cert.OutA

/-- Over the extended reals the call computes what its reference computes. -/
theorem equal : Cert.algebraic_OutAIdeal_OutARefIdeal := by
  pair_intro
  · run_from Cert.OutAIdeal.Gen.run_main m g
  · hlo_run
    · rw [Cert.OutAIdeal.Val.final_stream]
      funext i
      pointwise [Cert.OutAIdeal.Val.stream, Residual.sum, rowsCols]
    · rw [Cert.OutAIdeal.Val.final_normed]
      funext i
      pointwise [Cert.OutAIdeal.Val.stream, Residual.normed, Residual.sum, rowsCols, Residual.len, Residual.eps]

/-- The reference terminates and leaves its arguments unchanged. -/
theorem frame_reference : Cert.quiescent_OutARefIdeal := by
  intro m g _
  hlo_run
  · exact fun _ => ⟨trivial, trivial, trivial, trivial⟩
  · exact sem_eq_zero_of_no_sems rfl _

end Cert.OutA

end
-- ==== Proof.OutB.lean ====
/- The attention's output product, added to the residual stream, and the norm of the sum. -/
module

public import proofs.«01_k».proof.Defs
public import proofs.«01_k».proof.Proof.Gen.OutB.Frame
public import proofs.«01_k».proof.Proof.Gen.OutBIdeal.Frame
public import proofs.«01_k».proof.Proof.Gen.OutBRefIdeal
public import proofs.«01_k».proof.Proof.Residual
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.OutBIdeal.Val

open Cert.OutBIdeal Cert.OutBIdeal.Gen

variable (m : (ℓ : Loc nD τ sig) → Buf (Elt Ideal) ℓ)

/-- The blocks of the operands and of the results at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The new residual stream, of the arguments. -/
def stream (c : Dev nD) : S8192x1024.Idx → EReal :=
  Residual.sum (m ((c : Thread nD τ).loc main_arg0)) (m ((c : Thread nD τ).loc main_arg1)) (m ((c : Thread nD τ).loc main_arg2))

/-- The first result's array after the run is the new residual stream. -/
theorem final_stream (c : Dev nD) : (dats m 0 c).arrAt 4 (cfgs 0).N = stream m c := by
  refine (dats m 0 c).arrAt_eq_of_covers 4 _ (by decide +kernel) fun t _ y => ?_
  blk_simp
  rw [after0_4]; frame_out
  pointwise [k0_pay1, stream, Residual.sum, rowsCols]
  blk_point [iblk, V, idx t]

/-- The second result's array after the run is the stream's norm. -/
theorem final_normed (c : Dev nD) : (dats m 0 c).arrAt 5 (cfgs 0).N
    = Residual.normed Residual.len Residual.eps (stream m c) (m ((c : Thread nD τ).loc main_arg3)) := by
  refine (dats m 0 c).arrAt_eq_of_covers 5 _ (by decide +kernel) fun t _ y => ?_
  blk_simp
  rw [after0_5]; frame_out
  pointwise [k0_pay1, k0_pay2, stream, Residual.normed, Residual.sum, rowsCols, Residual.len, Residual.eps]
  blk_point [iblk, V, idx t]

end Cert.OutBIdeal.Val

namespace Cert.OutB

/-- Over the extended reals the call computes what its reference computes. -/
theorem equal : Cert.algebraic_OutBIdeal_OutBRefIdeal := by
  pair_intro
  · run_from Cert.OutBIdeal.Gen.run_main m g
  · hlo_run
    · rw [Cert.OutBIdeal.Val.final_stream]
      funext i
      pointwise [Cert.OutBIdeal.Val.stream, Residual.sum, rowsCols]
    · rw [Cert.OutBIdeal.Val.final_normed]
      funext i
      pointwise [Cert.OutBIdeal.Val.stream, Residual.normed, Residual.sum, rowsCols, Residual.len, Residual.eps]

/-- The reference terminates and leaves its arguments unchanged. -/
theorem frame_reference : Cert.quiescent_OutBRefIdeal := by
  intro m g _
  hlo_run
  · exact fun _ => ⟨trivial, trivial, trivial, trivial⟩
  · exact sem_eq_zero_of_no_sems rfl _

end Cert.OutB

end
-- ==== Proof.Optimiser.lean ====
/- One step of the optimiser at an index: the gradient as the sum of eight devices' parts, the two moments, and the change
   of the weight. The numbers are the programs' own literals: the decays, one minus the decays, the bias corrections at
   the step, the small constant, the weight decay and minus the learning rate. -/
module

public import Idealize.ShloMosaic.PureOps.Ideal
public import Idealize.ShloMosaic.Lib.Pointwise

@[expose] public section

noncomputable section

open Idealize.ShloMosaic

namespace Cert.Optimiser

variable {R W : ℕ}

/-- The gradient: the sum of the devices' parts. -/
def grad (P : Shape.Idx ⟨3, ![8, R, W]⟩ → EReal) : Shape.Idx ⟨2, ![R, W]⟩ → EReal :=
  fun i => ∑ s : Fin 8, P (ix3 s (i 0) (i 1))

/-- The first moment. -/
def moment (P : Shape.Idx ⟨3, ![8, R, W]⟩ → EReal) (M : Shape.Idx ⟨2, ![R, W]⟩ → EReal) : Shape.Idx ⟨2, ![R, W]⟩ → EReal :=
  fun i => Ideal.ofBits .f32 0x3F666666#32 * M i + Ideal.ofBits .f32 0x3DCCCCCD#32 * grad P i

/-- The second moment. -/
def moment2 (P : Shape.Idx ⟨3, ![8, R, W]⟩ → EReal) (V : Shape.Idx ⟨2, ![R, W]⟩ → EReal) : Shape.Idx ⟨2, ![R, W]⟩ → EReal :=
  fun i => Ideal.ofBits .f32 0x3F7FBE77#32 * V i + Ideal.ofBits .f32 0x3A83126F#32 * (grad P i * grad P i)

/-- The change of the weight. -/
def delta (P : Shape.Idx ⟨3, ![8, R, W]⟩ → EReal) (X M V : Shape.Idx ⟨2, ![R, W]⟩ → EReal) : Shape.Idx ⟨2, ![R, W]⟩ → EReal :=
  fun i => Ideal.ofBits .f32 0xBA83126F#32 *
    (Ideal.div (Ideal.div (moment P M i) (Ideal.ofBits .f32 0x3F26BD02#32))
        (Ideal.sqrt (Ideal.div (moment2 P V i) (Ideal.ofBits .f32 0x3C231ACC#32)) + Ideal.ofBits .f32 0x322BCC77#32)
      + Ideal.ofBits .f32 0x3C23D70A#32 * X i)

end Cert.Optimiser

end
-- ==== Proof.AdamInA.lean ====
/- The optimiser's step on the convolution mixer's input weight. -/
module

public import proofs.«01_k».proof.Defs
public import proofs.«01_k».proof.Proof.Gen.AdamInA.Frame
public import proofs.«01_k».proof.Proof.Gen.AdamInAIdeal.Frame
public import proofs.«01_k».proof.Proof.Gen.AdamInARefIdeal
public import proofs.«01_k».proof.Proof.Optimiser
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Optimiser

namespace Cert.AdamInAIdeal.Val

open Cert.AdamInAIdeal Cert.AdamInAIdeal.Gen

variable (m : (ℓ : Loc nD τ sig) → Buf (Elt Ideal) ℓ)

/-- The blocks of the operands and of the results at a grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The body's sum of the eight parts at a point is the block of the gradient. -/
theorem sum_block (c : Dev nD) (t : Fin cfg0.N) (y : S256x768.Idx) :
    k0_pay5 (iblk m c 0 t) (iblk m c 1 t) (iblk m c 2 t) (iblk m c 3 t) y
      = grad (m ((c : Thread nD τ).loc main_arg0)) (((View.whole main_v0_0).slice (win0_4.rect t)).emb y) := by
  pointwise [k0_pay4, k0_pay5, grad, Fin.sum_univ_eight]
  blk_point [iblk, V, idx t]

/-- The array of gradients after the run. -/
theorem final_grad (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  exact sum_block m c t y

/-- The array of weight changes after the run. -/
theorem final_delta (c : Dev nD) : (dats m 0 c).arrAt 5 (cfgs 0).N
    = delta (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  pointwise [k0_pay1, k0_pay2, k0_pay3, delta, moment, moment2]
  rw [sum_block]
  blk_point [iblk, V, idx t]

/-- The array of first moments after the run. -/
theorem final_moment (c : Dev nD) : (dats m 0 c).arrAt 6 (cfgs 0).N
    = moment (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, moment]
  rw [sum_block]
  blk_point [iblk, V, idx t]

/-- The array of second moments after the run. -/
theorem final_moment2 (c : Dev nD) : (dats m 0 c).arrAt 7 (cfgs 0).N
    = moment2 (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay2, moment2]
  rw [sum_block]
  blk_point [iblk, V, idx t]

end Cert.AdamInAIdeal.Val

namespace Cert.AdamInA

/-- Over the extended reals the call computes what its reference computes. -/
theorem equal : Cert.algebraic_AdamInAIdeal_AdamInARefIdeal := by
  pair_intro
  · run_from Cert.AdamInAIdeal.Gen.run_main m g
  · hlo_run
    · rw [Cert.AdamInAIdeal.Val.final_grad]
      funext i
      pointwise [grad]
    · rw [Cert.AdamInAIdeal.Val.final_delta]
      funext i
      pointwise [delta, moment, moment2, grad]
    · rw [Cert.AdamInAIdeal.Val.final_moment]
      funext i
      pointwise [moment, grad]
    · rw [Cert.AdamInAIdeal.Val.final_moment2]
      funext i
      pointwise [moment2, grad]

/-- The reference terminates and leaves its arguments unchanged. -/
theorem frame_reference : Cert.quiescent_AdamInARefIdeal := by
  intro m g _
  hlo_run
  · exact fun _ => ⟨trivial, trivial, trivial, trivial⟩
  · exact sem_eq_zero_of_no_sems rfl _

end Cert.AdamInA

end
-- ==== Proof.AdamSquare.lean ====
/- The optimiser's step on a weight of which a device owns 256 rows. -/
module

public import proofs.«01_k».proof.Defs
public import proofs.«01_k».proof.Proof.Gen.AdamSquare.Frame
public import proofs.«01_k».proof.Proof.Gen.AdamSquareIdeal.Frame
public import proofs.«01_k».proof.Proof.Gen.AdamSquareRefIdeal
public import proofs.«01_k».proof.Proof.Optimiser
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Optimiser

namespace Cert.AdamSquareIdeal.Val

open Cert.AdamSquareIdeal Cert.AdamSquareIdeal.Gen

variable (m : (ℓ : Loc nD τ sig) → Buf (Elt Ideal) ℓ)

/-- The blocks of the operands and of the results at a grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The body's sum of the eight parts at a point is the block of the gradient. -/
theorem sum_block (c : Dev nD) (t : Fin cfg0.N) (y : S256x1024.Idx) :
    k0_pay5 (iblk m c 0 t) (iblk m c 1 t) (iblk m c 2 t) (iblk m c 3 t) y
      = grad (m ((c : Thread nD τ).loc main_arg0)) (((View.whole main_v0_0).slice (win0_4.rect t)).emb y) := by
  pointwise [k0_pay4, k0_pay5, grad, Fin.sum_univ_eight]
  blk_point [iblk, V, idx t]

/-- The array of gradients after the run. -/
theorem final_grad (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  exact sum_block m c t y

/-- The array of weight changes after the run. -/
theorem final_delta (c : Dev nD) : (dats m 0 c).arrAt 5 (cfgs 0).N
    = delta (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  pointwise [k0_pay1, k0_pay2, k0_pay3, delta, moment, moment2]
  rw [sum_block]
  blk_point [iblk, V, idx t]

/-- The array of first moments after the run. -/
theorem final_moment (c : Dev nD) : (dats m 0 c).arrAt 6 (cfgs 0).N
    = moment (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, moment]
  rw [sum_block]
  blk_point [iblk, V, idx t]

/-- The array of second moments after the run. -/
theorem final_moment2 (c : Dev nD) : (dats m 0 c).arrAt 7 (cfgs 0).N
    = moment2 (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay2, moment2]
  rw [sum_block]
  blk_point [iblk, V, idx t]

end Cert.AdamSquareIdeal.Val

namespace Cert.AdamSquare

/-- Over the extended reals the call computes what its reference computes. -/
theorem equal : Cert.algebraic_AdamSquareIdeal_AdamSquareRefIdeal := by
  pair_intro
  · run_from Cert.AdamSquareIdeal.Gen.run_main m g
  · hlo_run
    · rw [Cert.AdamSquareIdeal.Val.final_grad]
      funext i
      pointwise [grad]
    · rw [Cert.AdamSquareIdeal.Val.final_delta]
      funext i
      pointwise [delta, moment, moment2, grad]
    · rw [Cert.AdamSquareIdeal.Val.final_moment]
      funext i
      pointwise [moment, grad]
    · rw [Cert.AdamSquareIdeal.Val.final_moment2]
      funext i
      pointwise [moment2, grad]

/-- The reference terminates and leaves its arguments unchanged. -/
theorem frame_reference : Cert.quiescent_AdamSquareRefIdeal := by
  intro m g _
  hlo_run
  · exact fun _ => ⟨trivial, trivial, trivial, trivial⟩
  · exact sem_eq_zero_of_no_sems rfl _

end Cert.AdamSquare

end
-- ==== Proof.AdamKv.lean ====
/- The optimiser's step on the keys' and values' weight. -/
module

public import proofs.«01_k».proof.Defs
public import proofs.«01_k».proof.Proof.Gen.AdamKv.Frame
public import proofs.«01_k».proof.Proof.Gen.AdamKvIdeal.Frame
public import proofs.«01_k».proof.Proof.Gen.AdamKvRefIdeal
public import proofs.«01_k».proof.Proof.Optimiser
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Optimiser

namespace Cert.AdamKvIdeal.Val

open Cert.AdamKvIdeal Cert.AdamKvIdeal.Gen

variable (m : (ℓ : Loc nD τ sig) → Buf (Elt Ideal) ℓ)

/-- The blocks of the operands and of the results at a grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The body's sum of the eight parts at a point is the block of the gradient. -/
theorem sum_block (c : Dev nD) (t : Fin cfg0.N) (y : S256x256.Idx) :
    k0_pay5 (iblk m c 0 t) (iblk m c 1 t) (iblk m c 2 t) (iblk m c 3 t) y
      = grad (m ((c : Thread nD τ).loc main_arg0)) (((View.whole main_v0_0).slice (win0_4.rect t)).emb y) := by
  pointwise [k0_pay4, k0_pay5, grad, Fin.sum_univ_eight]
  blk_point [iblk, V, idx t]

/-- The array of gradients after the run. -/
theorem final_grad (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  exact sum_block m c t y

/-- The array of weight changes after the run. -/
theorem final_delta (c : Dev nD) : (dats m 0 c).arrAt 5 (cfgs 0).N
    = delta (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  pointwise [k0_pay1, k0_pay2, k0_pay3, delta, moment, moment2]
  rw [sum_block]
  blk_point [iblk, V, idx t]

/-- The array of first moments after the run. -/
theorem final_moment (c : Dev nD) : (dats m 0 c).arrAt 6 (cfgs 0).N
    = moment (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, moment]
  rw [sum_block]
  blk_point [iblk, V, idx t]

/-- The array of second moments after the run. -/
theorem final_moment2 (c : Dev nD) : (dats m 0 c).arrAt 7 (cfgs 0).N
    = moment2 (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay2, moment2]
  rw [sum_block]
  blk_point [iblk, V, idx t]

end Cert.AdamKvIdeal.Val

namespace Cert.AdamKv

/-- Over the extended reals the call computes what its reference computes. -/
theorem equal : Cert.algebraic_AdamKvIdeal_AdamKvRefIdeal := by
  pair_intro
  · run_from Cert.AdamKvIdeal.Gen.run_main m g
  · hlo_run
    · rw [Cert.AdamKvIdeal.Val.final_grad]
      funext i
      pointwise [grad]
    · rw [Cert.AdamKvIdeal.Val.final_delta]
      funext i
      pointwise [delta, moment, moment2, grad]
    · rw [Cert.AdamKvIdeal.Val.final_moment]
      funext i
      pointwise [moment, grad]
    · rw [Cert.AdamKvIdeal.Val.final_moment2]
      funext i
      pointwise [moment2, grad]

/-- The reference terminates and leaves its arguments unchanged. -/
theorem frame_reference : Cert.quiescent_AdamKvRefIdeal := by
  intro m g _
  hlo_run
  · exact fun _ => ⟨trivial, trivial, trivial, trivial⟩
  · exact sem_eq_zero_of_no_sems rfl _

end Cert.AdamKv

end
-- ==== Proof.AdamInB.lean ====
/- The optimiser's step on the attention's input weight. -/
module

public import proofs.«01_k».proof.Defs
public import proofs.«01_k».proof.Proof.Gen.AdamInB.Frame
public import proofs.«01_k».proof.Proof.Gen.AdamInBIdeal.Frame
public import proofs.«01_k».proof.Proof.Gen.AdamInBRefIdeal
public import proofs.«01_k».proof.Proof.Optimiser
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Optimiser

namespace Cert.AdamInBIdeal.Val

open Cert.AdamInBIdeal Cert.AdamInBIdeal.Gen

variable (m : (ℓ : Loc nD τ sig) → Buf (Elt Ideal) ℓ)

/-- The blocks of the operands and of the results at a grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The body's sum of the eight parts at a point is the block of the gradient. -/
theorem sum_block (c : Dev nD) (t : Fin cfg0.N) (y : S256x512.Idx) :
    k0_pay5 (iblk m c 0 t) (iblk m c 1 t) (iblk m c 2 t) (iblk m c 3 t) y
      = grad (m ((c : Thread nD τ).loc main_arg0)) (((View.whole main_v0_0).slice (win0_4.rect t)).emb y) := by
  pointwise [k0_pay4, k0_pay5, grad, Fin.sum_univ_eight]
  blk_point [iblk, V, idx t]

/-- The array of gradients after the run. -/
theorem final_grad (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  exact sum_block m c t y

/-- The array of weight changes after the run. -/
theorem final_delta (c : Dev nD) : (dats m 0 c).arrAt 5 (cfgs 0).N
    = delta (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  pointwise [k0_pay1, k0_pay2, k0_pay3, delta, moment, moment2]
  rw [sum_block]
  blk_point [iblk, V, idx t]

/-- The array of first moments after the run. -/
theorem final_moment (c : Dev nD) : (dats m 0 c).arrAt 6 (cfgs 0).N
    = moment (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, moment]
  rw [sum_block]
  blk_point [iblk, V, idx t]

/-- The array of second moments after the run. -/
theorem final_moment2 (c : Dev nD) : (dats m 0 c).arrAt 7 (cfgs 0).N
    = moment2 (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay2, moment2]
  rw [sum_block]
  blk_point [iblk, V, idx t]

end Cert.AdamInBIdeal.Val

namespace Cert.AdamInB

/-- Over the extended reals the call computes what its reference computes. -/
theorem equal : Cert.algebraic_AdamInBIdeal_AdamInBRefIdeal := by
  pair_intro
  · run_from Cert.AdamInBIdeal.Gen.run_main m g
  · hlo_run
    · rw [Cert.AdamInBIdeal.Val.final_grad]
      funext i
      pointwise [grad]
    · rw [Cert.AdamInBIdeal.Val.final_delta]
      funext i
      pointwise [delta, moment, moment2, grad]
    · rw [Cert.AdamInBIdeal.Val.final_moment]
      funext i
      pointwise [moment, grad]
    · rw [Cert.AdamInBIdeal.Val.final_moment2]
      funext i
      pointwise [moment2, grad]

/-- The reference terminates and leaves its arguments unchanged. -/
theorem frame_reference : Cert.quiescent_AdamInBRefIdeal := by
  intro m g _
  hlo_run
  · exact fun _ => ⟨trivial, trivial, trivial, trivial⟩
  · exact sem_eq_zero_of_no_sems rfl _

end Cert.AdamInB

end
-- ==== Proof.AdamOutB.lean ====
/- The optimiser's step on the attention's output weight. -/
module

public import proofs.«01_k».proof.Defs
public import proofs.«01_k».proof.Proof.Gen.AdamOutB.Frame
public import proofs.«01_k».proof.Proof.Gen.AdamOutBIdeal.Frame
public import proofs.«01_k».proof.Proof.Gen.AdamOutBRefIdeal
public import proofs.«01_k».proof.Proof.Optimiser
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Optimiser

namespace Cert.AdamOutBIdeal.Val

open Cert.AdamOutBIdeal Cert.AdamOutBIdeal.Gen

variable (m : (ℓ : Loc nD τ sig) → Buf (Elt Ideal) ℓ)

/-- The blocks of the operands and of the results at a grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The body's sum of the eight parts at a point is the block of the gradient. -/
theorem sum_block (c : Dev nD) (t : Fin cfg0.N) (y : S128x1024.Idx) :
    k0_pay5 (iblk m c 0 t) (iblk m c 1 t) (iblk m c 2 t) (iblk m c 3 t) y
      = grad (m ((c : Thread nD τ).loc main_arg0)) (((View.whole main_v0_0).slice (win0_4.rect t)).emb y) := by
  pointwise [k0_pay4, k0_pay5, grad, Fin.sum_univ_eight]
  blk_point [iblk, V, idx t]

/-- The array of gradients after the run. -/
theorem final_grad (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  exact sum_block m c t y

/-- The array of weight changes after the run. -/
theorem final_delta (c : Dev nD) : (dats m 0 c).arrAt 5 (cfgs 0).N
    = delta (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  pointwise [k0_pay1, k0_pay2, k0_pay3, delta, moment, moment2]
  rw [sum_block]
  blk_point [iblk, V, idx t]

/-- The array of first moments after the run. -/
theorem final_moment (c : Dev nD) : (dats m 0 c).arrAt 6 (cfgs 0).N
    = moment (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, moment]
  rw [sum_block]
  blk_point [iblk, V, idx t]

/-- The array of second moments after the run. -/
theorem final_moment2 (c : Dev nD) : (dats m 0 c).arrAt 7 (cfgs 0).N
    = moment2 (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay2, moment2]
  rw [sum_block]
  blk_point [iblk, V, idx t]

end Cert.AdamOutBIdeal.Val

namespace Cert.AdamOutB

/-- Over the extended reals the call computes what its reference computes. -/
theorem equal : Cert.algebraic_AdamOutBIdeal_AdamOutBRefIdeal := by
  pair_intro
  · run_from Cert.AdamOutBIdeal.Gen.run_main m g
  · hlo_run
    · rw [Cert.AdamOutBIdeal.Val.final_grad]
      funext i
      pointwise [grad]
    · rw [Cert.AdamOutBIdeal.Val.final_delta]
      funext i
      pointwise [delta, moment, moment2, grad]
    · rw [Cert.AdamOutBIdeal.Val.final_moment]
      funext i
      pointwise [moment, grad]
    · rw [Cert.AdamOutBIdeal.Val.final_moment2]
      funext i
      pointwise [moment2, grad]

/-- The reference terminates and leaves its arguments unchanged. -/
theorem frame_reference : Cert.quiescent_AdamOutBRefIdeal := by
  intro m g _
  hlo_run
  · exact fun _ => ⟨trivial, trivial, trivial, trivial⟩
  · exact sem_eq_zero_of_no_sems rfl _

end Cert.AdamOutB

end
-- ==== Proof.AdamProj.lean ====
/- The optimiser's step on the per-layer embedding's projection. -/
module

public import proofs.«01_k».proof.Defs
public import proofs.«01_k».proof.Proof.Gen.AdamProj.Frame
public import proofs.«01_k».proof.Proof.Gen.AdamProjIdeal.Frame
public import proofs.«01_k».proof.Proof.Gen.AdamProjRefIdeal
public import proofs.«01_k».proof.Proof.Optimiser
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Optimiser

namespace Cert.AdamProjIdeal.Val

open Cert.AdamProjIdeal Cert.AdamProjIdeal.Gen

variable (m : (ℓ : Loc nD τ sig) → Buf (Elt Ideal) ℓ)

/-- The blocks of the operands and of the results at a grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The body's sum of the eight parts at a point is the block of the gradient. -/
theorem sum_block (c : Dev nD) (t : Fin cfg0.N) (y : S256x128.Idx) :
    k0_pay5 (iblk m c 0 t) (iblk m c 1 t) (iblk m c 2 t) (iblk m c 3 t) y
      = grad (m ((c : Thread nD τ).loc main_arg0)) (((View.whole main_v0_0).slice (win0_4.rect t)).emb y) := by
  pointwise [k0_pay4, k0_pay5, grad, Fin.sum_univ_eight]
  blk_point [iblk, V, idx t]

/-- The array of gradients after the run. -/
theorem final_grad (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  exact sum_block m c t y

/-- The array of weight changes after the run. -/
theorem final_delta (c : Dev nD) : (dats m 0 c).arrAt 5 (cfgs 0).N
    = delta (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  pointwise [k0_pay1, k0_pay2, k0_pay3, delta, moment, moment2]
  rw [sum_block]
  blk_point [iblk, V, idx t]

/-- The array of first moments after the run. -/
theorem final_moment (c : Dev nD) : (dats m 0 c).arrAt 6 (cfgs 0).N
    = moment (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, moment]
  rw [sum_block]
  blk_point [iblk, V, idx t]

/-- The array of second moments after the run. -/
theorem final_moment2 (c : Dev nD) : (dats m 0 c).arrAt 7 (cfgs 0).N
    = moment2 (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay2, moment2]
  rw [sum_block]
  blk_point [iblk, V, idx t]

end Cert.AdamProjIdeal.Val

namespace Cert.AdamProj

/-- Over the extended reals the call computes what its reference computes. -/
theorem equal : Cert.algebraic_AdamProjIdeal_AdamProjRefIdeal := by
  pair_intro
  · run_from Cert.AdamProjIdeal.Gen.run_main m g
  · hlo_run
    · rw [Cert.AdamProjIdeal.Val.final_grad]
      funext i
      pointwise [grad]
    · rw [Cert.AdamProjIdeal.Val.final_delta]
      funext i
      pointwise [delta, moment, moment2, grad]
    · rw [Cert.AdamProjIdeal.Val.final_moment]
      funext i
      pointwise [moment, grad]
    · rw [Cert.AdamProjIdeal.Val.final_moment2]
      funext i
      pointwise [moment2, grad]

/-- The reference terminates and leaves its arguments unchanged. -/
theorem frame_reference : Cert.quiescent_AdamProjRefIdeal := by
  intro m g _
  hlo_run
  · exact fun _ => ⟨trivial, trivial, trivial, trivial⟩
  · exact sem_eq_zero_of_no_sems rfl _

end Cert.AdamProj

end
-- ==== Proof.AdamSmall.lean ====
/- The optimiser's step on the small weights, packed. -/
module

public import proofs.«01_k».proof.Defs
public import proofs.«01_k».proof.Proof.Gen.AdamSmall.Frame
public import proofs.«01_k».proof.Proof.Gen.AdamSmallIdeal.Frame
public import proofs.«01_k».proof.Proof.Gen.AdamSmallRefIdeal
public import proofs.«01_k».proof.Proof.Optimiser
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Optimiser

namespace Cert.AdamSmallIdeal.Val

open Cert.AdamSmallIdeal Cert.AdamSmallIdeal.Gen

variable (m : (ℓ : Loc nD τ sig) → Buf (Elt Ideal) ℓ)

/-- The blocks of the operands and of the results at a grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The body's sum of the eight parts at a point is the block of the gradient. -/
theorem sum_block (c : Dev nD) (t : Fin cfg0.N) (y : S144x1024.Idx) :
    k0_pay5 (iblk m c 0 t) (iblk m c 1 t) (iblk m c 2 t) (iblk m c 3 t) y
      = grad (m ((c : Thread nD τ).loc main_arg0)) (((View.whole main_v0_0).slice (win0_4.rect t)).emb y) := by
  pointwise [k0_pay4, k0_pay5, grad, Fin.sum_univ_eight]
  blk_point [iblk, V, idx t]

/-- The array of gradients after the run. -/
theorem final_grad (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  exact sum_block m c t y

/-- The array of weight changes after the run. -/
theorem final_delta (c : Dev nD) : (dats m 0 c).arrAt 5 (cfgs 0).N
    = delta (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  pointwise [k0_pay1, k0_pay2, k0_pay3, delta, moment, moment2]
  rw [sum_block]
  blk_point [iblk, V, idx t]

/-- The array of first moments after the run. -/
theorem final_moment (c : Dev nD) : (dats m 0 c).arrAt 6 (cfgs 0).N
    = moment (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, moment]
  rw [sum_block]
  blk_point [iblk, V, idx t]

/-- The array of second moments after the run. -/
theorem final_moment2 (c : Dev nD) : (dats m 0 c).arrAt 7 (cfgs 0).N
    = moment2 (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay2, moment2]
  rw [sum_block]
  blk_point [iblk, V, idx t]

end Cert.AdamSmallIdeal.Val

namespace Cert.AdamSmall

/-- Over the extended reals the call computes what its reference computes. -/
theorem equal : Cert.algebraic_AdamSmallIdeal_AdamSmallRefIdeal := by
  pair_intro
  · run_from Cert.AdamSmallIdeal.Gen.run_main m g
  · hlo_run
    · rw [Cert.AdamSmallIdeal.Val.final_grad]
      funext i
      pointwise [grad]
    · rw [Cert.AdamSmallIdeal.Val.final_delta]
      funext i
      pointwise [delta, moment, moment2, grad]
    · rw [Cert.AdamSmallIdeal.Val.final_moment]
      funext i
      pointwise [moment, grad]
    · rw [Cert.AdamSmallIdeal.Val.final_moment2]
      funext i
      pointwise [moment2, grad]

/-- The reference terminates and leaves its arguments unchanged. -/
theorem frame_reference : Cert.quiescent_AdamSmallRefIdeal := by
  intro m g _
  hlo_run
  · exact fun _ => ⟨trivial, trivial, trivial, trivial⟩
  · exact sem_eq_zero_of_no_sems rfl _

end Cert.AdamSmall

end
-- ==== Proof.NormRow.lean ====
/- The gradient of a row through its root mean square, over all the extended reals: the closed form and the form that
   differentiation writes are equal, also where a value is infinite, because the row's scale is never negative nor infinite. -/
module

public import proofs.«01_k».proof.Proof.GateRow
public import proofs.«01_k».proof.Proof.Residual

@[expose] public section

noncomputable section

open Idealize.ShloMosaic

namespace Cert.NormRow

open Cert.Lift hiding eps
open Cert.Residual

variable {n : ℕ}

/-- A row's mean square and small constant. -/
def square (x : Fin n → EReal) : EReal := Ideal.div (∑ l, x l * x l) len + eps

/-- One over its root. -/
def scale (x : Fin n → EReal) : EReal := Ideal.rsqrt (square x)

/-- The gradient of the row in closed form, of the cotangent `c` of the normalised row. -/
def grad (x c : Fin n → EReal) (l : Fin n) : EReal :=
  scale x * (c l - x l * scale x * Ideal.div (∑ k, c k * (x k * scale x)) len)

/-- What goes through the root, as differentiation writes it. -/
def root (x c : Fin n → EReal) : EReal :=
  Ideal.div ((∑ k, x k * c k) * (Ideal.ofBits .f32 0xBF000000#32 * Ideal.div (scale x) (square x))) len

theorem self_mul_nonneg (a : EReal) : 0 ≤ a * a := by
  rcases le_total 0 a with h | h
  · exact mul_nonneg h h
  · have := mul_nonneg (EReal.neg_nonneg.mpr h) (EReal.neg_nonneg.mpr h)
    rwa [neg_mul_neg] at this

theorem div_len (a : EReal) : Ideal.div a len = a * ((1 / 1024 : ℝ) : EReal) := by
  rw [len, lit_1024, Ideal.div_coe (by norm_num)]

theorem square_pos (x : Fin n → EReal) : 0 < square x := by
  have h : (0 : EReal) ≤ Ideal.div (∑ l, x l * x l) len := by
    rw [div_len]
    exact mul_nonneg (Finset.sum_nonneg fun l _ => self_mul_nonneg (x l)) (by exact_mod_cast (by norm_num : (0 : ℝ) ≤ 1 / 1024))
  have he : (0 : EReal) < eps := by
    rw [eps, lit_eps]
    exact_mod_cast eps_pos
  exact lt_of_lt_of_le he (le_add_of_nonneg_left h)

/-- The scale is a real number that is not negative, and over the square it is its own third power. -/
theorem scale_real (x : Fin n → EReal) : ∃ r : ℝ, 0 ≤ r ∧ scale x = (r : EReal) ∧ Ideal.div (scale x) (square x) = ((r * r * r : ℝ) : EReal) := by
  have h := square_pos x
  unfold scale
  generalize square x = v at h
  induction v with
  | bot => exact absurd h (by simp)
  | top =>
    refine ⟨0, le_rfl, rfl, ?_⟩
    rw [Ideal.rsqrt_top, Ideal.div, if_neg (by simp), zero_mul]
    simp
  | coe w =>
    have hw : 0 < w := by exact_mod_cast h
    refine ⟨(Real.sqrt w)⁻¹, inv_nonneg.mpr (Real.sqrt_nonneg w), rsqrt_real w hw, ?_⟩
    rw [rsqrt_real w hw, div_real _ _ hw.ne', div_eq_mul_inv, mul_assoc]
    congr 2
    rw [← mul_inv, Real.mul_self_sqrt hw.le]

/-- A real factor that is not negative goes into a sum. -/
theorem mul_sum_real {ι : Type*} (s : Finset ι) (f : ι → EReal) (r : ℝ) (h : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast h) (EReal.coe_ne_top r), ih]

/-- Twice the negative half. -/
theorem neg_halves (q : ℝ) (hq : 0 ≤ q) (a : EReal) :
    ((-(1 / 2) * q : ℝ) : EReal) * a + ((-(1 / 2) * q : ℝ) : EReal) * a = -((q : EReal) * a) := by
  have h : (0 : ℝ) ≤ 1 / 2 * q := by positivity
  have e : (q : EReal) * a = ((1 / 2 * q : ℝ) : EReal) * a + ((1 / 2 * q : ℝ) : EReal) * a := by
    rw [← EReal.right_distrib_of_nonneg (by exact_mod_cast h) (by exact_mod_cast h), ← EReal.coe_add]
    congr 2
    ring
  have m : ((-(1 / 2) * q : ℝ) : EReal) * a = -(((1 / 2 * q : ℝ) : EReal) * a) := by
    rw [← EReal.neg_mul, ← EReal.coe_neg]
    congr 2
    ring
  rw [e, m]
  generalize ((1 / 2 * q : ℝ) : EReal) * a = b
  induction b with
  | bot => simp
  | top => simp
  | coe b => rw [← EReal.coe_neg, ← EReal.coe_add, ← EReal.coe_add, ← EReal.coe_neg]; congr 1; ring

/-- The closed form is what differentiation writes: the direct part, and twice the part through the root. -/
theorem grad_chain (a : EReal) (x c : Fin n → EReal) (l : Fin n) :
    a + c l * scale x + x l * root x c + root x c * x l = a + grad x c l := by
  obtain ⟨r, hr, hs, hd⟩ := scale_real x
  have hq : 0 ≤ r * r * r * (1 / 1024) := by positivity
  have hroot : root x c * x l = ((-(1 / 2) * (r * r * r * (1 / 1024)) : ℝ) : EReal) * (x l * ∑ k, x k * c k) := by
    rw [root, hd, div_len, lit_neg_half, ← EReal.coe_mul, mul_assoc, mul_assoc, ← mul_assoc (((-(1 / 2) * (r * r * r) : ℝ)) : EReal),
      ← EReal.coe_mul, ← mul_assoc (-(1 / 2) : ℝ)]
    ac_rfl
  have hsum : ∑ k, c k * (x k * (r : EReal)) = (r : EReal) * ∑ k, x k * c k := by
    rw [mul_sum_real _ _ _ hr]
    exact Finset.sum_congr rfl fun k _ => by ac_rfl
  rw [mul_comm (x l) (root x c), add_assoc, add_assoc, hroot, neg_halves _ hq, grad, hs, hsum, div_len, sub_eq_add_neg,
    EReal.left_distrib_of_nonneg_of_ne_top (by exact_mod_cast hr) (EReal.coe_ne_top r), mul_neg]
  congr 2
  · exact mul_comm _ _
  · congr 1
    rw [EReal.coe_mul, EReal.coe_mul, EReal.coe_mul]
    ac_rfl

/-- The logistic function, as the kernel writes it and as the host does. -/
theorem half_tanh (x : EReal) :
    Ideal.ofBits .f32 0x3F000000#32 * Ideal.tanh (Ideal.ofBits .f32 0x3F000000#32 * x) + Ideal.ofBits .f32 0x3F000000#32
      = Ideal.logistic x := by
  rw [lit_half]
  induction x with
  | bot =>
    rw [EReal.coe_mul_bot_of_pos (by norm_num), Ideal.tanh_bot, Ideal.logistic_bot, mul_neg, mul_one, ← EReal.coe_neg,
      ← EReal.coe_add]
    simp
  | top =>
    rw [EReal.coe_mul_top_of_pos (by norm_num), Ideal.tanh_top, Ideal.logistic_top, mul_one, ← EReal.coe_add]
    norm_num
  | coe x =>
    rw [← EReal.coe_mul, tanh_real, ← EReal.coe_mul, ← EReal.coe_add, Cert.GateRow.half_tanh, Ideal.logistic_coe, Cert.GateRow.sigm,
      one_div]

/-- The rows of an array, and a cotangent's rows times the gains. -/
def rows {M N : ℕ} (X : Shape.Idx ⟨2, ![M, N]⟩ → EReal) (r : Fin M) (l : Fin N) : EReal := X (ix2 r l)
def gained {M N : ℕ} (D : Shape.Idx ⟨2, ![M, N]⟩ → EReal) (gain : Shape.Idx ⟨2, ![1, N]⟩ → EReal) (r : Fin M) (l : Fin N) : EReal :=
  D (ix2 r l) * gain (ix2 0 l)

/-- The gradient of the norm of an array's rows, of the cotangent `D` and the gains. -/
def grads {M N : ℕ} (X D : Shape.Idx ⟨2, ![M, N]⟩ → EReal) (gain : Shape.Idx ⟨2, ![1, N]⟩ → EReal) : Shape.Idx ⟨2, ![M, N]⟩ → EReal :=
  fun i => grad (rows X (i 0)) (gained D gain (i 0)) (i 1)

/-- The same as differentiation writes it, added to `a`. -/
theorem grads_chain {M N : ℕ} (X D : Shape.Idx ⟨2, ![M, N]⟩ → EReal) (gain : Shape.Idx ⟨2, ![1, N]⟩ → EReal) (a : EReal)
    (i : Shape.Idx ⟨2, ![M, N]⟩) :
    a + gained D gain (i 0) (i 1) * scale (rows X (i 0)) + rows X (i 0) (i 1) * root (rows X (i 0)) (gained D gain (i 0))
        + root (rows X (i 0)) (gained D gain (i 0)) * rows X (i 0) (i 1)
      = a + grads X D gain i :=
  grad_chain a _ _ _

/-- What each row gives the gains. -/
def gains {M N : ℕ} (X D : Shape.Idx ⟨2, ![M, N]⟩ → EReal) : Shape.Idx ⟨2, ![M, N]⟩ → EReal :=
  fun i => D i * (X i * scale (rows X (i 0)))

end Cert.NormRow

end
-- ==== Proof.Gated.lean ====
/- The residual stream with the gated per-layer embedding added. -/
module

public import proofs.«01_k».proof.Proof.NormRow

@[expose] public section

noncomputable section

open Idealize.ShloMosaic

namespace Cert.Gated

variable {M N : ℕ}

/-- The stream plus the embedding times the logistic function of the gate. -/
def sum (h gate emb : Shape.Idx ⟨2, ![M, N]⟩ → EReal) : Shape.Idx ⟨2, ![M, N]⟩ → EReal :=
  fun i => h i + Ideal.logistic (gate i) * emb i

/-- The cotangent of the gate and of the embedding, of the sum's. -/
def gateGrad (d gate emb : Shape.Idx ⟨2, ![M, N]⟩ → EReal) : Shape.Idx ⟨2, ![M, N]⟩ → EReal :=
  fun i => d i * emb i * Ideal.logistic (gate i) * (1 - Ideal.logistic (gate i))
def embGrad (d gate : Shape.Idx ⟨2, ![M, N]⟩ → EReal) : Shape.Idx ⟨2, ![M, N]⟩ → EReal :=
  fun i => d i * Ideal.logistic (gate i)

end Cert.Gated

end
-- ==== Proof.ColumnSums.lean ====
/- A sum over all rows of an array, as the kernels take it: at each of sixteen grid points the sums over the block's rows of
   equal residue modulo eight, added up over the points, and the eight rows' sum at the end. -/
module

public import Idealize.ShloMosaic.PureOps.Ideal
public import Idealize.ShloMosaic.Lib.Pointwise
public import Idealize.ShloMosaic.Lib.ValueIdx

@[expose] public section

noncomputable section

open Idealize.ShloMosaic

namespace Cert.ColumnSums

variable (A : Shape.Idx ⟨2, ![8192, 1024]⟩ → EReal)

/-- The sums of one block. -/
def part (t : Fin 16) : Shape.Idx ⟨2, ![8, 1024]⟩ → EReal :=
  fun i => ∑ q : Fin 64, A (ix2 ⟨t.val * 512 + (q.val * 8 + (i 0).val), by
    have : (i 0).val < 8 := (i 0).isLt
    omega⟩ (i 1))

/-- The sums of all blocks. -/
def total : Shape.Idx ⟨2, ![8, 1024]⟩ → EReal := fun i => ∑ t, part A t i

/-- The eight rows' sum is the sum of all rows. -/
theorem sum_total (l : Fin 1024) : ∑ i : Fin 8, total A (ix2 i l) = ∑ r, A (ix2 r l) := by
  rw [Fin.sum_univ_tiles 16 512 rfl]
  unfold total
  rw [Finset.sum_comm]
  refine Finset.sum_congr rfl fun t _ => ?_
  rw [Fin.sum_univ_tiles 64 8 rfl, Finset.sum_comm]
  rfl

end Cert.ColumnSums

end
-- ==== Proof.LossRow.lean ====
/- The loss head, of the residual stream, the gate, the embedding and the target. -/
module

public import proofs.«01_k».proof.Proof.Gated
public import proofs.«01_k».proof.Proof.ColumnSums

@[expose] public section

noncomputable section

open Idealize.ShloMosaic

namespace Cert.LossRow

open Cert.Lift

variable {M N : ℕ}

/-- The factors as the kernel writes them: the reciprocals of the row's length and of its double. -/
def share : EReal := Ideal.ofBits .f32 0x3A800000#32
def halfShare : EReal := Ideal.ofBits .f32 0x3A000000#32

theorem share_eq : share = ((1 / 1024 : ℝ) : EReal) := by
  simp [share, Ideal.ofBits, Ideal.ieee, -EReal.coe_mul]; norm_num

theorem halfShare_eq : halfShare = ((1 / 2048 : ℝ) : EReal) := by
  simp [halfShare, Ideal.ofBits, Ideal.ieee, -EReal.coe_mul]; norm_num

/-- What the stream misses of the target. -/
def miss (h gate emb target : Shape.Idx ⟨2, ![M, N]⟩ → EReal) : Shape.Idx ⟨2, ![M, N]⟩ → EReal :=
  fun i => Gated.sum h gate emb i - target i

/-- The loss' gradient, of what the stream misses. -/
def grad (e : Shape.Idx ⟨2, ![M, N]⟩ → EReal) : Shape.Idx ⟨2, ![M, N]⟩ → EReal := fun i => e i * share

/-- Each entry's part of the loss. -/
def part (e : Shape.Idx ⟨2, ![M, N]⟩ → EReal) : Shape.Idx ⟨2, ![M, N]⟩ → EReal := fun i => e i * e i * halfShare

/-- The gradient as differentiation writes it. -/
theorem grad_chain (a : EReal) :
    Ideal.div (Ideal.ofBits .f32 0x3F000000#32 * Ideal.ofBits .f32 0x3F800000#32) (Ideal.ofBits .f32 0x44800000#32)
      * (Ideal.ofBits .f32 0x40000000#32 * a) = a * share := by
  rw [lit_half, lit_one, lit_1024, lit_two, share_eq, ← EReal.coe_mul, div_real _ _ (by norm_num), ← mul_assoc, ← EReal.coe_mul,
    mul_comm a]
  congr 2
  norm_num

/-- A positive factor out of a sum. -/
theorem sum_halfShare {ι : Type*} (s : Finset ι) (f : ι → EReal) : (∑ i ∈ s, f i) * halfShare = ∑ i ∈ s, f i * halfShare := by
  rw [halfShare_eq, mul_comm, NormRow.mul_sum_real _ _ _ (by norm_num)]
  exact Finset.sum_congr rfl fun i _ => mul_comm _ _

/-- The loss is half the sum of the rows' mean squares. -/
theorem sum_part (e : Shape.Idx ⟨2, ![M, N]⟩ → EReal) :
    ∑ r, ∑ l, part e (ix2 r l)
      = Ideal.ofBits .f32 0x3F000000#32 * ∑ r, Ideal.div (∑ l, e (ix2 r l) * e (ix2 r l)) (Ideal.ofBits .f32 0x44800000#32) := by
  rw [lit_half, NormRow.mul_sum_real _ _ _ (by norm_num)]
  refine Finset.sum_congr rfl fun r _ => ?_
  unfold part
  rw [← sum_halfShare, lit_1024, Ideal.div_coe (by norm_num), halfShare_eq, mul_left_comm, ← EReal.coe_mul]
  congr 2
  norm_num

end Cert.LossRow

end
-- ==== Proof.Loss.lean ====
/- The loss head: the loss of the residual stream with the gated embedding added, and its gradient. -/
module

public import proofs.«01_k».proof.Defs
public import proofs.«01_k».proof.Proof.Gen.Loss.Frame
public import proofs.«01_k».proof.Proof.Gen.LossIdeal.Frame
public import proofs.«01_k».proof.Proof.Gen.LossRefIdeal.Read
public import proofs.«01_k».proof.Proof.LossRow
public import proofs.«01_k».proof.Proof.ColumnSums
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.LossIdeal.Val

open Cert.LossIdeal Cert.LossIdeal.Gen

variable (m : (ℓ : Loc nD τ sig) → Buf (Elt Ideal) ℓ)

/-- The blocks of the operands and of the results at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] :=
  (by decide +kernel : ∀ t : Fin grid0.N, _)

theorem points (t : Fin cfg0.N) : t.val < 16 := lt_of_lt_of_eq t.isLt N_0

/-- The arguments: the stream, the gate, the embedding and the target. -/
abbrev h (c : Dev nD) : S8192x1024.Idx → EReal := m ((c : Thread nD τ).loc main_arg0)
abbrev gate (c : Dev nD) : S8192x1024.Idx → EReal := m ((c : Thread nD τ).loc main_arg1)
abbrev emb (c : Dev nD) : S8192x1024.Idx → EReal := m ((c : Thread nD τ).loc main_arg2)
abbrev target (c : Dev nD) : S8192x1024.Idx → EReal := m ((c : Thread nD τ).loc main_arg3)

/-- What the stream misses of the target, and the stream's cotangent. -/
def miss (c : Dev nD) : S8192x1024.Idx → EReal := LossRow.miss (h m c) (gate m c) (emb m c) (target m c)
def dx (c : Dev nD) : S8192x1024.Idx → EReal := LossRow.grad (miss m c)

/-- Row `i` of the block at a grid point. -/
def row (t : Fin cfg0.N) (i : Fin 512) : Fin 8192 := ⟨t.val * 512 + i.val, by have := points t; omega⟩

/-- What the body computes of it at a grid point. -/
abbrev body (c : Dev nD) (t : Fin cfg0.N) : FVec Ideal S512x1024 .f32 :=
  k0_pay5 (iblk m c 1 t) (iblk m c 2 t) (iblk m c 0 t) (iblk m c 3 t)

/-- A block of what the stream misses. -/
theorem point_miss (c : Dev nD) (t : Fin cfg0.N) : body m c t = fun i => miss m c (ix2 (row t (i 0)) (i 1)) := by
  have ht := points t
  funext i
  pointwise [body, k0_pay3, k0_pay4, k0_pay5, k0_pay8, miss, LossRow.miss, Gated.sum, row]
  simp only [NormRow.half_tanh]
  blk_point [iblk, V, idx t]

/-- The loss' part, of a block. -/
theorem point_part (c : Dev nD) (t : Fin cfg0.N) : k0_pay1 (body m c t)
    = ColumnSums.part (LossRow.part (miss m c)) ⟨t.val, points t⟩ := by
  have ht := points t
  rw [point_miss]
  generalize miss m c = e
  funext i
  pointwise [k0_pay1, ColumnSums.part, LossRow.part, row]
  exact LossRow.sum_halfShare _ _

/-- The stream's cotangent after the run. -/
theorem final_dx (c : Dev nD) : (dats m 0 c).arrAt 4 (cfgs 0).N = dx m c := by
  refine (dats m 0 c).arrAt_eq_of_covers 4 _ (by decide +kernel) fun t _ y => ?_
  have ht := points t
  blk_simp
  rw [after0_4]
  refine Eq.trans (b := k0_pay7 (iblk m c 1 t) (iblk m c 2 t) (iblk m c 0 t) (iblk m c 3 t) y) ?_ ?_
  · by_cases h0 : t.val % 16 = 0
    · rw [outsAt0_A m c t h0 (by omega)]; frame_out
    · rw [outsAt0_B m c t h0 (by omega)]; frame_out
  · pointwise [k0_pay7, k0_pay6, k0_pay3, k0_pay4, k0_pay5, k0_pay8, dx, miss, LossRow.grad, LossRow.share,
      LossRow.miss, Gated.sum]
    simp only [NormRow.half_tanh]
    blk_point [iblk, V, idx t]

/-- The gate's cotangent after the run. -/
theorem final_gate (c : Dev nD) : (dats m 0 c).arrAt 5 (cfgs 0).N = Gated.gateGrad (dx m c) (gate m c) (emb m c) := by
  refine (dats m 0 c).arrAt_eq_of_covers 5 _ (by decide +kernel) fun t _ y => ?_
  have ht := points t
  blk_simp
  rw [after0_5]
  refine Eq.trans (b := k0_pay9 (iblk m c 1 t) (iblk m c 2 t) (iblk m c 0 t) (iblk m c 3 t) y) ?_ ?_
  · by_cases h0 : t.val % 16 = 0
    · rw [outsAt0_A m c t h0 (by omega)]; frame_out
    · rw [outsAt0_B m c t h0 (by omega)]; frame_out
  · pointwise [k0_pay9, k0_pay6, k0_pay3, k0_pay4, k0_pay5, k0_pay8, dx, miss, Gated.gateGrad, LossRow.grad, LossRow.share,
      LossRow.miss, Gated.sum]
    simp only [NormRow.half_tanh]
    blk_point [iblk, V, idx t]

/-- The embedding's cotangent after the run. -/
theorem final_emb (c : Dev nD) : (dats m 0 c).arrAt 6 (cfgs 0).N = Gated.embGrad (dx m c) (gate m c) := by
  refine (dats m 0 c).arrAt_eq_of_covers 6 _ (by decide +kernel) fun t _ y => ?_
  have ht := points t
  blk_simp
  rw [after0_6]
  refine Eq.trans (b := k0_pay10 (iblk m c 1 t) (iblk m c 2 t) (iblk m c 0 t) (iblk m c 3 t) y) ?_ ?_
  · by_cases h0 : t.val % 16 = 0
    · rw [outsAt0_A m c t h0 (by omega)]; frame_out
    · rw [outsAt0_B m c t h0 (by omega)]; frame_out
  · pointwise [k0_pay10, k0_pay6, k0_pay3, k0_pay4, k0_pay5, k0_pay8, dx, miss, Gated.embGrad, LossRow.grad, LossRow.share,
      LossRow.miss, Gated.sum]
    simp only [NormRow.half_tanh]
    blk_point [iblk, V, idx t]

/-- The loss' eight rows after the run. -/
theorem final_loss (c : Dev nD) : (dats m 0 c).arrAt 7 (cfgs 0).N = ColumnSums.total (LossRow.part (miss m c)) := by
  refine (dats m 0 c).arrAt_eq_of_covers 7 _ (by decide +kernel) fun t hf y => ?_
  have h16 : cfg0.N = 16 := N_0
  have hl := (flush0_7 t).mp hf
  blk_simp
  rw [after0_7, Pipeline.eq_sum_fin_of_reset_step_apply_last (fun n hn => (outsAt0 m c n hn).2.2.2) 16 (fun _ => 0)
    (fun t => ColumnSums.part (LossRow.part (miss m c)) ⟨t.val, points t⟩)
    (fun t h0 i => by
      have ht := points t
      rw [outsAt0_A m c t h0 (by omega)]; frame_out; rw [point_part m c t, zero_add])
    (fun t h0 i => by rw [outsAt0_B m c t h0 (by omega)]; frame_out; pointwise [k0_pay2]; rw [point_part m c t]; rfl)
    (le_of_eq N_0) t (by have := t.isLt; omega) y, zero_add]
  refine Eq.trans (b := ColumnSums.total (LossRow.part (miss m c)) y) (Fintype.sum_equiv (finCongr N_0) _ _ fun _ => rfl) ?_
  generalize ColumnSums.total (LossRow.part (miss m c)) = f
  blk_point [idx t]

theorem arrays_distinct : Function.Injective (Pipeline.arrRef (cfgs 0).spec) := by
  decide +kernel

/-- The host's sum of an array. -/
def hostSum (A : S8x1024.Idx → EReal) : S_.Idx → EReal :=
  Host.reduceAdd (F := Ideal) (φ := .f32) A (constant S_ .f32 0x00000000#32) reducesTo_S8x1024_S_d0_1 h_S_

theorem hostSum_total (A : S8192x1024.Idx → EReal) (j : S_.Idx) :
    hostSum (ColumnSums.total A) j = ∑ r : Fin 8192, ∑ l : Fin 1024, A (ix2 r l) := by
  unfold hostSum
  pointwise
  rw [Finset.sum_comm, Finset.sum_comm (s := (Finset.univ : Finset (Fin 8192)))]
  exact Finset.sum_congr rfl fun l _ => ColumnSums.sum_total A l

theorem tail_loss (c : Dev nD) :
    Pipeline.afterTail₀ cfgs (dats m) 0 (V0 m) [hostOps1] c main_v1 = hostSum ((dats m 0 c).arrAt 7 (cfgs 0).N) := by
  unfold Pipeline.afterTail₀ hostOps1
  simp only [List.flatten_cons, List.flatten_nil, List.append_nil]
  after_results_simp
  exact congrArg hostSum (Pipeline.withArrays_arr _ arrays_distinct c (V0 m c) (fun w => (dats m 0 c).arrAt w (cfgs 0).N) 7)

end Cert.LossIdeal.Val

namespace Cert.LossRefIdeal.Read

/-- What the stream misses of the target. -/
theorem miss (h gate emb target) : (val_main_v13 (F := Ideal) h gate emb target : S8192x1024.Idx → EReal) = LossRow.miss h gate emb target := by
  funext i
  pointwise [val_main_v0, val_main_v1, val_main_v2, val_main_v3, val_main_cst, val_main_v4, val_main_v5, val_main_cst_0, val_main_v6,
    val_main_v7, val_main_v11, val_main_v12, val_main_v13, LossRow.miss,
    Gated.sum, Ideal.logistic]

/-- The stream's cotangent, of what it misses. -/
theorem stream (h gate emb target) : (val_main_v27 (F := Ideal) h gate emb target : S8192x1024.Idx → EReal)
    = LossRow.grad (LossRow.miss h gate emb target) := by
  rw [← miss]
  funext i
  refine Eq.trans ?_ (LossRow.grad_chain _)
  pointwise [val_main_cst_2, val_main_v15, val_main_v16, val_main_cst_7, val_main_cst_8, val_main_v22, val_main_v23, val_main_cst_9,
    val_main_v24, val_main_v25, val_main_v26, val_main_v27]

/-- The gate's and the embedding's cotangents, of the stream's. -/
theorem gate (h gate emb target) : (val_main_v32 (F := Ideal) h gate emb target : S8192x1024.Idx → EReal)
    = Gated.gateGrad (LossRow.grad (LossRow.miss h gate emb target)) gate emb := by
  rw [← stream]
  funext i
  pointwise [val_main_v0, val_main_v1, val_main_v2, val_main_v3, val_main_cst, val_main_v4, val_main_v5, val_main_cst_0, val_main_v6,
    val_main_v7, val_main_cst_1, val_main_v8, val_main_v9, val_main_v10, val_main_v29, val_main_v30, val_main_v32, Gated.gateGrad,
    Ideal.logistic]
  exact (mul_assoc _ _ _).symm

theorem emb (h gate emb target) : (val_main_v33 (F := Ideal) h gate emb target : S8192x1024.Idx → EReal)
    = Gated.embGrad (LossRow.grad (LossRow.miss h gate emb target)) gate := by
  rw [← stream]
  funext i
  pointwise [val_main_v0, val_main_v2, val_main_v3, val_main_cst, val_main_v4, val_main_v5, val_main_cst_0, val_main_v6, val_main_v7,
    val_main_v28, val_main_v33, Gated.embGrad,
    Ideal.logistic]
  exact mul_comm _ _

/-- The loss is the sum of the entries' parts. -/
theorem loss (h gate emb target) (j : S_.Idx) : (val_main_v21 (F := Ideal) h gate emb target : S_.Idx → EReal) j
    = ∑ r : Fin 8192, ∑ l : Fin 1024, LossRow.part (LossRow.miss h gate emb target) (ix2 r l) := by
  rw [LossRow.sum_part, ← miss]
  pointwise [val_main_v14, val_main_cst_3, val_main_v17, val_main_cst_4, val_main_v18, val_main_v19, val_main_cst_5, val_main_v20,
    val_main_cst_6, val_main_v21]

end Cert.LossRefIdeal.Read

namespace Cert.Loss

open Cert.LossIdeal.Val in
/-- Over the extended reals the call computes what the differentiation of the loss computes. -/
theorem equal : Cert.algebraic_LossIdeal_LossRefIdeal := by
  pair_intro
  · run_from Cert.LossIdeal.Gen.run_main m g
  · refine (θ_run _ _ _).mono (fun r hr c => ?_) (Cert.LossRefIdeal.Value.run m' g')
    obtain ⟨e0, e1, e2, e3⟩ := hagree c
    obtain ⟨v0, v1, v2, v3, vs⟩ := hr c
    refine ⟨v0.trans ?_, v1.trans ?_, v2.trans ?_, v3.trans ?_, vs⟩
    · rw [Cert.LossRefIdeal.Read.val_main_v31_eq, e0, e1, e2, e3, final_dx]
      exact Cert.LossRefIdeal.Read.stream _ _ _ _
    · rw [Cert.LossRefIdeal.Read.val_main_v32_eq, e0, e1, e2, e3, final_gate]
      exact Cert.LossRefIdeal.Read.gate _ _ _ _
    · rw [Cert.LossRefIdeal.Read.val_main_v33_eq, e0, e1, e2, e3, final_emb]
      exact Cert.LossRefIdeal.Read.emb _ _ _ _
    · rw [Cert.LossRefIdeal.Read.val_main_v21_eq, e0, e1, e2, e3, tail_loss, final_loss]
      exact funext fun j => (Cert.LossRefIdeal.Read.loss _ _ _ _ j).trans (hostSum_total _ j).symm

/-- The reference terminates and leaves its arguments unchanged. -/
theorem frame_reference : Cert.quiescent_LossRefIdeal := by
  intro m g _
  hlo_run
  · exact fun _ => ⟨trivial, trivial, trivial, trivial⟩
  · exact sem_eq_zero_of_no_sems rfl _

end Cert.Loss

end
-- ==== Proof.Norm0Bwd.lean ====
/- The gradient of the first norm of the residual stream, and of its gains. -/
module

public import proofs.«01_k».proof.Defs
public import proofs.«01_k».proof.Proof.Gen.Norm0Bwd.Frame
public import proofs.«01_k».proof.Proof.Gen.Norm0BwdIdeal.Frame
public import proofs.«01_k».proof.Proof.Gen.Norm0BwdRefIdeal.Read
public import proofs.«01_k».proof.Proof.NormRow
public import proofs.«01_k».proof.Proof.ColumnSums
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Norm0BwdIdeal.Val

open Cert.Norm0BwdIdeal Cert.Norm0BwdIdeal.Gen

variable (m : (ℓ : Loc nD τ sig) → Buf (Elt Ideal) ℓ)

/-- The blocks of the operands and of the results at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

theorem points (t : Fin cfg0.N) : t.val < 16 := lt_of_lt_of_eq t.isLt N_0

/-- The arguments: the stream, the gains, the norm's cotangent, and the cotangent that goes past the norm. -/
abbrev x (c : Dev nD) : S8192x1024.Idx → EReal := m ((c : Thread nD τ).loc main_arg0)
abbrev gain (c : Dev nD) : S1x1024.Idx → EReal := m ((c : Thread nD τ).loc main_arg1)
abbrev dy (c : Dev nD) : S8192x1024.Idx → EReal := m ((c : Thread nD τ).loc main_arg2)
abbrev past (c : Dev nD) : S8192x1024.Idx → EReal := m ((c : Thread nD τ).loc main_arg3)

/-- The stream's cotangent, of the arguments. -/
def dx (c : Dev nD) : S8192x1024.Idx → EReal := fun i => past m c i + NormRow.grads (x m c) (dy m c) (gain m c) i

/-- The gains' part, of a block. -/
theorem point_gain (c : Dev nD) (t : Fin cfg0.N) : k0_pay5 (iblk m c 0 t) (iblk m c 3 t)
    = ColumnSums.part (NormRow.gains (x m c) (dy m c)) ⟨t.val, points t⟩ := by
  have ht := points t
  funext i
  pointwise [k0_pay1, k0_pay2, k0_pay3, k0_pay5, ColumnSums.part, NormRow.gains, NormRow.scale, NormRow.square, NormRow.rows, Residual.len,
    Residual.eps]
  blk_point [iblk, V, idx t]

/-- The first result's array after the run is the stream's cotangent. -/
theorem final_dx (c : Dev nD) : (dats m 0 c).arrAt 4 (cfgs 0).N = dx m c := by
  refine (dats m 0 c).arrAt_eq_of_covers 4 _ (by decide +kernel) fun t _ y => ?_
  have ht := points t
  blk_simp
  rw [after0_4]
  refine Eq.trans (b := k0_pay4 (iblk m c 0 t) (iblk m c 1 t) (iblk m c 3 t) (iblk m c 2 t) y) ?_ ?_
  · by_cases h0 : t.val % 16 = 0
    · rw [outsAt0_A m c t h0 (by omega)]; frame_out
    · rw [outsAt0_B m c t h0 (by omega)]; frame_out
  · pointwise [k0_pay1, k0_pay2, k0_pay3, k0_pay4, dx, NormRow.grads, NormRow.grad, NormRow.gained, NormRow.rows, NormRow.scale,
      NormRow.square, Residual.len, Residual.eps]
    blk_point [iblk, V, idx t]

/-- The gains' eight rows after the run. -/
theorem final_gain (c : Dev nD) : (dats m 0 c).arrAt 5 (cfgs 0).N = ColumnSums.total (NormRow.gains (x m c) (dy m c)) := by
  refine (dats m 0 c).arrAt_eq_of_covers 5 _ (by decide +kernel) fun t hf y => ?_
  have h16 : cfg0.N = 16 := N_0
  have hl := (flush0_5 t).mp hf
  blk_simp
  rw [after0_5, Pipeline.eq_sum_fin_of_reset_step_apply_last (fun n hn => (outsAt0 m c n hn).2) 16 (fun _ => 0)
    (fun t => ColumnSums.part (NormRow.gains (x m c) (dy m c)) ⟨t.val, points t⟩)
    (fun t h0 i => by
      have ht := points t
      rw [outsAt0_A m c t h0 (by omega)]; frame_out; rw [point_gain m c t, zero_add])
    (fun t h0 i => by rw [outsAt0_B m c t h0 (by omega)]; frame_out; pointwise [k0_pay6]; rw [point_gain m c t]; rfl)
    (le_of_eq N_0) t (by have := t.isLt; omega) y, zero_add]
  refine Eq.trans (b := ColumnSums.total (NormRow.gains (x m c) (dy m c)) y) (Fintype.sum_equiv (finCongr N_0) _ _ fun _ => rfl) ?_
  generalize ColumnSums.total (NormRow.gains (x m c) (dy m c)) = f
  blk_point [idx t]

theorem arrays_distinct : Function.Injective (Pipeline.arrRef (cfgs 0).spec) := by
  decide +kernel

/-- The host's sum of an array's eight rows. -/
def hostSum (A : S8x1024.Idx → EReal) : S1024.Idx → EReal :=
  Host.reduceAdd (F := Ideal) (φ := .f32) A (constant S_ .f32 0x00000000#32) reducesTo_S8x1024_S1024_d0 h_S_

theorem hostSum_total (A : S8192x1024.Idx → EReal) (j : S1024.Idx) : hostSum (ColumnSums.total A) j = ∑ r : Fin 8192, A (ix2 r (j 0)) := by
  unfold hostSum
  pointwise
  exact ColumnSums.sum_total A (j 0)

theorem tail_gain (c : Dev nD) :
    Pipeline.afterTail₀ cfgs (dats m) 0 (V0 m) [hostOps1] c main_v1 = hostSum ((dats m 0 c).arrAt 5 (cfgs 0).N) := by
  unfold Pipeline.afterTail₀ hostOps1
  simp only [List.flatten_cons, List.flatten_nil, List.append_nil]
  after_results_simp
  exact congrArg hostSum (Pipeline.withArrays_arr _ arrays_distinct c (V0 m c) (fun w => (dats m 0 c).arrAt w (cfgs 0).N) 5)

end Cert.Norm0BwdIdeal.Val

namespace Cert.Norm0BwdRefIdeal.Read

/-- The gains' gradient is the sum of what each row gives them. -/
theorem gain (x dy : S8192x1024.Idx → EReal) (j : S1024.Idx) :
    (val_main_v24 (F := Ideal) x dy : S1024.Idx → EReal) j = ∑ r : Fin 8192, NormRow.gains x dy (ix2 r (j 0)) := by
  pointwise [val_main_v0, val_main_v1, val_main_cst, val_main_v2, val_main_v3, val_main_cst_0, val_main_v4, val_main_v5, val_main_cst_1,
    val_main_v6, val_main_v7, val_main_v8, val_main_v9, val_main_cst_2, val_main_v10, val_main_v11, val_main_v12, val_main_v13,
    val_main_v14, val_main_v15, val_main_v16, val_main_v17, val_main_v18, val_main_v19, val_main_cst_3, val_main_v20,
    val_main_v21, val_main_v22, val_main_v23, val_main_cst_4, val_main_v24, val_main_v25, val_main_cst_5, val_main_v26,
    val_main_v27, val_main_v28, val_main_v29, val_main_v30, val_main_v31, val_main_cst_6, val_main_v32, val_main_v33,
    val_main_cst_7, val_main_v34, val_main_v35, val_main_v36, val_main_v37, val_main_v38, val_main_v39, NormRow.gains, NormRow.scale,
    NormRow.square, NormRow.rows, Residual.len, Residual.eps]
  exact (Fin.sum_univ_one _).trans (Finset.sum_congr rfl fun r _ => mul_comm _ _)

/-- The stream's cotangent is what goes past the norm and the rows' gradient. -/
theorem stream (x gain dy past) (i : S8192x1024.Idx) :
    (val_main_v39 (F := Ideal) x gain dy past : S8192x1024.Idx → EReal) i
      = (past : S8192x1024.Idx → EReal) i + NormRow.grads x dy gain i := by
  refine Eq.trans ?_ (NormRow.grads_chain x dy gain _ i)
  pointwise [val_main_v0, val_main_v1, val_main_cst, val_main_v2, val_main_v3, val_main_cst_0, val_main_v4, val_main_v5, val_main_cst_1,
    val_main_v6, val_main_v7, val_main_v8, val_main_v9, val_main_cst_2, val_main_v10, val_main_v11, val_main_v12, val_main_v13,
    val_main_v14, val_main_v15, val_main_v16, val_main_v17, val_main_v18, val_main_v19, val_main_cst_3, val_main_v20,
    val_main_v21, val_main_v22, val_main_v23, val_main_cst_4, val_main_v24, val_main_v25, val_main_cst_5, val_main_v26,
    val_main_v27, val_main_v28, val_main_v29, val_main_v30, val_main_v31, val_main_cst_6, val_main_v32, val_main_v33,
    val_main_cst_7, val_main_v34, val_main_v35, val_main_v36, val_main_v37, val_main_v38, val_main_v39, NormRow.root, NormRow.scale, NormRow.square, NormRow.rows,
    NormRow.gained, Residual.len, Residual.eps]
  rw [Fin.sum_univ_one]

end Cert.Norm0BwdRefIdeal.Read

namespace Cert.Norm0Bwd

open Cert.Norm0BwdIdeal.Val in
/-- Over the extended reals the call computes what the differentiation of the norm computes. -/
theorem equal : Cert.algebraic_Norm0BwdIdeal_Norm0BwdRefIdeal := by
  pair_intro
  · run_from Cert.Norm0BwdIdeal.Gen.run_main m g
  · refine (θ_run _ _ _).mono (fun r hr c => ?_) (Cert.Norm0BwdRefIdeal.Value.run m' g')
    obtain ⟨e0, e1, e2, e3⟩ := hagree c
    obtain ⟨v0, v1, vs⟩ := hr c
    refine ⟨v0.trans ?_, v1.trans ?_, vs⟩
    · rw [Cert.Norm0BwdRefIdeal.Read.val_main_v39_eq, e0, e1, e2, e3, final_dx]
      exact funext fun i => Cert.Norm0BwdRefIdeal.Read.stream _ _ _ _ i
    · rw [Cert.Norm0BwdRefIdeal.Read.val_main_v24_eq, e0, e2, tail_gain, final_gain]
      exact funext fun j => (Cert.Norm0BwdRefIdeal.Read.gain _ _ j).trans (hostSum_total _ j).symm

/-- The reference terminates and leaves its arguments unchanged. -/
theorem frame_reference : Cert.quiescent_Norm0BwdRefIdeal := by
  intro m g _
  hlo_run
  · exact fun _ => ⟨trivial, trivial, trivial, trivial⟩
  · exact sem_eq_zero_of_no_sems rfl _

end Cert.Norm0Bwd

end
-- ==== Proof.PleNormBwd.lean ====
/- The gradient of the norm before the per-layer embedding's gate, and of its gains. -/
module

public import proofs.«01_k».proof.Defs
public import proofs.«01_k».proof.Proof.Gen.PleNormBwd.Frame
public import proofs.«01_k».proof.Proof.Gen.PleNormBwdIdeal.Frame
public import proofs.«01_k».proof.Proof.Gen.PleNormBwdRefIdeal.Read
public import proofs.«01_k».proof.Proof.NormRow
public import proofs.«01_k».proof.Proof.ColumnSums
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.PleNormBwdIdeal.Val

open Cert.PleNormBwdIdeal Cert.PleNormBwdIdeal.Gen

variable (m : (ℓ : Loc nD τ sig) → Buf (Elt Ideal) ℓ)

/-- The blocks of the operands and of the results at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

theorem points (t : Fin cfg0.N) : t.val < 16 := lt_of_lt_of_eq t.isLt N_0

/-- The arguments: the stream, the gains, the norm's cotangent, and the cotangent that goes past the norm. -/
abbrev x (c : Dev nD) : S8192x1024.Idx → EReal := m ((c : Thread nD τ).loc main_arg0)
abbrev gain (c : Dev nD) : S1x1024.Idx → EReal := m ((c : Thread nD τ).loc main_arg1)
abbrev dy (c : Dev nD) : S8192x1024.Idx → EReal := m ((c : Thread nD τ).loc main_arg2)
abbrev past (c : Dev nD) : S8192x1024.Idx → EReal := m ((c : Thread nD τ).loc main_arg3)

/-- The stream's cotangent, of the arguments. -/
def dx (c : Dev nD) : S8192x1024.Idx → EReal := fun i => past m c i + NormRow.grads (x m c) (dy m c) (gain m c) i

/-- The gains' part, of a block. -/
theorem point_gain (c : Dev nD) (t : Fin cfg0.N) : k0_pay4 (iblk m c 0 t) (iblk m c 3 t)
    = ColumnSums.part (NormRow.gains (x m c) (dy m c)) ⟨t.val, points t⟩ := by
  have ht := points t
  funext i
  pointwise [k0_pay1, k0_pay2, k0_pay3, k0_pay4, ColumnSums.part, NormRow.gains, NormRow.scale, NormRow.square, NormRow.rows, Residual.len,
    Residual.eps]
  blk_point [iblk, V, idx t]

/-- The first result's array after the run is the stream's cotangent. -/
theorem final_dx (c : Dev nD) : (dats m 0 c).arrAt 4 (cfgs 0).N = dx m c := by
  refine (dats m 0 c).arrAt_eq_of_covers 4 _ (by decide +kernel) fun t _ y => ?_
  have ht := points t
  blk_simp
  rw [after0_4]
  refine Eq.trans (b := k0_pay6 (iblk m c 0 t) (iblk m c 1 t) (iblk m c 3 t) (iblk m c 2 t) y) ?_ ?_
  · by_cases h0 : t.val % 16 = 0
    · rw [outsAt0_A m c t h0 (by omega)]; frame_out
    · rw [outsAt0_B m c t h0 (by omega)]; frame_out
  · pointwise [k0_pay1, k0_pay2, k0_pay3, k0_pay6, dx, NormRow.grads, NormRow.grad, NormRow.gained, NormRow.rows, NormRow.scale,
      NormRow.square, Residual.len, Residual.eps]
    blk_point [iblk, V, idx t]

/-- The gains' eight rows after the run. -/
theorem final_gain (c : Dev nD) : (dats m 0 c).arrAt 5 (cfgs 0).N = ColumnSums.total (NormRow.gains (x m c) (dy m c)) := by
  refine (dats m 0 c).arrAt_eq_of_covers 5 _ (by decide +kernel) fun t hf y => ?_
  have h16 : cfg0.N = 16 := N_0
  have hl := (flush0_5 t).mp hf
  blk_simp
  rw [after0_5, Pipeline.eq_sum_fin_of_reset_step_apply_last (fun n hn => (outsAt0 m c n hn).2) 16 (fun _ => 0)
    (fun t => ColumnSums.part (NormRow.gains (x m c) (dy m c)) ⟨t.val, points t⟩)
    (fun t h0 i => by
      have ht := points t
      rw [outsAt0_A m c t h0 (by omega)]; frame_out; rw [point_gain m c t, zero_add])
    (fun t h0 i => by rw [outsAt0_B m c t h0 (by omega)]; frame_out; pointwise [k0_pay5]; rw [point_gain m c t]; rfl)
    (le_of_eq N_0) t (by have := t.isLt; omega) y, zero_add]
  refine Eq.trans (b := ColumnSums.total (NormRow.gains (x m c) (dy m c)) y) (Fintype.sum_equiv (finCongr N_0) _ _ fun _ => rfl) ?_
  generalize ColumnSums.total (NormRow.gains (x m c) (dy m c)) = f
  blk_point [idx t]

theorem arrays_distinct : Function.Injective (Pipeline.arrRef (cfgs 0).spec) := by
  decide +kernel

/-- The host's sum of an array's eight rows. -/
def hostSum (A : S8x1024.Idx → EReal) : S1024.Idx → EReal :=
  Host.reduceAdd (F := Ideal) (φ := .f32) A (constant S_ .f32 0x00000000#32) reducesTo_S8x1024_S1024_d0 h_S_

theorem hostSum_total (A : S8192x1024.Idx → EReal) (j : S1024.Idx) : hostSum (ColumnSums.total A) j = ∑ r : Fin 8192, A (ix2 r (j 0)) := by
  unfold hostSum
  pointwise
  exact ColumnSums.sum_total A (j 0)

theorem tail_gain (c : Dev nD) :
    Pipeline.afterTail₀ cfgs (dats m) 0 (V0 m) [hostOps1] c main_v1 = hostSum ((dats m 0 c).arrAt 5 (cfgs 0).N) := by
  unfold Pipeline.afterTail₀ hostOps1
  simp only [List.flatten_cons, List.flatten_nil, List.append_nil]
  after_results_simp
  exact congrArg hostSum (Pipeline.withArrays_arr _ arrays_distinct c (V0 m c) (fun w => (dats m 0 c).arrAt w (cfgs 0).N) 5)

end Cert.PleNormBwdIdeal.Val

namespace Cert.PleNormBwdRefIdeal.Read

/-- The gains' gradient is the sum of what each row gives them. -/
theorem gain (x dy : S8192x1024.Idx → EReal) (j : S1024.Idx) :
    (val_main_v24 (F := Ideal) x dy : S1024.Idx → EReal) j = ∑ r : Fin 8192, NormRow.gains x dy (ix2 r (j 0)) := by
  pointwise [val_main_v0, val_main_v1, val_main_cst, val_main_v2, val_main_v3, val_main_cst_0, val_main_v4, val_main_v5, val_main_cst_1,
    val_main_v6, val_main_v7, val_main_v8, val_main_v9, val_main_cst_2, val_main_v10, val_main_v11, val_main_v12, val_main_v13,
    val_main_v14, val_main_v15, val_main_v16, val_main_v17, val_main_v18, val_main_v19, val_main_cst_3, val_main_v20,
    val_main_v21, val_main_v22, val_main_v23, val_main_cst_4, val_main_v24, val_main_v25, val_main_cst_5, val_main_v26,
    val_main_v27, val_main_v28, val_main_v29, val_main_v30, val_main_v31, val_main_cst_6, val_main_v32, val_main_v33,
    val_main_cst_7, val_main_v34, val_main_v35, val_main_v36, val_main_v37, val_main_v38, val_main_v39, val_main_v40, NormRow.gains, NormRow.scale,
    NormRow.square, NormRow.rows, Residual.len, Residual.eps]
  exact (Fin.sum_univ_one _).trans (Finset.sum_congr rfl fun r _ => mul_comm _ _)

/-- The stream's cotangent is what goes past the norm and the rows' gradient. -/
theorem stream (x gain dy past) (i : S8192x1024.Idx) :
    (val_main_v40 (F := Ideal) x gain dy past : S8192x1024.Idx → EReal) i
      = (past : S8192x1024.Idx → EReal) i + NormRow.grads x dy gain i := by
  refine Eq.trans ?_ (NormRow.grads_chain x dy gain _ i)
  pointwise [val_main_v0, val_main_v1, val_main_cst, val_main_v2, val_main_v3, val_main_cst_0, val_main_v4, val_main_v5, val_main_cst_1,
    val_main_v6, val_main_v7, val_main_v8, val_main_v9, val_main_cst_2, val_main_v10, val_main_v11, val_main_v12, val_main_v13,
    val_main_v14, val_main_v15, val_main_v16, val_main_v17, val_main_v18, val_main_v19, val_main_cst_3, val_main_v20,
    val_main_v21, val_main_v22, val_main_v23, val_main_cst_4, val_main_v24, val_main_v25, val_main_cst_5, val_main_v26,
    val_main_v27, val_main_v28, val_main_v29, val_main_v30, val_main_v31, val_main_cst_6, val_main_v32, val_main_v33,
    val_main_cst_7, val_main_v34, val_main_v35, val_main_v36, val_main_v37, val_main_v38, val_main_v39, val_main_v40, NormRow.root, NormRow.scale, NormRow.square, NormRow.rows,
    NormRow.gained, Residual.len, Residual.eps]
  rw [Fin.sum_univ_one]

end Cert.PleNormBwdRefIdeal.Read

namespace Cert.PleNormBwd

open Cert.PleNormBwdIdeal.Val in
/-- Over the extended reals the call computes what the differentiation of the norm computes. -/
theorem equal : Cert.algebraic_PleNormBwdIdeal_PleNormBwdRefIdeal := by
  pair_intro
  · run_from Cert.PleNormBwdIdeal.Gen.run_main m g
  · refine (θ_run _ _ _).mono (fun r hr c => ?_) (Cert.PleNormBwdRefIdeal.Value.run m' g')
    obtain ⟨e0, e1, e2, e3⟩ := hagree c
    obtain ⟨v0, v1, vs⟩ := hr c
    refine ⟨v0.trans ?_, v1.trans ?_, vs⟩
    · rw [Cert.PleNormBwdRefIdeal.Read.val_main_v40_eq, e0, e1, e2, e3, final_dx]
      exact funext fun i => Cert.PleNormBwdRefIdeal.Read.stream _ _ _ _ i
    · rw [Cert.PleNormBwdRefIdeal.Read.val_main_v24_eq, e0, e2, tail_gain, final_gain]
      exact funext fun j => (Cert.PleNormBwdRefIdeal.Read.gain _ _ j).trans (hostSum_total _ j).symm

/-- The reference terminates and leaves its arguments unchanged. -/
theorem frame_reference : Cert.quiescent_PleNormBwdRefIdeal := by
  intro m g _
  hlo_run
  · exact fun _ => ⟨trivial, trivial, trivial, trivial⟩
  · exact sem_eq_zero_of_no_sems rfl _

end Cert.PleNormBwd

end
-- ==== Proof.Norm1BwdVal.lean ====
/- The gradient of the two norms after the gated per-layer embedding, of their gains, of the gate and of the embedding. -/
module

public import proofs.«01_k».proof.Proof.Gen.Norm1BwdIdeal.Frame
public import proofs.«01_k».proof.Proof.Gated
public import proofs.«01_k».proof.Proof.ColumnSums
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Norm1BwdIdeal.Val

open Cert.Norm1BwdIdeal Cert.Norm1BwdIdeal.Gen

variable (m : (ℓ : Loc nD τ sig) → Buf (Elt Ideal) ℓ)

/-- The blocks of the operands and of the results at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_11.index t = ![t.val, 0] ∧ win0_12.index t = ![t.val, 0] :=
  (by decide +kernel : ∀ t : Fin grid0.N, _)

theorem points (t : Fin cfg0.N) : t.val < 16 := lt_of_lt_of_eq t.isLt N_0

/-- The arguments: the stream, the two norms' gains, their cotangents, the cotangent that goes past the norms, the gate and
    the embedding. -/
abbrev x (c : Dev nD) : S8192x1024.Idx → EReal := m ((c : Thread nD τ).loc main_arg0)
abbrev gain1 (c : Dev nD) : S1x1024.Idx → EReal := m ((c : Thread nD τ).loc main_arg1)
abbrev gain2 (c : Dev nD) : S1x1024.Idx → EReal := m ((c : Thread nD τ).loc main_arg2)
abbrev dy1 (c : Dev nD) : S8192x1024.Idx → EReal := m ((c : Thread nD τ).loc main_arg3)
abbrev dy2 (c : Dev nD) : S8192x1024.Idx → EReal := m ((c : Thread nD τ).loc main_arg4)
abbrev past (c : Dev nD) : S8192x1024.Idx → EReal := m ((c : Thread nD τ).loc main_arg5)
abbrev gate (c : Dev nD) : S8192x1024.Idx → EReal := m ((c : Thread nD τ).loc main_arg6)
abbrev emb (c : Dev nD) : S8192x1024.Idx → EReal := m ((c : Thread nD τ).loc main_arg7)

/-- The stream's cotangent, of the arguments. -/
def dx (c : Dev nD) : S8192x1024.Idx → EReal := fun i => past m c i + NormRow.grads (x m c) (dy1 m c) (gain1 m c) i
  + NormRow.grads (x m c) (dy2 m c) (gain2 m c) i

/-- What the body computes of the stream's cotangent at a grid point. -/
abbrev body (c : Dev nD) (t : Fin cfg0.N) : FVec Ideal S512x1024 .f32 :=
  k0_pay10 (k0_pay3 (iblk m c 0 t)) (k0_pay4 (iblk m c 0 t))
    (k0_pay6 (iblk m c 0 t) (iblk m c 1 t) (iblk m c 4 t) (iblk m c 2 t)) (iblk m c 5 t) (iblk m c 3 t)

/-- A block of the stream's cotangent. -/
theorem point_dx (c : Dev nD) (t : Fin cfg0.N) : body m c t
    = fun i => dx m c (ix2 ⟨t.val * 512 + (i 0).val, by have := points t; have : (i 0).val < 512 := (i 0).isLt; omega⟩ (i 1)) := by
  have ht := points t
  funext i
  pointwise [body, k0_pay3, k0_pay4, k0_pay5, k0_pay6, k0_pay9, k0_pay10, dx, NormRow.grads, NormRow.grad, NormRow.gained,
    NormRow.scale, NormRow.square, NormRow.rows, Residual.len, Residual.eps]
  blk_point [iblk, V, idx t]

/-- The first gains' part, of a block. -/
theorem point_gain1 (c : Dev nD) (t : Fin cfg0.N) : k0_pay7 (iblk m c 0 t) (iblk m c 4 t)
    = ColumnSums.part (NormRow.gains (x m c) (dy1 m c)) ⟨t.val, points t⟩ := by
  have ht := points t
  funext i
  pointwise [k0_pay3, k0_pay4, k0_pay5, k0_pay7, ColumnSums.part, NormRow.gains, NormRow.scale, NormRow.square, NormRow.rows, Residual.len, Residual.eps]
  blk_point [iblk, V, idx t]

/-- The second gains' part, of a block. -/
theorem point_gain2 (c : Dev nD) (t : Fin cfg0.N) : k0_pay11 (k0_pay4 (iblk m c 0 t)) (iblk m c 5 t)
    = ColumnSums.part (NormRow.gains (x m c) (dy2 m c)) ⟨t.val, points t⟩ := by
  have ht := points t
  funext i
  pointwise [k0_pay3, k0_pay4, k0_pay9, k0_pay11, ColumnSums.part, NormRow.gains, NormRow.scale, NormRow.square, NormRow.rows, Residual.len, Residual.eps]
  blk_point [iblk, V, idx t]

/-- The first result's array after the run is the stream's cotangent. -/
theorem final_dx (c : Dev nD) : (dats m 0 c).arrAt 8 (cfgs 0).N = dx m c := by
  refine (dats m 0 c).arrAt_eq_of_covers 8 _ (by decide +kernel) fun t _ y => ?_
  have ht := points t
  blk_simp
  rw [after0_8]
  refine Eq.trans (b := body m c t y) ?_ ?_
  · by_cases h0 : t.val % 16 = 0
    · rw [outsAt0_A m c t h0 (by omega) h0 (by omega)]; frame_out; pointwise [k0_pay13]
    · rw [outsAt0_B m c t h0 (by omega) h0 (by omega)]; frame_out; pointwise [k0_pay13]
  · rw [point_dx]
    generalize dx m c = d
    blk_point [idx t]

/-- The gate's cotangent after the run. -/
theorem final_gate (c : Dev nD) : (dats m 0 c).arrAt 11 (cfgs 0).N = Gated.gateGrad (dx m c) (gate m c) (emb m c) := by
  refine (dats m 0 c).arrAt_eq_of_covers 11 _ (by decide +kernel) fun t _ y => ?_
  have ht := points t
  blk_simp
  rw [after0_11]
  refine Eq.trans (b := k0_pay1 (body m c t) (k0_pay14 (iblk m c 7 t)) (k0_pay15 (iblk m c 6 t)) y) ?_ ?_
  · by_cases h0 : t.val % 16 = 0
    · rw [outsAt0_A m c t h0 (by omega) h0 (by omega)]; frame_out
    · rw [outsAt0_B m c t h0 (by omega) h0 (by omega)]; frame_out
  · rw [point_dx]
    generalize dx m c = d
    pointwise [k0_pay1, k0_pay14, k0_pay15, Gated.gateGrad]
    simp only [NormRow.half_tanh]
    blk_point [iblk, V, idx t]

/-- The embedding's cotangent after the run. -/
theorem final_emb (c : Dev nD) : (dats m 0 c).arrAt 12 (cfgs 0).N = Gated.embGrad (dx m c) (gate m c) := by
  refine (dats m 0 c).arrAt_eq_of_covers 12 _ (by decide +kernel) fun t _ y => ?_
  have ht := points t
  blk_simp
  rw [after0_12]
  refine Eq.trans (b := k0_pay2 (body m c t) (k0_pay15 (iblk m c 6 t)) y) ?_ ?_
  · by_cases h0 : t.val % 16 = 0
    · rw [outsAt0_A m c t h0 (by omega) h0 (by omega)]; frame_out
    · rw [outsAt0_B m c t h0 (by omega) h0 (by omega)]; frame_out
  · rw [point_dx]
    generalize dx m c = d
    pointwise [k0_pay2, k0_pay15, Gated.embGrad]
    simp only [NormRow.half_tanh]
    blk_point [iblk, V, idx t]

/-- The first gains' eight rows after the run. -/
theorem final_gain1 (c : Dev nD) : (dats m 0 c).arrAt 9 (cfgs 0).N = ColumnSums.total (NormRow.gains (x m c) (dy1 m c)) := by
  refine (dats m 0 c).arrAt_eq_of_covers 9 _ (by decide +kernel) fun t hf y => ?_
  have h16 : cfg0.N = 16 := N_0
  have hl := (flush0_9 t).mp hf
  blk_simp
  rw [after0_9, Pipeline.eq_sum_fin_of_reset_step_apply_last (fun n hn => (outsAt0 m c n hn).2.1) 16 (fun _ => 0)
    (fun t => ColumnSums.part (NormRow.gains (x m c) (dy1 m c)) ⟨t.val, points t⟩)
    (fun t h0 i => by
      have ht := points t
      rw [outsAt0_A m c t h0 (by omega) h0 (by omega)]; frame_out; rw [point_gain1 m c t, zero_add])
    (fun t h0 i => by
      rw [outsAt0_B m c t h0 (by omega) h0 (by omega)]; frame_out; pointwise [k0_pay8]; rw [point_gain1 m c t]; rfl)
    (le_of_eq N_0) t (by have := t.isLt; omega) y, zero_add]
  refine Eq.trans (b := ColumnSums.total (NormRow.gains (x m c) (dy1 m c)) y) (Fintype.sum_equiv (finCongr N_0) _ _ fun _ => rfl) ?_
  generalize ColumnSums.total (NormRow.gains (x m c) (dy1 m c)) = f
  blk_point [idx t]

/-- The second gains' eight rows after the run. -/
theorem final_gain2 (c : Dev nD) : (dats m 0 c).arrAt 10 (cfgs 0).N = ColumnSums.total (NormRow.gains (x m c) (dy2 m c)) := by
  refine (dats m 0 c).arrAt_eq_of_covers 10 _ (by decide +kernel) fun t hf y => ?_
  have h16 : cfg0.N = 16 := N_0
  have hl := (flush0_10 t).mp hf
  blk_simp
  rw [after0_10, Pipeline.eq_sum_fin_of_reset_step_apply_last (fun n hn => (outsAt0 m c n hn).2.2.1) 16 (fun _ => 0)
    (fun t => ColumnSums.part (NormRow.gains (x m c) (dy2 m c)) ⟨t.val, points t⟩)
    (fun t h0 i => by
      have ht := points t
      rw [outsAt0_A m c t h0 (by omega) h0 (by omega)]; frame_out; rw [point_gain2 m c t, zero_add])
    (fun t h0 i => by
      rw [outsAt0_B m c t h0 (by omega) h0 (by omega)]; frame_out; pointwise [k0_pay12]; rw [point_gain2 m c t]; rfl)
    (le_of_eq N_0) t (by have := t.isLt; omega) y, zero_add]
  refine Eq.trans (b := ColumnSums.total (NormRow.gains (x m c) (dy2 m c)) y) (Fintype.sum_equiv (finCongr N_0) _ _ fun _ => rfl) ?_
  generalize ColumnSums.total (NormRow.gains (x m c) (dy2 m c)) = f
  blk_point [idx t]

theorem arrays_distinct : Function.Injective (Pipeline.arrRef (cfgs 0).spec) := by
  decide +kernel

/-- The host's sum of an array's eight rows. -/
def hostSum (A : S8x1024.Idx → EReal) : S1024.Idx → EReal :=
  Host.reduceAdd (F := Ideal) (φ := .f32) A (constant S_ .f32 0x00000000#32) reducesTo_S8x1024_S1024_d0 h_S_

theorem hostSum_total (A : S8192x1024.Idx → EReal) (j : S1024.Idx) : hostSum (ColumnSums.total A) j = ∑ r : Fin 8192, A (ix2 r (j 0)) := by
  unfold hostSum
  pointwise
  exact ColumnSums.sum_total A (j 0)

theorem tail_gain1 (c : Dev nD) :
    Pipeline.afterTail₀ cfgs (dats m) 0 (V0 m) [hostOps1] c main_v1 = hostSum ((dats m 0 c).arrAt 9 (cfgs 0).N) := by
  unfold Pipeline.afterTail₀ hostOps1
  simp only [List.flatten_cons, List.flatten_nil, List.append_nil]
  after_results_simp
  exact congrArg hostSum (Pipeline.withArrays_arr _ arrays_distinct c (V0 m c) (fun w => (dats m 0 c).arrAt w (cfgs 0).N) 9)

theorem tail_gain2 (c : Dev nD) :
    Pipeline.afterTail₀ cfgs (dats m) 0 (V0 m) [hostOps1] c main_v2 = hostSum ((dats m 0 c).arrAt 10 (cfgs 0).N) := by
  unfold Pipeline.afterTail₀ hostOps1
  simp only [List.flatten_cons, List.flatten_nil, List.append_nil]
  after_results_simp
  exact congrArg hostSum (Pipeline.withArrays_arr _ arrays_distinct c (V0 m c) (fun w => (dats m 0 c).arrAt w (cfgs 0).N) 10)

/-- The gains' gradients after the run. -/
theorem left_gain1 (c : Dev nD) : Pipeline.afterTail₀ cfgs (dats m) 0 (V0 m) [hostOps1] c main_v1
    = fun j : S1024.Idx => ∑ r : Fin 8192, NormRow.gains (x m c) (dy1 m c) (ix2 r (j 0)) := by
  rw [tail_gain1, final_gain1]
  exact funext fun j => hostSum_total _ j

theorem left_gain2 (c : Dev nD) : Pipeline.afterTail₀ cfgs (dats m) 0 (V0 m) [hostOps1] c main_v2
    = fun j : S1024.Idx => ∑ r : Fin 8192, NormRow.gains (x m c) (dy2 m c) (ix2 r (j 0)) := by
  rw [tail_gain2, final_gain2]
  exact funext fun j => hostSum_total _ j

end Cert.Norm1BwdIdeal.Val

end
-- ==== Proof.Norm1BwdRef.lean ====
/- What the differentiation of the two norms, the gate and the embedding computes. -/
module

public import proofs.«01_k».proof.Proof.Gen.Norm1BwdRefIdeal.Read
public import proofs.«01_k».proof.Proof.Gated

@[expose] public section

set_option maxRecDepth 16384

noncomputable section

open Idealize.ShloMosaic Idealize.ShloMosaic.TcCoe Idealize.SL.Sem

namespace Cert.Norm1BwdRefIdeal.Read

/-- The first gains' gradient is the sum of what each row gives them. -/
theorem gain1 (x dy : S8192x1024.Idx → EReal) (j : S1024.Idx) :
    (val_main_v63 (F := Ideal) x dy : S1024.Idx → EReal) j = ∑ r : Fin 8192, NormRow.gains x dy (ix2 r (j 0)) := by
  pointwise [val_main_v2, val_main_cst, val_main_v3, val_main_v4, val_main_cst_0, val_main_v5, val_main_v6, val_main_cst_1, val_main_v7,
    val_main_v8, val_main_v9, val_main_v13, val_main_v14, val_main_v35, val_main_v58, val_main_cst_12, val_main_v59,
    val_main_v60, val_main_cst_13, val_main_v63,
    NormRow.gains, NormRow.scale, NormRow.square, NormRow.rows, Residual.len, Residual.eps]
  exact (Fin.sum_univ_one _).trans (Finset.sum_congr rfl fun r _ => mul_comm _ _)

/-- The second gains' gradient is the sum of what each row gives them. -/
theorem gain2 (x dy : S8192x1024.Idx → EReal) (j : S1024.Idx) :
    (val_main_v42 (F := Ideal) x dy : S1024.Idx → EReal) j = ∑ r : Fin 8192, NormRow.gains x dy (ix2 r (j 0)) := by
  pointwise [val_main_v18, val_main_cst_3, val_main_v19, val_main_v20, val_main_cst_4, val_main_v21, val_main_v22, val_main_cst_5,
    val_main_v23, val_main_v24, val_main_v25, val_main_v29, val_main_v30, val_main_v36, val_main_v37, val_main_cst_7,
    val_main_v38, val_main_v39, val_main_cst_8, val_main_v42,
    NormRow.gains, NormRow.scale, NormRow.square, NormRow.rows, Residual.len, Residual.eps]
  exact (Fin.sum_univ_one _).trans (Finset.sum_congr rfl fun r _ => mul_comm _ _)

/-- The stream's cotangent through the second norm is what goes past the norms and the rows' gradient. -/
theorem stream2 (x gain2 dy2 past) (i : S8192x1024.Idx) :
    (val_main_v57 (F := Ideal) x gain2 dy2 past : S8192x1024.Idx → EReal) i
      = (past : S8192x1024.Idx → EReal) i + NormRow.grads x dy2 gain2 i := by
  refine Eq.trans ?_ (NormRow.grads_chain x dy2 gain2 _ i)
  pointwise [val_main_v1, val_main_v18, val_main_cst_3, val_main_v19, val_main_v20, val_main_cst_4, val_main_v21, val_main_v22,
    val_main_cst_5, val_main_v23, val_main_v24, val_main_v25, val_main_v26, val_main_cst_6, val_main_v27, val_main_v28,
    val_main_v31, val_main_v34, val_main_v36, val_main_v40, val_main_v41, val_main_v43, val_main_cst_9, val_main_v44,
    val_main_v45, val_main_v46, val_main_v47, val_main_v48, val_main_v49, val_main_cst_10, val_main_v50, val_main_v51,
    val_main_cst_11, val_main_v52, val_main_v53, val_main_v54, val_main_v55, val_main_v56, val_main_v57,
    NormRow.root, NormRow.gained, NormRow.scale, NormRow.square, NormRow.rows, Residual.len, Residual.eps]
  rw [Fin.sum_univ_one]

/-- The stream's cotangent is what goes past the norms and the rows' gradients. -/
theorem stream (x gain1 gain2 dy1 dy2 past) (i : S8192x1024.Idx) :
    (val_main_v78 (F := Ideal) x gain1 gain2 dy1 dy2 past : S8192x1024.Idx → EReal) i
      = (past : S8192x1024.Idx → EReal) i + NormRow.grads x dy1 gain1 i + NormRow.grads x dy2 gain2 i := by
  refine Eq.trans (b := (val_main_v57 (F := Ideal) x gain2 dy2 past : S8192x1024.Idx → EReal) i + NormRow.grads x dy1 gain1 i) ?_ ?_
  · refine Eq.trans ?_ (NormRow.grads_chain x dy1 gain1 _ i)
    pointwise [val_main_v0, val_main_v2, val_main_cst, val_main_v3, val_main_v4, val_main_cst_0, val_main_v5, val_main_v6, val_main_cst_1,
    val_main_v7, val_main_v8, val_main_v9, val_main_v10, val_main_cst_2, val_main_v11, val_main_v12, val_main_v15, val_main_v35,
    val_main_v61, val_main_v62, val_main_v64, val_main_cst_14, val_main_v65, val_main_v66, val_main_v67, val_main_v68,
    val_main_v69, val_main_v70, val_main_cst_15, val_main_v71, val_main_v72, val_main_cst_16, val_main_v73, val_main_v74,
    val_main_v75, val_main_v76, val_main_v77, val_main_v78,
      NormRow.root, NormRow.gained, NormRow.scale, NormRow.square, NormRow.rows, Residual.len, Residual.eps]
    rw [Fin.sum_univ_one]
  · rw [stream2, add_right_comm]

/-- The gate's cotangent, of the stream's. -/
theorem gate (x gain1 gain2 dy1 dy2 past gate emb) :
    (val_main_v95 (F := Ideal) x gain1 gain2 dy1 dy2 past gate emb : S8192x1024.Idx → EReal)
      = Gated.gateGrad (val_main_v78 (F := Ideal) x gain1 gain2 dy1 dy2 past : S8192x1024.Idx → EReal) gate emb := by
  funext i
  pointwise [val_main_v79, val_main_v80, val_main_v81, val_main_v82, val_main_cst_17, val_main_v83, val_main_v84, val_main_cst_18,
    val_main_v85, val_main_v86, val_main_cst_19, val_main_v87, val_main_v88, val_main_v89, val_main_v92, val_main_v93,
    val_main_v95, Gated.gateGrad,
    Ideal.logistic]
  exact (mul_assoc _ _ _).symm

/-- The embedding's cotangent, of the stream's. -/
theorem emb (x gain1 gain2 dy1 dy2 past gate) :
    (val_main_v96 (F := Ideal) x gain1 gain2 dy1 dy2 past gate : S8192x1024.Idx → EReal)
      = Gated.embGrad (val_main_v78 (F := Ideal) x gain1 gain2 dy1 dy2 past : S8192x1024.Idx → EReal) gate := by
  funext i
  pointwise [val_main_v79, val_main_v81, val_main_v82, val_main_cst_17, val_main_v83, val_main_v84, val_main_cst_18, val_main_v85,
    val_main_v86, val_main_v91, val_main_v96, Gated.embGrad,
    Ideal.logistic]
  exact mul_comm _ _

end Cert.Norm1BwdRefIdeal.Read

end
-- ==== Proof.Norm1Bwd.lean ====
/- The gradient of the two norms after the gated per-layer embedding, of their gains, of the gate and of the embedding. -/
module

public import proofs.«01_k».proof.Defs
public import proofs.«01_k».proof.Proof.Gen.Norm1Bwd.Frame
public import proofs.«01_k».proof.Proof.Norm1BwdVal
public import proofs.«01_k».proof.Proof.Norm1BwdRef

@[expose] public section

set_option maxRecDepth 16384

noncomputable section

open Idealize.ShloMosaic Idealize.ShloMosaic.TcCoe Idealize.SL.Sem

namespace Cert.Norm1Bwd

open Cert.Norm1BwdIdeal.Val Cert.Norm1BwdRefIdeal.Read

section

variable (m : (ℓ : Loc Cert.Norm1BwdIdeal.nD Cert.Norm1BwdIdeal.τ Cert.Norm1BwdIdeal.sig) → Buf (Elt Ideal) ℓ)
  (c : Dev Cert.Norm1BwdIdeal.nD) {x' d1 d2 p t e : Shape.Idx ⟨2, ![8192, 1024]⟩ → EReal} {g1 g2 : Shape.Idx ⟨2, ![1, 1024]⟩ → EReal}
  (h0 : x' = x m c) (h1 : g1 = gain1 m c) (h2 : g2 = gain2 m c) (h3 : d1 = dy1 m c) (h4 : d2 = dy2 m c) (h5 : p = past m c)
  (h6 : t = gate m c) (h7 : e = emb m c)
include h0 h1 h2 h3 h4 h5

/-- The reference's results on equal arguments. -/
theorem same_dx : val_main_v78 (F := Ideal) x' g1 g2 d1 d2 p = dx m c := by
  subst h0 h1 h2 h3 h4 h5
  exact funext fun i => stream _ _ _ _ _ _ i

theorem same_narrow : val_main_v94 (F := Ideal) x' g1 g2 d1 d2 p = dx m c :=
  Eq.trans (b := (val_main_v78 (F := Ideal) x' g1 g2 d1 d2 p : Shape.Idx ⟨2, ![8192, 1024]⟩ → EReal)) (by unfold val_main_v94; rfl)
    (same_dx m c h0 h1 h2 h3 h4 h5)

include h6 in
theorem same_emb : val_main_v96 (F := Ideal) x' g1 g2 d1 d2 p t = Gated.embGrad (dx m c) (gate m c) := by
  rw [← same_dx m c h0 h1 h2 h3 h4 h5, ← h6]
  exact Cert.Norm1BwdRefIdeal.Read.emb _ _ _ _ _ _ _

include h6 h7 in
theorem same_gate : val_main_v95 (F := Ideal) x' g1 g2 d1 d2 p t e = Gated.gateGrad (dx m c) (gate m c) (emb m c) := by
  rw [← same_dx m c h0 h1 h2 h3 h4 h5, ← h6, ← h7]
  exact Cert.Norm1BwdRefIdeal.Read.gate _ _ _ _ _ _ _ _

omit h1 h2 h4 h5 in
theorem same_gain1 : val_main_v63 (F := Ideal) x' d1 = fun j => ∑ r : Fin 8192, NormRow.gains (x m c) (dy1 m c) (ix2 r (j 0)) := by
  subst h0 h3
  exact funext fun j => Cert.Norm1BwdRefIdeal.Read.gain1 _ _ j

omit h1 h2 h3 h5 in
theorem same_gain2 : val_main_v42 (F := Ideal) x' d2 = fun j => ∑ r : Fin 8192, NormRow.gains (x m c) (dy2 m c) (ix2 r (j 0)) := by
  subst h0 h4
  exact funext fun j => Cert.Norm1BwdRefIdeal.Read.gain2 _ _ j

end

set_option maxHeartbeats 1600000 in
/-- Over the extended reals the call computes what the differentiation of the norms computes. -/
theorem equal : Cert.algebraic_Norm1BwdIdeal_Norm1BwdRefIdeal := by
  pair_intro
  · run_from Cert.Norm1BwdIdeal.Gen.run_main m g
  · refine (θ_run _ _ _).mono (fun r hr c => ?_) (Cert.Norm1BwdRefIdeal.Value.run m' g')
    obtain ⟨e0, e1, e2, e3, e4, e5, e6, e7⟩ := hagree c
    obtain ⟨v0, v1, v2, v3, v4, vs⟩ := hr c
    refine ⟨v0.trans ?_, v1.trans ?_, v2.trans ?_, v3.trans ?_, v4.trans ?_, vs⟩
    · exact (val_main_v94_eq m' c).trans ((same_narrow m c e0 e1 e2 e3 e4 e5).trans (final_dx m c).symm)
    · exact (val_main_v63_eq _ _).trans ((same_gain1 m c e0 e3).trans (left_gain1 m c).symm)
    · exact (val_main_v42_eq _ _).trans ((same_gain2 m c e0 e4).trans (left_gain2 m c).symm)
    · exact (val_main_v95_eq m' c).trans ((same_gate m c e0 e1 e2 e3 e4 e5 e6 e7).trans (final_gate m c).symm)
    · exact (val_main_v96_eq m' c).trans ((same_emb m c e0 e1 e2 e3 e4 e5 e6).trans (final_emb m c).symm)

/-- The reference terminates and leaves its arguments unchanged. -/
theorem frame_reference : Cert.quiescent_Norm1BwdRefIdeal := by
  intro m g _
  hlo_run
  · exact fun _ => ⟨trivial, trivial, trivial, trivial, trivial, trivial, trivial, trivial⟩
  · exact sem_eq_zero_of_no_sems rfl _

end Cert.Norm1Bwd

end
-- ==== Proof.Norm0.lean ====
/- The first norm of the residual stream. -/
module

public import proofs.«01_k».proof.Defs
public import proofs.«01_k».proof.Proof.Gen.Norm0.Frame
public import proofs.«01_k».proof.Proof.Gen.Norm0Ideal.Frame
public import proofs.«01_k».proof.Proof.Gen.Norm0RefIdeal.Read
public import proofs.«01_k».proof.Proof.Residual
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Norm0Ideal.Val

open Cert.Norm0Ideal Cert.Norm0Ideal.Gen

variable (m : (ℓ : Loc nD τ sig) → Buf (Elt Ideal) ℓ)

/-- The blocks of the operands and of the result at a grid point. -/
theorem idx : ∀ t : Fin cfg0.N, win0_0.index t = ![t.val, 0] ∧ win0_1.index t = ![0, 0] ∧ win0_2.index t = ![t.val, 0] :=
  (by decide +kernel : ∀ t : Fin grid0.N, _)

/-- The result's array after the run is the stream's norm. -/
theorem final (c : Dev nD) : (dats m 0 c).arrAt 2 (cfgs 0).N = Residual.normed Residual.len Residual.eps
    (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, Residual.normed, Residual.len, Residual.eps]
  blk_point [iblk, V, idx t]

end Cert.Norm0Ideal.Val

namespace Cert.Norm0

/-- Over the extended reals the call computes what its reference computes. -/
theorem equal : Cert.algebraic_Norm0Ideal_Norm0RefIdeal := by
  pair_intro
  · run_from Cert.Norm0Ideal.Gen.run_main m g
  · hlo_run
    rw [Cert.Norm0Ideal.Val.final]
    funext i
    pointwise [Residual.normed, Residual.len, Residual.eps]

/-- The reference terminates and leaves its arguments unchanged. -/
theorem frame_reference : Cert.quiescent_Norm0RefIdeal := by
  intro m g _
  hlo_run
  · exact fun _ => ⟨trivial, trivial⟩
  · exact sem_eq_zero_of_no_sems rfl _

end Cert.Norm0

end
-- ==== Proof.PleNorm.lean ====
/- The gated per-layer embedding, and the two norms of the stream after it. -/
module

public import proofs.«01_k».proof.Defs
public import proofs.«01_k».proof.Proof.Gen.PleNorm.Frame
public import proofs.«01_k».proof.Proof.Gen.PleNormIdeal.Frame
public import proofs.«01_k».proof.Proof.Gen.PleNormRefIdeal.Read
public import proofs.«01_k».proof.Proof.Gated
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.PleNormIdeal.Val

open Cert.PleNormIdeal Cert.PleNormIdeal.Gen

variable (m : (ℓ : Loc nD τ sig) → Buf (Elt Ideal) ℓ)

/-- The blocks of the operands and of the results at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The new residual stream, of the arguments. -/
def stream (c : Dev nD) : S8192x1024.Idx → EReal :=
  Gated.sum (m ((c : Thread nD τ).loc main_arg0)) (m ((c : Thread nD τ).loc main_arg1)) (m ((c : Thread nD τ).loc main_arg2))

/-- The first result's array after the run is the new residual stream. -/
theorem final_stream (c : Dev nD) : (dats m 0 c).arrAt 5 (cfgs 0).N = stream m c := by
  refine (dats m 0 c).arrAt_eq_of_covers 5 _ (by decide +kernel) fun t _ y => ?_
  blk_simp
  rw [after0_5]; frame_out
  pointwise [k0_pay1, stream, Gated.sum]
  simp only [NormRow.half_tanh]
  blk_point [iblk, V, idx t]

/-- The second result's array after the run is the stream's norm under the first gains. -/
theorem final_keys (c : Dev nD) : (dats m 0 c).arrAt 6 (cfgs 0).N
    = Residual.normed Residual.len Residual.eps (stream m c) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, stream, Gated.sum, Residual.normed, Residual.len, Residual.eps]
  simp only [NormRow.half_tanh]
  blk_point [iblk, V, idx t]

/-- The third result's array after the run is the stream's norm under the second gains. -/
theorem final_inputs (c : Dev nD) : (dats m 0 c).arrAt 7 (cfgs 0).N
    = Residual.normed Residual.len Residual.eps (stream m c) (m ((c : Thread nD τ).loc main_arg4)) := by
  refine (dats m 0 c).arrAt_eq_of_covers 7 _ (by decide +kernel) fun t _ y => ?_
  blk_simp
  rw [after0_7]; frame_out
  pointwise [k0_pay1, k0_pay2, k0_pay4, stream, Gated.sum, Residual.normed, Residual.len, Residual.eps]
  simp only [NormRow.half_tanh]
  blk_point [iblk, V, idx t]

end Cert.PleNormIdeal.Val

namespace Cert.PleNorm

/-- Over the extended reals the call computes what its reference computes. -/
theorem equal : Cert.algebraic_PleNormIdeal_PleNormRefIdeal := by
  pair_intro
  · run_from Cert.PleNormIdeal.Gen.run_main m g
  · hlo_run
    · rw [Cert.PleNormIdeal.Val.final_stream]
      funext i
      pointwise [Cert.PleNormIdeal.Val.stream, Gated.sum, Ideal.logistic]
    · rw [Cert.PleNormIdeal.Val.final_keys]
      funext i
      pointwise [Cert.PleNormIdeal.Val.stream, Gated.sum, Ideal.logistic, Residual.normed, Residual.len, Residual.eps]
    · rw [Cert.PleNormIdeal.Val.final_inputs]
      funext i
      pointwise [Cert.PleNormIdeal.Val.stream, Gated.sum, Ideal.logistic, Residual.normed, Residual.len, Residual.eps]

/-- The reference terminates and leaves its arguments unchanged. -/
theorem frame_reference : Cert.quiescent_PleNormRefIdeal := by
  intro m g _
  hlo_run
  · exact fun _ => ⟨trivial, trivial, trivial, trivial, trivial⟩
  · exact sem_eq_zero_of_no_sems rfl _

end Cert.PleNorm

end
-- ==== Proof.DUFirst.lean ====
/- The gradient of the convolution mixer's normalised input through its projection. -/
module

public import proofs.«01_k».proof.Defs
public import proofs.«01_k».proof.Proof.Gen.DUFirst.Frame
public import proofs.«01_k».proof.Proof.Gen.DUFirstIdeal.Frame
public import proofs.«01_k».proof.Proof.Gen.DUFirstRefIdeal
public import proofs.«01_k».proof.Proof.Products
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.Products

namespace Cert.DUFirstIdeal.Val

open Cert.DUFirstIdeal Cert.DUFirstIdeal.Gen

variable (m : (ℓ : Loc nD τ sig) → Buf (Elt Ideal) ℓ)

/-- The blocks of the operands and of the result at a grid point. -/
theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- The result's array after the run is the whole product. -/
theorem final (c : Dev nD) : (dats m 0 c).arrAt 2 (cfgs 0).N
    = rowsRows (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hlt : t.val - 1 < cfg0.N := lt_of_le_of_lt (Nat.sub_le _ _) t.isLt
  have halves : ∀ f : Fin 6144 → EReal, ∑ k, f k = ∑ j : Fin 2, ∑ k : Fin 3072, f ⟨j.val * 3072 + k.val, by omega⟩ :=
    fun f => Fin.sum_univ_tiles 2 3072 rfl f
  rw [after0_2, outsAt0_B m c t (by omega) ht ht, outsAt0_A m c ⟨t.val - 1, hlt⟩ (by show (t.val - 1) % 2 = 0; omega)
    (by show ¬(t.val - 1) % 2 = 1; omega) (by show ¬(t.val - 1) % 2 = 1; omega)]
  frame_out
  simp only [read_unread_whole]
  have hs : (⟨t.val - 1, hlt⟩ : Fin cfg0.N).val + 1 = t.val := by show t.val - 1 + 1 = t.val; omega
  generalize (⟨t.val - 1, hlt⟩ : Fin cfg0.N) = s at hs ⊢
  pointwise [k0_pay4, k0_pay3, k0_pay2, k0_pay1, rowsRows, halves]
  rw [Fin.sum_univ_two]
  blk_point [iblk, V, idx t, idx s]

end Cert.DUFirstIdeal.Val

namespace Cert.DUFirst

/-- Over the extended reals the call computes what its reference computes. -/
theorem equal : Cert.algebraic_DUFirstIdeal_DUFirstRefIdeal := by
  pair_intro
  · run_from Cert.DUFirstIdeal.Gen.run_main m g
  · hlo_run
    rw [Cert.DUFirstIdeal.Val.final]
    funext i
    pointwise [rowsRows]

/-- The reference terminates and leaves its arguments unchanged. -/
theorem frame_reference : Cert.quiescent_DUFirstRefIdeal := by
  intro m g _
  hlo_run
  · exact fun _ => ⟨trivial, trivial⟩
  · exact sem_eq_zero_of_no_sems rfl _

end Cert.DUFirst

end
-- ==== Proof.lean ====
/- The claims, assembled: the frames of the kernels from the generated frames, the frames of the references, and for each
   pair the equality over the extended reals, proved in a module of its own. -/
module

public import proofs.«01_k».proof.Defs
public import proofs.«01_k».proof.Proof.Gen.LnGate.Frame
public import proofs.«01_k».proof.Proof.Gen.LnGateIdeal.Frame
public import proofs.«01_k».proof.Proof.Gen.LnGateRefIdeal
public import proofs.«01_k».proof.Proof.Gen.DInA.Frame
public import proofs.«01_k».proof.Proof.Gen.DInAIdeal.Frame
public import proofs.«01_k».proof.Proof.Gen.DInARefIdeal
public import proofs.«01_k».proof.Proof.Gen.DInB.Frame
public import proofs.«01_k».proof.Proof.Gen.DInBIdeal.Frame
public import proofs.«01_k».proof.Proof.Gen.DInBRefIdeal
public import proofs.«01_k».proof.Proof.Gen.DKv.Frame
public import proofs.«01_k».proof.Proof.Gen.DKvIdeal.Frame
public import proofs.«01_k».proof.Proof.Gen.DKvRefIdeal
public import proofs.«01_k».proof.Proof.Gen.DProj.Frame
public import proofs.«01_k».proof.Proof.Gen.DProjIdeal.Frame
public import proofs.«01_k».proof.Proof.Gen.DProjRefIdeal
public import proofs.«01_k».proof.Proof.Gen.DOutA.Frame
public import proofs.«01_k».proof.Proof.Gen.DOutAIdeal.Frame
public import proofs.«01_k».proof.Proof.Gen.DOutARefIdeal
public import proofs.«01_k».proof.Proof.Gen.DSquare.Frame
public import proofs.«01_k».proof.Proof.Gen.DSquareIdeal.Frame
public import proofs.«01_k».proof.Proof.Gen.DSquareRefIdeal
public import proofs.«01_k».proof.Proof.Gen.DU.Frame
public import proofs.«01_k».proof.Proof.Gen.DUIdeal.Frame
public import proofs.«01_k».proof.Proof.Gen.DURefIdeal
public import proofs.«01_k».proof.Proof.Gen.DKvn.Frame
public import proofs.«01_k».proof.Proof.Gen.DKvnIdeal.Frame
public import proofs.«01_k».proof.Proof.Gen.DKvnRefIdeal
public import proofs.«01_k».proof.Proof.Gen.DM.Frame
public import proofs.«01_k».proof.Proof.Gen.DMIdeal.Frame
public import proofs.«01_k».proof.Proof.Gen.DMRefIdeal
public import proofs.«01_k».proof.Proof.Gen.DRows.Frame
public import proofs.«01_k».proof.Proof.Gen.DRowsIdeal.Frame
public import proofs.«01_k».proof.Proof.Gen.DRowsRefIdeal
public import proofs.«01_k».proof.Proof.Gen.InA.Frame
public import proofs.«01_k».proof.Proof.Gen.InAIdeal.Frame
public import proofs.«01_k».proof.Proof.Gen.InARefIdeal
public import proofs.«01_k».proof.Proof.Gen.InB.Frame
public import proofs.«01_k».proof.Proof.Gen.InBIdeal.Frame
public import proofs.«01_k».proof.Proof.Gen.InBRefIdeal
public import proofs.«01_k».proof.Proof.Gen.Kv.Frame
public import proofs.«01_k».proof.Proof.Gen.KvIdeal.Frame
public import proofs.«01_k».proof.Proof.Gen.KvRefIdeal
public import proofs.«01_k».proof.Proof.Gen.Gate.Frame
public import proofs.«01_k».proof.Proof.Gen.GateIdeal.Frame
public import proofs.«01_k».proof.Proof.Gen.GateRefIdeal
public import proofs.«01_k».proof.Proof.Gen.Proj.Frame
public import proofs.«01_k».proof.Proof.Gen.ProjIdeal.Frame
public import proofs.«01_k».proof.Proof.Gen.ProjRefIdeal
public import proofs.«01_k».proof.Proof.Gen.OutA.Frame
public import proofs.«01_k».proof.Proof.Gen.OutAIdeal.Frame
public import proofs.«01_k».proof.Proof.Gen.OutARefIdeal
public import proofs.«01_k».proof.Proof.Gen.OutB.Frame
public import proofs.«01_k».proof.Proof.Gen.OutBIdeal.Frame
public import proofs.«01_k».proof.Proof.Gen.OutBRefIdeal
public import proofs.«01_k».proof.Proof.Gen.AdamInA.Frame
public import proofs.«01_k».proof.Proof.Gen.AdamInAIdeal.Frame
public import proofs.«01_k».proof.Proof.Gen.AdamInARefIdeal
public import proofs.«01_k».proof.Proof.Gen.AdamSquare.Frame
public import proofs.«01_k».proof.Proof.Gen.AdamSquareIdeal.Frame
public import proofs.«01_k».proof.Proof.Gen.AdamSquareRefIdeal
public import proofs.«01_k».proof.Proof.Gen.AdamKv.Frame
public import proofs.«01_k».proof.Proof.Gen.AdamKvIdeal.Frame
public import proofs.«01_k».proof.Proof.Gen.AdamKvRefIdeal
public import proofs.«01_k».proof.Proof.Gen.AdamInB.Frame
public import proofs.«01_k».proof.Proof.Gen.AdamInBIdeal.Frame
public import proofs.«01_k».proof.Proof.Gen.AdamInBRefIdeal
public import proofs.«01_k».proof.Proof.Gen.AdamOutB.Frame
public import proofs.«01_k».proof.Proof.Gen.AdamOutBIdeal.Frame
public import proofs.«01_k».proof.Proof.Gen.AdamOutBRefIdeal
public import proofs.«01_k».proof.Proof.Gen.AdamProj.Frame
public import proofs.«01_k».proof.Proof.Gen.AdamProjIdeal.Frame
public import proofs.«01_k».proof.Proof.Gen.AdamProjRefIdeal
public import proofs.«01_k».proof.Proof.Gen.AdamSmall.Frame
public import proofs.«01_k».proof.Proof.Gen.AdamSmallIdeal.Frame
public import proofs.«01_k».proof.Proof.Gen.AdamSmallRefIdeal
public import proofs.«01_k».proof.Proof.Gen.Loss.Frame
public import proofs.«01_k».proof.Proof.Gen.LossIdeal.Frame
public import proofs.«01_k».proof.Proof.Gen.LossRefIdeal
public import proofs.«01_k».proof.Proof.Gen.Norm0Bwd.Frame
public import proofs.«01_k».proof.Proof.Gen.Norm0BwdIdeal.Frame
public import proofs.«01_k».proof.Proof.Gen.Norm0BwdRefIdeal
public import proofs.«01_k».proof.Proof.Gen.PleNormBwd.Frame
public import proofs.«01_k».proof.Proof.Gen.PleNormBwdIdeal.Frame
public import proofs.«01_k».proof.Proof.Gen.PleNormBwdRefIdeal
public import proofs.«01_k».proof.Proof.Gen.Norm1Bwd.Frame
public import proofs.«01_k».proof.Proof.Gen.Norm1BwdIdeal.Frame
public import proofs.«01_k».proof.Proof.Gen.Norm1BwdRefIdeal
public import proofs.«01_k».proof.Proof.Gen.Norm0.Frame
public import proofs.«01_k».proof.Proof.Gen.Norm0Ideal.Frame
public import proofs.«01_k».proof.Proof.Gen.Norm0RefIdeal
public import proofs.«01_k».proof.Proof.Gen.PleNorm.Frame
public import proofs.«01_k».proof.Proof.Gen.PleNormIdeal.Frame
public import proofs.«01_k».proof.Proof.Gen.PleNormRefIdeal
public import proofs.«01_k».proof.Proof.Gen.DUFirst.Frame
public import proofs.«01_k».proof.Proof.Gen.DUFirstIdeal.Frame
public import proofs.«01_k».proof.Proof.Gen.DUFirstRefIdeal
public import proofs.«01_k».proof.Proof.Gen.Pre_ln_gate_finite
public import proofs.«01_k».proof.Proof.LnGate
public import proofs.«01_k».proof.Proof.DInA
public import proofs.«01_k».proof.Proof.DInB
public import proofs.«01_k».proof.Proof.DKv
public import proofs.«01_k».proof.Proof.DProj
public import proofs.«01_k».proof.Proof.DOutA
public import proofs.«01_k».proof.Proof.DSquare
public import proofs.«01_k».proof.Proof.DU
public import proofs.«01_k».proof.Proof.DKvn
public import proofs.«01_k».proof.Proof.DM
public import proofs.«01_k».proof.Proof.DRows
public import proofs.«01_k».proof.Proof.InA
public import proofs.«01_k».proof.Proof.InB
public import proofs.«01_k».proof.Proof.Kv
public import proofs.«01_k».proof.Proof.Gate
public import proofs.«01_k».proof.Proof.Proj
public import proofs.«01_k».proof.Proof.OutA
public import proofs.«01_k».proof.Proof.OutB
public import proofs.«01_k».proof.Proof.AdamInA
public import proofs.«01_k».proof.Proof.AdamSquare
public import proofs.«01_k».proof.Proof.AdamKv
public import proofs.«01_k».proof.Proof.AdamInB
public import proofs.«01_k».proof.Proof.AdamOutB
public import proofs.«01_k».proof.Proof.AdamProj
public import proofs.«01_k».proof.Proof.AdamSmall
public import proofs.«01_k».proof.Proof.Loss
public import proofs.«01_k».proof.Proof.Norm0Bwd
public import proofs.«01_k».proof.Proof.PleNormBwd
public import proofs.«01_k».proof.Proof.Norm1Bwd
public import proofs.«01_k».proof.Proof.Norm0
public import proofs.«01_k».proof.Proof.PleNorm
public import proofs.«01_k».proof.Proof.DUFirst

@[expose] public section

noncomputable section

namespace Cert.Proof

open Idealize.ShloMosaic Idealize.SL.Sem

theorem claim : Cert.Claim := ⟨Cert.LnGate.Gen.facts,
    Cert.LnGateIdeal.Gen.facts,
    Cert.LnGateRefIdeal.Gen.facts,
    Cert.DInA.Gen.facts,
    Cert.DInAIdeal.Gen.facts,
    Cert.DInARefIdeal.Gen.facts,
    Cert.DInB.Gen.facts,
    Cert.DInBIdeal.Gen.facts,
    Cert.DInBRefIdeal.Gen.facts,
    Cert.DKv.Gen.facts,
    Cert.DKvIdeal.Gen.facts,
    Cert.DKvRefIdeal.Gen.facts,
    Cert.DProj.Gen.facts,
    Cert.DProjIdeal.Gen.facts,
    Cert.DProjRefIdeal.Gen.facts,
    Cert.DOutA.Gen.facts,
    Cert.DOutAIdeal.Gen.facts,
    Cert.DOutARefIdeal.Gen.facts,
    Cert.DSquare.Gen.facts,
    Cert.DSquareIdeal.Gen.facts,
    Cert.DSquareRefIdeal.Gen.facts,
    Cert.DU.Gen.facts,
    Cert.DUIdeal.Gen.facts,
    Cert.DURefIdeal.Gen.facts,
    Cert.DKvn.Gen.facts,
    Cert.DKvnIdeal.Gen.facts,
    Cert.DKvnRefIdeal.Gen.facts,
    Cert.DM.Gen.facts,
    Cert.DMIdeal.Gen.facts,
    Cert.DMRefIdeal.Gen.facts,
    Cert.DRows.Gen.facts,
    Cert.DRowsIdeal.Gen.facts,
    Cert.DRowsRefIdeal.Gen.facts,
    Cert.InA.Gen.facts,
    Cert.InAIdeal.Gen.facts,
    Cert.InARefIdeal.Gen.facts,
    Cert.InB.Gen.facts,
    Cert.InBIdeal.Gen.facts,
    Cert.InBRefIdeal.Gen.facts,
    Cert.Kv.Gen.facts,
    Cert.KvIdeal.Gen.facts,
    Cert.KvRefIdeal.Gen.facts,
    Cert.Gate.Gen.facts,
    Cert.GateIdeal.Gen.facts,
    Cert.GateRefIdeal.Gen.facts,
    Cert.Proj.Gen.facts,
    Cert.ProjIdeal.Gen.facts,
    Cert.ProjRefIdeal.Gen.facts,
    Cert.OutA.Gen.facts,
    Cert.OutAIdeal.Gen.facts,
    Cert.OutARefIdeal.Gen.facts,
    Cert.OutB.Gen.facts,
    Cert.OutBIdeal.Gen.facts,
    Cert.OutBRefIdeal.Gen.facts,
    Cert.AdamInA.Gen.facts,
    Cert.AdamInAIdeal.Gen.facts,
    Cert.AdamInARefIdeal.Gen.facts,
    Cert.AdamSquare.Gen.facts,
    Cert.AdamSquareIdeal.Gen.facts,
    Cert.AdamSquareRefIdeal.Gen.facts,
    Cert.AdamKv.Gen.facts,
    Cert.AdamKvIdeal.Gen.facts,
    Cert.AdamKvRefIdeal.Gen.facts,
    Cert.AdamInB.Gen.facts,
    Cert.AdamInBIdeal.Gen.facts,
    Cert.AdamInBRefIdeal.Gen.facts,
    Cert.AdamOutB.Gen.facts,
    Cert.AdamOutBIdeal.Gen.facts,
    Cert.AdamOutBRefIdeal.Gen.facts,
    Cert.AdamProj.Gen.facts,
    Cert.AdamProjIdeal.Gen.facts,
    Cert.AdamProjRefIdeal.Gen.facts,
    Cert.AdamSmall.Gen.facts,
    Cert.AdamSmallIdeal.Gen.facts,
    Cert.AdamSmallRefIdeal.Gen.facts,
    Cert.Loss.Gen.facts,
    Cert.LossIdeal.Gen.facts,
    Cert.LossRefIdeal.Gen.facts,
    Cert.Norm0Bwd.Gen.facts,
    Cert.Norm0BwdIdeal.Gen.facts,
    Cert.Norm0BwdRefIdeal.Gen.facts,
    Cert.PleNormBwd.Gen.facts,
    Cert.PleNormBwdIdeal.Gen.facts,
    Cert.PleNormBwdRefIdeal.Gen.facts,
    Cert.Norm1Bwd.Gen.facts,
    Cert.Norm1BwdIdeal.Gen.facts,
    Cert.Norm1BwdRefIdeal.Gen.facts,
    Cert.Norm0.Gen.facts,
    Cert.Norm0Ideal.Gen.facts,
    Cert.Norm0RefIdeal.Gen.facts,
    Cert.PleNorm.Gen.facts,
    Cert.PleNormIdeal.Gen.facts,
    Cert.PleNormRefIdeal.Gen.facts,
    Cert.DUFirst.Gen.facts,
    Cert.DUFirstIdeal.Gen.facts,
    Cert.DUFirstRefIdeal.Gen.facts,
    Cert.Pre_ln_gate_finite.Gen.facts,
  by exact ⟨fun m ρ _ => Cert.LnGate.Gen.frame m ρ,
    fun m ρ _ => Cert.LnGateIdeal.Gen.frame m ρ,
    fun m ρ _ => Cert.LnGateIdeal.Gen.frame m ρ,
    Cert.LnGate.frame_reference,
    Cert.LnGate.frame_reference_pre,
    fun m ρ _ => Cert.DInA.Gen.frame m ρ,
    fun m ρ _ => Cert.DInAIdeal.Gen.frame m ρ,
    Cert.DInA.frame_reference,
    fun m ρ _ => Cert.DInB.Gen.frame m ρ,
    fun m ρ _ => Cert.DInBIdeal.Gen.frame m ρ,
    Cert.DInB.frame_reference,
    fun m ρ _ => Cert.DKv.Gen.frame m ρ,
    fun m ρ _ => Cert.DKvIdeal.Gen.frame m ρ,
    Cert.DKv.frame_reference,
    fun m ρ _ => Cert.DProj.Gen.frame m ρ,
    fun m ρ _ => Cert.DProjIdeal.Gen.frame m ρ,
    Cert.DProj.frame_reference,
    fun m ρ _ => Cert.DOutA.Gen.frame m ρ,
    fun m ρ _ => Cert.DOutAIdeal.Gen.frame m ρ,
    Cert.DOutA.frame_reference,
    fun m ρ _ => Cert.DSquare.Gen.frame m ρ,
    fun m ρ _ => Cert.DSquareIdeal.Gen.frame m ρ,
    Cert.DSquare.frame_reference,
    fun m ρ _ => Cert.DU.Gen.frame m ρ,
    fun m ρ _ => Cert.DUIdeal.Gen.frame m ρ,
    Cert.DU.frame_reference,
    fun m ρ _ => Cert.DKvn.Gen.frame m ρ,
    fun m ρ _ => Cert.DKvnIdeal.Gen.frame m ρ,
    Cert.DKvn.frame_reference,
    fun m ρ _ => Cert.DM.Gen.frame m ρ,
    fun m ρ _ => Cert.DMIdeal.Gen.frame m ρ,
    Cert.DM.frame_reference,
    fun m ρ _ => Cert.DRows.Gen.frame m ρ,
    fun m ρ _ => Cert.DRowsIdeal.Gen.frame m ρ,
    Cert.DRows.frame_reference,
    fun m ρ _ => Cert.InA.Gen.frame m ρ,
    fun m ρ _ => Cert.InAIdeal.Gen.frame m ρ,
    Cert.InA.frame_reference,
    fun m ρ _ => Cert.InB.Gen.frame m ρ,
    fun m ρ _ => Cert.InBIdeal.Gen.frame m ρ,
    Cert.InB.frame_reference,
    fun m ρ _ => Cert.Kv.Gen.frame m ρ,
    fun m ρ _ => Cert.KvIdeal.Gen.frame m ρ,
    Cert.Kv.frame_reference,
    fun m ρ _ => Cert.Gate.Gen.frame m ρ,
    fun m ρ _ => Cert.GateIdeal.Gen.frame m ρ,
    Cert.Gate.frame_reference,
    fun m ρ _ => Cert.Proj.Gen.frame m ρ,
    fun m ρ _ => Cert.ProjIdeal.Gen.frame m ρ,
    Cert.Proj.frame_reference,
    fun m ρ _ => Cert.OutA.Gen.frame m ρ,
    fun m ρ _ => Cert.OutAIdeal.Gen.frame m ρ,
    Cert.OutA.frame_reference,
    fun m ρ _ => Cert.OutB.Gen.frame m ρ,
    fun m ρ _ => Cert.OutBIdeal.Gen.frame m ρ,
    Cert.OutB.frame_reference,
    fun m ρ _ => Cert.AdamInA.Gen.frame m ρ,
    fun m ρ _ => Cert.AdamInAIdeal.Gen.frame m ρ,
    Cert.AdamInA.frame_reference,
    fun m ρ _ => Cert.AdamSquare.Gen.frame m ρ,
    fun m ρ _ => Cert.AdamSquareIdeal.Gen.frame m ρ,
    Cert.AdamSquare.frame_reference,
    fun m ρ _ => Cert.AdamKv.Gen.frame m ρ,
    fun m ρ _ => Cert.AdamKvIdeal.Gen.frame m ρ,
    Cert.AdamKv.frame_reference,
    fun m ρ _ => Cert.AdamInB.Gen.frame m ρ,
    fun m ρ _ => Cert.AdamInBIdeal.Gen.frame m ρ,
    Cert.AdamInB.frame_reference,
    fun m ρ _ => Cert.AdamOutB.Gen.frame m ρ,
    fun m ρ _ => Cert.AdamOutBIdeal.Gen.frame m ρ,
    Cert.AdamOutB.frame_reference,
    fun m ρ _ => Cert.AdamProj.Gen.frame m ρ,
    fun m ρ _ => Cert.AdamProjIdeal.Gen.frame m ρ,
    Cert.AdamProj.frame_reference,
    fun m ρ _ => Cert.AdamSmall.Gen.frame m ρ,
    fun m ρ _ => Cert.AdamSmallIdeal.Gen.frame m ρ,
    Cert.AdamSmall.frame_reference,
    fun m ρ _ => Cert.Loss.Gen.frame m ρ,
    fun m ρ _ => Cert.LossIdeal.Gen.frame m ρ,
    Cert.Loss.frame_reference,
    fun m ρ _ => Cert.Norm0Bwd.Gen.frame m ρ,
    fun m ρ _ => Cert.Norm0BwdIdeal.Gen.frame m ρ,
    Cert.Norm0Bwd.frame_reference,
    fun m ρ _ => Cert.PleNormBwd.Gen.frame m ρ,
    fun m ρ _ => Cert.PleNormBwdIdeal.Gen.frame m ρ,
    Cert.PleNormBwd.frame_reference,
    fun m ρ _ => Cert.Norm1Bwd.Gen.frame m ρ,
    fun m ρ _ => Cert.Norm1BwdIdeal.Gen.frame m ρ,
    Cert.Norm1Bwd.frame_reference,
    fun m ρ _ => Cert.Norm0.Gen.frame m ρ,
    fun m ρ _ => Cert.Norm0Ideal.Gen.frame m ρ,
    Cert.Norm0.frame_reference,
    fun m ρ _ => Cert.PleNorm.Gen.frame m ρ,
    fun m ρ _ => Cert.PleNormIdeal.Gen.frame m ρ,
    Cert.PleNorm.frame_reference,
    fun m ρ _ => Cert.DUFirst.Gen.frame m ρ,
    fun m ρ _ => Cert.DUFirstIdeal.Gen.frame m ρ,
    Cert.DUFirst.frame_reference,
    trivial,
    Cert.LnGate.equal,
    trivial,
    Cert.DInA.equal,
    trivial,
    Cert.DInB.equal,
    trivial,
    Cert.DKv.equal,
    trivial,
    Cert.DProj.equal,
    trivial,
    Cert.DOutA.equal,
    trivial,
    Cert.DSquare.equal,
    trivial,
    Cert.DU.equal,
    trivial,
    Cert.DKvn.equal,
    trivial,
    Cert.DM.equal,
    trivial,
    Cert.DRows.equal,
    trivial,
    Cert.InA.equal,
    trivial,
    Cert.InB.equal,
    trivial,
    Cert.Kv.equal,
    trivial,
    Cert.Gate.equal,
    trivial,
    Cert.Proj.equal,
    trivial,
    Cert.OutA.equal,
    trivial,
    Cert.OutB.equal,
    trivial,
    Cert.AdamInA.equal,
    trivial,
    Cert.AdamSquare.equal,
    trivial,
    Cert.AdamKv.equal,
    trivial,
    Cert.AdamInB.equal,
    trivial,
    Cert.AdamOutB.equal,
    trivial,
    Cert.AdamProj.equal,
    trivial,
    Cert.AdamSmall.equal,
    trivial,
    Cert.Loss.equal,
    trivial,
    Cert.Norm0Bwd.equal,
    trivial,
    Cert.PleNormBwd.equal,
    trivial,
    Cert.Norm1Bwd.equal,
    trivial,
    Cert.Norm0.equal,
    trivial,
    Cert.PleNorm.equal,
    trivial,
    Cert.DUFirst.equal⟩⟩

end Cert.Proof

end
